-- ==== Defs.lean ====
def Pre_KernelIdeal (m : (ℓ : Loc Cert.KernelIdeal.nD Cert.KernelIdeal.τ Cert.KernelIdeal.sig) → Buf (Elt Ideal) ℓ) : Prop :=
  True

def Pre_KernelIdeal_points_finite [hPre_points_finite : Cert.Pre_points_finite.Facts] (m : (ℓ : Loc Cert.KernelIdeal.nD Cert.KernelIdeal.τ Cert.KernelIdeal.sig) → Buf (Elt Ideal) ℓ) : Prop :=
  ∀ c : Dev Cert.KernelIdeal.nD,
    (Cert.Pre_points_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_points_finite [hPre_points_finite : Cert.Pre_points_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_points_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Decode [hPre_winners_in_range : Cert.Pre_winners_in_range.Facts] (m : (ℓ : Loc Cert.Decode.nD Cert.Decode.τ Cert.Decode.sig) → Buf (Elt Bits) ℓ) : Prop :=
  ∀ c : Dev Cert.Decode.nD,
    (Cert.Pre_winners_in_range.fn (F := Bits) (m ((c.tc : Thread Cert.Decode.nD Cert.Decode.τ).loc Cert.Decode.main_arg0)) (m ((c.tc : Thread Cert.Decode.nD Cert.Decode.τ).loc Cert.Decode.main_arg1))) = (fun _ => 1#1)

def Pre_DecodeIdeal [hPre_winners_in_range : Cert.Pre_winners_in_range.Facts] (m : (ℓ : Loc Cert.DecodeIdeal.nD Cert.DecodeIdeal.τ Cert.DecodeIdeal.sig) → Buf (Elt Ideal) ℓ) : Prop :=
  ∀ c : Dev Cert.DecodeIdeal.nD,
    (Cert.Pre_winners_in_range.fn (F := Ideal) (m ((c.tc : Thread Cert.DecodeIdeal.nD Cert.DecodeIdeal.τ).loc Cert.DecodeIdeal.main_arg0)) (m ((c.tc : Thread Cert.DecodeIdeal.nD Cert.DecodeIdeal.τ).loc Cert.DecodeIdeal.main_arg1))) = (fun _ => 1#1)

def Pre_OneHotIdeal (m : (ℓ : Loc Cert.OneHotIdeal.nD Cert.OneHotIdeal.τ Cert.OneHotIdeal.sig) → Buf (Elt Ideal) ℓ) : Prop :=
  True

def Pre_OneHotIdeal_winners_in_range [hPre_winners_in_range : Cert.Pre_winners_in_range.Facts] (m : (ℓ : Loc Cert.OneHotIdeal.nD Cert.OneHotIdeal.τ Cert.OneHotIdeal.sig) → Buf (Elt Ideal) ℓ) : Prop :=
  ∀ c : Dev Cert.OneHotIdeal.nD,
    (Cert.Pre_winners_in_range.fn (F := Ideal) (m ((c.tc : Thread Cert.OneHotIdeal.nD Cert.OneHotIdeal.τ).loc Cert.OneHotIdeal.main_arg0)) (m ((c.tc : Thread Cert.OneHotIdeal.nD Cert.OneHotIdeal.τ).loc Cert.OneHotIdeal.main_arg1))) = (fun _ => 1#1)

def Pre_Rows [hPre_winners_in_range : Cert.Pre_winners_in_range.Facts] (m : (ℓ : Loc Cert.Rows.nD Cert.Rows.τ Cert.Rows.sig) → Buf (Elt Bits) ℓ) : Prop :=
  ∀ c : Dev Cert.Rows.nD,
    (Cert.Pre_winners_in_range.fn (F := Bits) (m ((c.tc : Thread Cert.Rows.nD Cert.Rows.τ).loc Cert.Rows.main_arg0)) (m ((c.tc : Thread Cert.Rows.nD Cert.Rows.τ).loc Cert.Rows.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_points_finite [hKernelIdeal : Cert.KernelIdeal.Facts] [hPre_points_finite : Cert.Pre_points_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_points_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_points_finite [hReferenceIdeal : Cert.ReferenceIdeal.Facts] [hPre_points_finite : Cert.Pre_points_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_points_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Decode [hDecode : Cert.Decode.Facts] [hPre_winners_in_range : Cert.Pre_winners_in_range.Facts] : Prop :=
  ∀ (m : (ℓ : Loc Cert.Decode.nD Cert.Decode.τ Cert.Decode.sig) → Buf (Elt Bits) ℓ) (g : Dev Cert.Decode.nD → PrngReg), Pre_Decode m →
    θ_run (Cert.Decode.defs (F := Bits)) (Cert.Decode.threads (F := Bits)) ⟨m, fun _ => 0, g⟩ (fun r => (∀ c : Dev Cert.Decode.nD,
      r.2.mem ((c.tc : Thread Cert.Decode.nD Cert.Decode.τ).loc Cert.Decode.main_arg0) = m ((c.tc : Thread Cert.Decode.nD Cert.Decode.τ).loc Cert.Decode.main_arg0)
      ∧ r.2.mem ((c.tc : Thread Cert.Decode.nD Cert.Decode.τ).loc Cert.Decode.main_arg1) = m ((c.tc : Thread Cert.Decode.nD Cert.Decode.τ).loc Cert.Decode.main_arg1))
      ∧ r.2.sem = fun _ => 0)

def quiescent_DecodeIdeal [hDecodeIdeal : Cert.DecodeIdeal.Facts] [hPre_winners_in_range : Cert.Pre_winners_in_range.Facts] : Prop :=
  ∀ (m : (ℓ : Loc Cert.DecodeIdeal.nD Cert.DecodeIdeal.τ Cert.DecodeIdeal.sig) → Buf (Elt Ideal) ℓ) (g : Dev Cert.DecodeIdeal.nD → PrngReg), Pre_DecodeIdeal m →
    θ_run (Cert.DecodeIdeal.defs (F := Ideal)) (Cert.DecodeIdeal.threads (F := Ideal)) ⟨m, fun _ => 0, g⟩ (fun r => (∀ c : Dev Cert.DecodeIdeal.nD,
      r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
      ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ r.2.sem = fun _ => 0)

def quiescent_OneHotIdeal [hOneHotIdeal : Cert.OneHotIdeal.Facts] : Prop :=
  ∀ (m : (ℓ : Loc Cert.OneHotIdeal.nD Cert.OneHotIdeal.τ Cert.OneHotIdeal.sig) → Buf (Elt Ideal) ℓ) (g : Dev Cert.OneHotIdeal.nD → PrngReg), Pre_OneHotIdeal m →
    θ_run (Cert.OneHotIdeal.defs (F := Ideal)) (onTc (τ := Cert.OneHotIdeal.τ) (Cert.OneHotIdeal.main (F := Ideal))) ⟨m, fun _ => 0, g⟩ (fun r => (∀ c : Dev Cert.OneHotIdeal.nD,
      r.2.mem ((c.tc : Thread Cert.OneHotIdeal.nD Cert.OneHotIdeal.τ).loc Cert.OneHotIdeal.main_arg0) = m ((c.tc : Thread Cert.OneHotIdeal.nD Cert.OneHotIdeal.τ).loc Cert.OneHotIdeal.main_arg0)
      ∧ r.2.mem ((c.tc : Thread Cert.OneHotIdeal.nD Cert.OneHotIdeal.τ).loc Cert.OneHotIdeal.main_arg1) = m ((c.tc : Thread Cert.OneHotIdeal.nD Cert.OneHotIdeal.τ).loc Cert.OneHotIdeal.main_arg1))
      ∧ r.2.sem = fun _ => 0)

def quiescent_OneHotIdeal_pre_winners_in_range [hOneHotIdeal : Cert.OneHotIdeal.Facts] [hPre_winners_in_range : Cert.Pre_winners_in_range.Facts] : Prop :=
  ∀ (m : (ℓ : Loc Cert.OneHotIdeal.nD Cert.OneHotIdeal.τ Cert.OneHotIdeal.sig) → Buf (Elt Ideal) ℓ) (g : Dev Cert.OneHotIdeal.nD → PrngReg), Pre_OneHotIdeal_winners_in_range m →
    θ_run (Cert.OneHotIdeal.defs (F := Ideal)) (onTc (τ := Cert.OneHotIdeal.τ) (Cert.OneHotIdeal.main (F := Ideal))) ⟨m, fun _ => 0, g⟩ (fun r => (∀ c : Dev Cert.OneHotIdeal.nD,
      r.2.mem ((c.tc : Thread Cert.OneHotIdeal.nD Cert.OneHotIdeal.τ).loc Cert.OneHotIdeal.main_arg0) = m ((c.tc : Thread Cert.OneHotIdeal.nD Cert.OneHotIdeal.τ).loc Cert.OneHotIdeal.main_arg0)
      ∧ r.2.mem ((c.tc : Thread Cert.OneHotIdeal.nD Cert.OneHotIdeal.τ).loc Cert.OneHotIdeal.main_arg1) = m ((c.tc : Thread Cert.OneHotIdeal.nD Cert.OneHotIdeal.τ).loc Cert.OneHotIdeal.main_arg1))
      ∧ r.2.sem = fun _ => 0)

def quiescent_Rows [hRows : Cert.Rows.Facts] [hPre_winners_in_range : Cert.Pre_winners_in_range.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def algebraic_KernelIdeal_ReferenceIdeal_pre_points_finite [hKernelIdeal : Cert.KernelIdeal.Facts] [hReferenceIdeal : Cert.ReferenceIdeal.Facts] [hPre_points_finite : Cert.Pre_points_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_points_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Decode_DecodeIdeal : Prop :=
  True

def algebraic_DecodeIdeal_OneHotIdeal [hDecodeIdeal : Cert.DecodeIdeal.Facts] [hOneHotIdeal : Cert.OneHotIdeal.Facts] [hPre_winners_in_range : Cert.Pre_winners_in_range.Facts] : Prop :=
  ∀ (m : (ℓ : Loc Cert.DecodeIdeal.nD Cert.DecodeIdeal.τ Cert.DecodeIdeal.sig) → Buf (Elt Ideal) ℓ) (g : Dev Cert.DecodeIdeal.nD → PrngReg)
    (m' : (ℓ : Loc Cert.OneHotIdeal.nD Cert.OneHotIdeal.τ Cert.OneHotIdeal.sig) → Buf (Elt Ideal) ℓ) (g' : Dev Cert.OneHotIdeal.nD → PrngReg), Pre_DecodeIdeal m →
    (∀ c : Dev Cert.DecodeIdeal.nD,
      m' ((c.tc : Thread Cert.OneHotIdeal.nD Cert.OneHotIdeal.τ).loc Cert.OneHotIdeal.main_arg0) = m ((c.tc : Thread Cert.DecodeIdeal.nD Cert.DecodeIdeal.τ).loc Cert.DecodeIdeal.main_arg0)
      ∧ m' ((c.tc : Thread Cert.OneHotIdeal.nD Cert.OneHotIdeal.τ).loc Cert.OneHotIdeal.main_arg1) = m ((c.tc : Thread Cert.DecodeIdeal.nD Cert.DecodeIdeal.τ).loc Cert.DecodeIdeal.main_arg1)) →
    ∃ (v0 : (c : Dev Cert.DecodeIdeal.nD) → Buf (Elt Ideal) ((c.tc : Thread Cert.DecodeIdeal.nD Cert.DecodeIdeal.τ).loc Cert.DecodeIdeal.main_v4)),
      θ_run (Cert.DecodeIdeal.defs (F := Ideal)) (Cert.DecodeIdeal.threads (F := Ideal)) ⟨m, fun _ => 0, g⟩ (fun r => ∀ c : Dev Cert.DecodeIdeal.nD,
          r.2.mem ((c.tc : Thread Cert.DecodeIdeal.nD Cert.DecodeIdeal.τ).loc Cert.DecodeIdeal.main_v4) = v0 c
          ∧ r.2.mem ((c.tc : Thread Cert.DecodeIdeal.nD Cert.DecodeIdeal.τ).loc Cert.DecodeIdeal.main_arg0) = m ((c.tc : Thread Cert.DecodeIdeal.nD Cert.DecodeIdeal.τ).loc Cert.DecodeIdeal.main_arg0)
          ∧ r.2.mem ((c.tc : Thread Cert.DecodeIdeal.nD Cert.DecodeIdeal.τ).loc Cert.DecodeIdeal.main_arg1) = m ((c.tc : Thread Cert.DecodeIdeal.nD Cert.DecodeIdeal.τ).loc Cert.DecodeIdeal.main_arg1))
      ∧ θ_run (Cert.OneHotIdeal.defs (F := Ideal)) (onTc (τ := Cert.OneHotIdeal.τ) (Cert.OneHotIdeal.main (F := Ideal))) ⟨m', fun _ => 0, g'⟩ (fun r => ∀ c : Dev Cert.OneHotIdeal.nD,
          r.2.mem ((c.tc : Thread Cert.OneHotIdeal.nD Cert.OneHotIdeal.τ).loc Cert.OneHotIdeal.main_v18) = v0 c
          ∧ r.2.mem ((c.tc : Thread Cert.OneHotIdeal.nD Cert.OneHotIdeal.τ).loc Cert.OneHotIdeal.main_arg0) = m' ((c.tc : Thread Cert.OneHotIdeal.nD Cert.OneHotIdeal.τ).loc Cert.OneHotIdeal.main_arg0)
          ∧ r.2.mem ((c.tc : Thread Cert.OneHotIdeal.nD Cert.OneHotIdeal.τ).loc Cert.OneHotIdeal.main_arg1) = m' ((c.tc : Thread Cert.OneHotIdeal.nD Cert.OneHotIdeal.τ).loc Cert.OneHotIdeal.main_arg1))

def bitexact_Decode_Rows [hDecode : Cert.Decode.Facts] [hRows : Cert.Rows.Facts] [hPre_winners_in_range : Cert.Pre_winners_in_range.Facts] : Prop :=
  ∀ (m : (ℓ : Loc Cert.Decode.nD Cert.Decode.τ Cert.Decode.sig) → Buf (Elt Bits) ℓ) (g : Dev Cert.Decode.nD → PrngReg)
    (m' : (ℓ : Loc Cert.Rows.nD Cert.Rows.τ Cert.Rows.sig) → Buf (Elt Bits) ℓ) (g' : Dev Cert.Rows.nD → PrngReg), Pre_Decode m →
    (∀ c : Dev Cert.Decode.nD,
      m' ((c.tc : Thread Cert.Rows.nD Cert.Rows.τ).loc Cert.Rows.main_arg0) = m ((c.tc : Thread Cert.Decode.nD Cert.Decode.τ).loc Cert.Decode.main_arg0)
      ∧ m' ((c.tc : Thread Cert.Rows.nD Cert.Rows.τ).loc Cert.Rows.main_arg1) = m ((c.tc : Thread Cert.Decode.nD Cert.Decode.τ).loc Cert.Decode.main_arg1)) →
    ∃ (v0 : (c : Dev Cert.Decode.nD) → Buf (Elt Bits) ((c.tc : Thread Cert.Decode.nD Cert.Decode.τ).loc Cert.Decode.main_v4)),
      θ_run (Cert.Decode.defs (F := Bits)) (Cert.Decode.threads (F := Bits)) ⟨m, fun _ => 0, g⟩ (fun r => ∀ c : Dev Cert.Decode.nD,
          r.2.mem ((c.tc : Thread Cert.Decode.nD Cert.Decode.τ).loc Cert.Decode.main_v4) = v0 c
          ∧ r.2.mem ((c.tc : Thread Cert.Decode.nD Cert.Decode.τ).loc Cert.Decode.main_arg0) = m ((c.tc : Thread Cert.Decode.nD Cert.Decode.τ).loc Cert.Decode.main_arg0)
          ∧ r.2.mem ((c.tc : Thread Cert.Decode.nD Cert.Decode.τ).loc Cert.Decode.main_arg1) = m ((c.tc : Thread Cert.Decode.nD Cert.Decode.τ).loc Cert.Decode.main_arg1))
      ∧ θ_run (Cert.Rows.defs (F := Bits)) (onTc (τ := Cert.Rows.τ) (Cert.Rows.main (F := Bits))) ⟨m', fun _ => 0, g'⟩ (fun r => ∀ c : Dev Cert.Rows.nD,
          r.2.mem ((c.tc : Thread Cert.Rows.nD Cert.Rows.τ).loc Cert.Rows.main_v1) = v0 c
          ∧ r.2.mem ((c.tc : Thread Cert.Rows.nD Cert.Rows.τ).loc Cert.Rows.main_arg0) = m' ((c.tc : Thread Cert.Rows.nD Cert.Rows.τ).loc Cert.Rows.main_arg0)
          ∧ r.2.mem ((c.tc : Thread Cert.Rows.nD Cert.Rows.τ).loc Cert.Rows.main_arg1) = m' ((c.tc : Thread Cert.Rows.nD Cert.Rows.τ).loc Cert.Rows.main_arg1))

def Claim : Prop :=
  ∃ (hKernelIdeal : Cert.KernelIdeal.Facts) (hReferenceIdeal : Cert.ReferenceIdeal.Facts) (hDecode : Cert.Decode.Facts) (hDecodeIdeal : Cert.DecodeIdeal.Facts) (hOneHotIdeal : Cert.OneHotIdeal.Facts) (hRows : Cert.Rows.Facts) (hPre_points_finite : Cert.Pre_points_finite.Facts) (hPre_winners_in_range : Cert.Pre_winners_in_range.Facts),
    quiescent_KernelIdeal (hKernelIdeal := hKernelIdeal)
    ∧ quiescent_KernelIdeal_pre_points_finite (hKernelIdeal := hKernelIdeal) (hPre_points_finite := hPre_points_finite)
    ∧ quiescent_ReferenceIdeal (hReferenceIdeal := hReferenceIdeal)
    ∧ quiescent_ReferenceIdeal_pre_points_finite (hReferenceIdeal := hReferenceIdeal) (hPre_points_finite := hPre_points_finite)
    ∧ quiescent_Decode (hDecode := hDecode) (hPre_winners_in_range := hPre_winners_in_range)
    ∧ quiescent_DecodeIdeal (hDecodeIdeal := hDecodeIdeal) (hPre_winners_in_range := hPre_winners_in_range)
    ∧ quiescent_OneHotIdeal (hOneHotIdeal := hOneHotIdeal)
    ∧ quiescent_OneHotIdeal_pre_winners_in_range (hOneHotIdeal := hOneHotIdeal) (hPre_winners_in_range := hPre_winners_in_range)
    ∧ quiescent_Rows (hRows := hRows) (hPre_winners_in_range := hPre_winners_in_range)
    ∧ algebraic_KernelIdeal_ReferenceIdeal_pre_points_finite (hKernelIdeal := hKernelIdeal) (hReferenceIdeal := hReferenceIdeal) (hPre_points_finite := hPre_points_finite)
    ∧ preserves_Decode_DecodeIdeal
    ∧ algebraic_DecodeIdeal_OneHotIdeal (hDecodeIdeal := hDecodeIdeal) (hOneHotIdeal := hOneHotIdeal) (hPre_winners_in_range := hPre_winners_in_range)
    ∧ bitexact_Decode_Rows (hDecode := hDecode) (hRows := hRows) (hPre_winners_in_range := hPre_winners_in_range)
-- ==== Pre_points_finite.lean ====
abbrev S16384x32 : Shape := ⟨2, ![16384, 32]⟩
abbrev S8192x32 : Shape := ⟨2, ![8192, 32]⟩
abbrev S10x8192 : Shape := ⟨2, ![10, 8192]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_

variable [Facts]

def fn {F : FTy → Type} [FloatOps F] (main_arg0 : FVec F S16384x32 .f32) (main_arg1 : FVec F S8192x32 .f32) (main_arg2 : FVec F S10x8192 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  main_v8
-- ==== Pre_winners_in_range.lean ====
abbrev S16384 : Shape := ⟨1, ![16384]⟩
abbrev S10x8192 : Shape := ⟨2, ![10, 8192]⟩
abbrev S_ : Shape := ⟨0, ![]⟩

class Facts : Prop where
  bcast_S_S16384 : S_.BroadcastsInDim S16384 (![] : Fin 0 → Fin S16384.rank)

variable [Facts]

def fn {F : FTy → Type} [FloatOps F] (main_arg0 : IVec S16384 32) (main_arg1 : FVec F S10x8192 .f32) : IVec S16384 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 8192#32
  let main_v2 : IVec S16384 32 := broadcastInDim S16384 ![] bcast_S_S16384 main_c_0
  let main_v3 : IVec S16384 1 := cmpi .slt main_arg0 main_v2
  let main_v4 : IVec S16384 1 := andi main_v1 main_v3
  main_v4
-- ==== KernelIdeal.lean ====
abbrev S16384x32 : Shape := ⟨2, ![16384, 32]⟩
abbrev S8192x32 : Shape := ⟨2, ![8192, 32]⟩
abbrev S10x8192 : Shape := ⟨2, ![10, 8192]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S32x8192 : Shape := ⟨2, ![32, 8192]⟩
abbrev S256x32 : Shape := ⟨2, ![256, 32]⟩
abbrev S256x1 : Shape := ⟨2, ![256, 1]⟩
abbrev S256 : Shape := ⟨1, ![256]⟩
abbrev S256x8192 : Shape := ⟨2, ![256, 8192]⟩
abbrev S256x4096 : Shape := ⟨2, ![256, 4096]⟩
abbrev S8192x10 : Shape := ⟨2, ![8192, 10]⟩
abbrev S8192x128 : Shape := ⟨2, ![8192, 128]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S16384x10 : Shape := ⟨2, ![16384, 10]⟩

abbrev nBuf : Table → Nat
  | .hbm => 20
  | .local .tc .vmem => 8
  | .local .scVector .vmem => 2
  | _ => 0

abbrev bufTy : (tb : Table) → Fin (nBuf tb) → BufTy
  | .hbm, ⟨0, _⟩ => ⟨S16384x32, .f32⟩
  | .hbm, ⟨1, _⟩ => ⟨S8192x32, .f32⟩
  | .hbm, ⟨2, _⟩ => ⟨S10x8192, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S32x8192, .f32⟩
  | .hbm, ⟨12, _⟩ => ⟨S16384, .i32⟩
  | .hbm, ⟨13, _⟩ => ⟨S8192x10, .f32⟩
  | .hbm, ⟨14, _⟩ => ⟨S_, .i32⟩
  | .hbm, ⟨15, _⟩ => ⟨S_, .f32⟩
  | .hbm, ⟨16, _⟩ => ⟨S8192x128, .f32⟩
  | .hbm, ⟨17, _⟩ => ⟨S1x16384, .i32⟩
  | .hbm, ⟨18, _⟩ => ⟨S16384x128, .f32⟩
  | .hbm, ⟨19, _⟩ => ⟨S16384x10, .f32⟩
  | .local .tc .vmem, ⟨0, _⟩ => ⟨S256x32, .f32⟩
  | .local .tc .vmem, ⟨1, _⟩ => ⟨S256x32, .f32⟩
  | .local .tc .vmem, ⟨2, _⟩ => ⟨S32x8192, .f32⟩
  | .local .tc .vmem, ⟨3, _⟩ => ⟨S256x1, .f32⟩
  | .local .tc .vmem, ⟨4, _⟩ => ⟨S256x1, .f32⟩
  | .local .tc .vmem, ⟨5, _⟩ => ⟨S1x8192, .f32⟩
  | .local .tc .vmem, ⟨6, _⟩ => ⟨S256, .i32⟩
  | .local .tc .vmem, ⟨7, _⟩ => ⟨S256, .i32⟩
  | .local .scVector .vmem, ⟨0, _⟩ => ⟨S2x1x128, .i32⟩
  | .local .scVector .vmem, ⟨1, _⟩ => ⟨S2x128x128, .f32⟩
  | _, _ => ⟨S16384x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v9_scv : Ref sig .scVector := ⟨.hbm, 16, rfl⟩
abbrev main_v10_scv : Ref sig .scVector := ⟨.hbm, 17, rfl⟩
abbrev main_v11_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x16384.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x16384.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S16384x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S16384x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x16384.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x16384.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S16384x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S16384x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S16384x128.size a)
theorem k1_off19_inb : ∀ (i : grid1.Coords) (v33_4_r0 : BitVec 32) (k1_hw5 : k1_chk5 i v33_4_r0), ∀ a, (k1_off19 i v33_4_r0) a + S128x128.size a ≤ S16384x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x32 : Shape := ⟨2, ![16384, 32]⟩
abbrev S8192x32 : Shape := ⟨2, ![8192, 32]⟩
abbrev S10x8192 : Shape := ⟨2, ![10, 8192]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S32x8192 : Shape := ⟨2, ![32, 8192]⟩
abbrev S16384x2 : Shape := ⟨2, ![16384, 2]⟩
abbrev S8192x10 : Shape := ⟨2, ![8192, 10]⟩
abbrev S16384x10 : Shape := ⟨2, ![16384, 10]⟩

abbrev nBuf : Space → Nat
  | .hbm => 55
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S8192x32, .f32⟩
  | .hbm, ⟨2, _⟩ => ⟨S10x8192, .f32⟩
  | .hbm, ⟨3, _⟩ => ⟨S16384x32, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S8192x32, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S16384x8192, .f32⟩
  | .hbm, ⟨12, _⟩ => ⟨S16384x8192, .f32⟩
  | .hbm, ⟨13, _⟩ => ⟨S16384x8192, .f32⟩
  | .hbm, ⟨14, _⟩ => ⟨S32x8192, .f32⟩
  | .hbm, ⟨15, _⟩ => ⟨S16384x8192, .f32⟩
  | .hbm, ⟨16, _⟩ => ⟨S_, .f32⟩
  | .hbm, ⟨17, _⟩ => ⟨S16384x8192, .f32⟩
  | .hbm, ⟨18, _⟩ => ⟨S16384x8192, .f32⟩
  | .hbm, ⟨19, _⟩ => ⟨S16384x8192, .f32⟩
  | .hbm, ⟨20, _⟩ => ⟨S_, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x8192, .i32⟩
  | .hbm, ⟨26, _⟩ => ⟨S_, .f32⟩
  | .hbm, ⟨27, _⟩ => ⟨S_, .i32⟩
  | .hbm, ⟨28, _⟩ => ⟨S16384, .f32⟩
  | .hbm, ⟨29, _⟩ => ⟨S16384, .i32⟩
  | .hbm, ⟨30, _⟩ => ⟨S_, .f32⟩
  | .hbm, ⟨31, _⟩ => ⟨S16384x8192, .f32⟩
  | .hbm, ⟨32, _⟩ => ⟨S16384, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S_, .i32⟩
  | .hbm, ⟨41, _⟩ => ⟨S16384, .i32⟩
  | .hbm, ⟨42, _⟩ => ⟨S16384, .i1⟩
  | .hbm, ⟨43, _⟩ => ⟨S_, .i32⟩
  | .hbm, ⟨44, _⟩ => ⟨S16384, .i32⟩
  | .hbm, ⟨45, _⟩ => ⟨S16384, .i32⟩
  | .hbm, ⟨46, _⟩ => ⟨S16384, .i32⟩
  | .hbm, ⟨47, _⟩ => ⟨S16384x1, .i32⟩
  | .hbm, ⟨48, _⟩ => ⟨S16384x1, .i32⟩
  | .hbm, ⟨49, _⟩ => ⟨S16384x2, .i32⟩
  | .hbm, ⟨50, _⟩ => ⟨S_, .f32⟩
  | .hbm, ⟨51, _⟩ => ⟨S16384, .f32⟩
  | .hbm, ⟨52, _⟩ => ⟨S16384x8192, .f32⟩
  | .hbm, ⟨53, _⟩ => ⟨S8192x10, .f32⟩
  | .hbm, ⟨54, _⟩ => ⟨S16384x10, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_v15 : Ref sig .tc := ⟨.hbm, 24, rfl⟩
abbrev main_call1_v0 : Ref sig .tc := ⟨.hbm, 25, rfl⟩
abbrev main_call1_cst : Ref sig .tc := ⟨.hbm, 26, rfl⟩
abbrev main_call1_c : Ref sig .tc := ⟨.hbm, 27, rfl⟩
abbrev main_call1_v1_0 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]
-- ==== Decode.lean ====
abbrev S16384 : Shape := ⟨1, ![16384]⟩
abbrev S10x8192 : Shape := ⟨2, ![10, 8192]⟩
abbrev S8192x10 : Shape := ⟨2, ![8192, 10]⟩
abbrev S_ : Shape := ⟨0, ![]⟩
abbrev S8192x128 : Shape := ⟨2, ![8192, 128]⟩
abbrev S1x16384 : Shape := ⟨2, ![1, 16384]⟩
abbrev S16384x128 : Shape := ⟨2, ![16384, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S16384x10 : Shape := ⟨2, ![16384, 10]⟩

abbrev nBuf : Table → Nat
  | .hbm => 9
  | .local .scVector .vmem => 2
  | _ => 0

abbrev bufTy : (tb : Table) → Fin (nBuf tb) → BufTy
  | .hbm, ⟨0, _⟩ => ⟨S16384, .i32⟩
  | .hbm, ⟨1, _⟩ => ⟨S10x8192, .f32⟩
  | .hbm, ⟨2, _⟩ => ⟨S8192x10, .f32⟩
  | .hbm, ⟨3, _⟩ => ⟨S_, .i32⟩
  | .hbm, ⟨4, _⟩ => ⟨S_, .f32⟩
  | .hbm, ⟨5, _⟩ => ⟨S8192x128, .f32⟩
  | .hbm, ⟨6, _⟩ => ⟨S1x16384, .i32⟩
  | .hbm, ⟨7, _⟩ => ⟨S16384x128, .f32⟩
  | .hbm, ⟨8, _⟩ => ⟨S16384x10, .f32⟩
  | .local .scVector .vmem, ⟨0, _⟩ => ⟨S2x1x128, .i32⟩
  | .local .scVector .vmem, ⟨1, _⟩ => ⟨S2x128x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x16384.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x16384.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S16384x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S16384x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x16384.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x16384.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S16384x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S16384x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S16384x128.size a)
theorem k0_off19_inb : ∀ (i : grid0.Coords) (v33_4_r0 : BitVec 32) (k0_hw5 : k0_chk5 i v33_4_r0), ∀ a, (k0_off19 i v33_4_r0) a + S128x128.size a ≤ S16384x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== OneHotIdeal.lean ====
abbrev S16384 : Shape := ⟨1, ![16384]⟩
abbrev S10x8192 : Shape := ⟨2, ![10, 8192]⟩
abbrev S_ : Shape := ⟨0, ![]⟩
abbrev S16384x8192 : Shape := ⟨2, ![16384, 8192]⟩
abbrev S16384x1 : Shape := ⟨2, ![16384, 1]⟩
abbrev S16384x2 : Shape := ⟨2, ![16384, 2]⟩
abbrev S8192x10 : Shape := ⟨2, ![8192, 10]⟩
abbrev S16384x10 : Shape := ⟨2, ![16384, 10]⟩

abbrev nBuf : Space → Nat
  | .hbm => 27
  | .vmem => 0
  | .smem => 0
  | _ => 0

abbrev bufTy : (tb : Table) → Fin (tcTables nBuf tb) → BufTy
  | .hbm, ⟨0, _⟩ => ⟨S16384, .i32⟩
  | .hbm, ⟨1, _⟩ => ⟨S10x8192, .f32⟩
  | .hbm, ⟨2, _⟩ => ⟨S_, .f32⟩
  | .hbm, ⟨3, _⟩ => ⟨S16384x8192, .f32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S16384x1, .i32⟩
  | .hbm, ⟨21, _⟩ => ⟨S16384x2, .i32⟩
  | .hbm, ⟨22, _⟩ => ⟨S_, .f32⟩
  | .hbm, ⟨23, _⟩ => ⟨S16384, .f32⟩
  | .hbm, ⟨24, _⟩ => ⟨S16384x8192, .f32⟩
  | .hbm, ⟨25, _⟩ => ⟨S8192x10, .f32⟩
  | .hbm, ⟨26, _⟩ => ⟨S16384x10, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Rows.lean ====
abbrev S16384 : Shape := ⟨1, ![16384]⟩
abbrev S10x8192 : Shape := ⟨2, ![10, 8192]⟩
abbrev S8192x10 : Shape := ⟨2, ![8192, 10]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x10 : Shape := ⟨2, ![16384, 10]⟩

abbrev nBuf : Space → Nat
  | .hbm => 26
  | .vmem => 0
  | .smem => 0
  | _ => 0

abbrev bufTy : (tb : Table) → Fin (tcTables nBuf tb) → BufTy
  | .hbm, ⟨0, _⟩ => ⟨S16384, .i32⟩
  | .hbm, ⟨1, _⟩ => ⟨S10x8192, .f32⟩
  | .hbm, ⟨2, _⟩ => ⟨S8192x10, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x10, .f32⟩
  | .hbm, ⟨22, _⟩ => ⟨S16384x10, .i1⟩
  | .hbm, ⟨23, _⟩ => ⟨S_, .f32⟩
  | .hbm, ⟨24, _⟩ => ⟨S16384x10, .f32⟩
  | .hbm, ⟨25, _⟩ => ⟨S16384x10, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Blocks.lean ====
/-
  The pieces of memory the gather kernel's pipeline moves, under names of their own, and the arithmetic of the pipeline.
  A task walks over four blocks: block `b` of a task is 128 winners and the 128 rows fetched for them. The winners of a
  block pass through one of two input slots, the rows through one of two output slots; block `b` uses slot `b % 2`. The
  words the loop carries count the blocks started, waited for and written; on trip `t` they are known words, so every
  offset, every condition and every side condition of the trip is arithmetic on `t` and the task's coordinates.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Ring
public import Idealize.ShloMosaic.Lib.ViewIndex
public import Idealize.ShloMosaic.Lib.ValueIdxCore
public import proofs.«01_k».proof.Proof.Gen.DecodeIdeal
public import proofs.«01_k».proof.Proof.Gen.DecodeIdeal.Skeleton

@[expose] public section

noncomputable section

namespace Cert.Proof.Gather

open Cert.DecodeIdeal Cert.DecodeIdeal.Gen
open Idealize.ShloMosaic Idealize.ShloMosaic.ValueIdx
open Idealize.SL Idealize.SL.Sem

/-! ## The words the loop carries -/

/-- A number as a word. -/
abbrev wd (n : ℕ) : BitVec 32 := BitVec.ofNat 32 n

/-- What the loop carries before trip `k`: the blocks whose fetch has been started, fetched, gathered, written back, and
    the block the trip works on (which wraps after the last). -/
abbrev carried (k : ℕ) : BitVec 32 × BitVec 32 × BitVec 32 × BitVec 32 × BitVec 32 :=
  (wd (k + 1 - (k + 1) / 5), wd k, wd k, wd (k - 1), wd (k % 4))

/-- The slot of block `k`. -/
abbrev slot (k : ℕ) : Fin 2 := Ring.sl 2 k

theorem slot_val (k : ℕ) : (slot k).val = k % 2 := rfl
theorem slot_add_two (k : ℕ) : slot (k + 2) = slot k := Ring.sl_add 2 k

theorem trips_four : k0_t1_loop.trips = 4 := by decide

/-- The first column of a task's block `b` among the winners, and its first row among the rows. -/
abbrev start (i : grid0.Coords) (b : ℕ) : ℕ := 512 * (i 1).val + 8192 * (i 0).val + 128 * b

theorem start_lt (i : grid0.Coords) (b : ℕ) (hb : b < 4) : start i b + 128 ≤ 16384 := by
  have h0 : (i 0).val < 2 := (i 0).isLt
  have h1 : (i 1).val < 16 := (i 1).isLt
  simp only [start]; omega

/-! ## The trip's offsets, conditions and checks -/

section Words

theorem off1_eq : k0_off1 = ![0, 0, 0] := by decide +kernel
theorem off2_eq : ∀ i : grid0.Coords, k0_off2 i = ![0, start i 0] := by decide +kernel
theorem off3_eq : k0_off3 = ![0] := by decide +kernel
theorem off4_eq : ∀ t : Fin k0_t1_loop.trips, t.val < 3 → k0_off4 (carried t.val).1 = ![(t.val + 1) % 2, 0, 0] := by decide +kernel
theorem off6_eq : ∀ t : Fin k0_t1_loop.trips, t.val < 3 → k0_off6 (carried t.val).1 = ![(t.val + 1) % 2] := by decide +kernel
theorem off5_eq : ∀ (i : grid0.Coords) (t : Fin k0_t1_loop.trips), t.val < 3 →
    k0_off5 i (wd (t.val % 4)) = ![0, start i (t.val + 1)] := by decide +kernel
theorem off7_eq : ∀ t : Fin k0_t1_loop.trips, k0_off7 (wd t.val) = ![t.val % 2, 0, 0] := by decide +kernel
theorem off8_eq : ∀ (i : grid0.Coords) (t : Fin k0_t1_loop.trips), k0_off8 i (wd (t.val % 4)) = ![0, start i t.val] := by decide +kernel
theorem off9_eq : ∀ t : Fin k0_t1_loop.trips, k0_off9 (wd t.val) = ![t.val % 2] := by decide +kernel
theorem off10_eq : ∀ t : Fin k0_t1_loop.trips, k0_off10 (wd t.val) = ![t.val % 2, 0, 0] := by decide +kernel
theorem off11_eq : ∀ t : Fin k0_t1_loop.trips, k0_off11 (wd t.val) = ![t.val % 2, 0, 0] := by decide +kernel
theorem off12_eq : ∀ t : Fin k0_t1_loop.trips, k0_off12 (wd t.val) = ![t.val % 2, 0, 0] := by decide +kernel
theorem off13_eq : ∀ (i : grid0.Coords) (t : Fin k0_t1_loop.trips), k0_off13 i (wd (t.val % 4)) = ![start i t.val, 0] := by decide +kernel
theorem off14_eq : ∀ t : Fin k0_t1_loop.trips, k0_off14 (wd t.val) = ![t.val % 2] := by decide +kernel
theorem off15_eq : ∀ t : Fin k0_t1_loop.trips, 1 ≤ t.val → k0_off15 (wd (t.val - 1)) = ![(t.val - 1) % 2, 0, 0] := by decide +kernel
theorem off16_eq : ∀ (i : grid0.Coords) (t : Fin k0_t1_loop.trips), 1 ≤ t.val →
    k0_off16 i (wd (t.val % 4)) = ![start i (t.val - 1), 0] := by decide +kernel
theorem off17_eq : ∀ t : Fin k0_t1_loop.trips, 1 ≤ t.val → k0_off17 (wd (t.val - 1)) = ![(t.val - 1) % 2] := by decide +kernel
theorem off19_eq : ∀ i : grid0.Coords, k0_off19 i (wd 0) = ![start i 3, 0] := by decide +kernel
theorem off20_eq : k0_off20 (wd 3) = ![1] := by decide +kernel
theorem off21_eq : k0_off21 (wd 3) = ![1, 0, 0] := by decide +kernel

theorem cond1_iff : ∀ (i : grid0.Coords) (t : Fin k0_t1_loop.trips), k0_cond1 i t (wd (t.val % 4)) = 1#1 ↔ t.val < 3 := by decide +kernel
theorem cond2_true : ∀ (i : grid0.Coords) (t : Fin k0_t1_loop.trips), k0_cond2 i t (wd (t.val % 4)) = 1#1 := by decide +kernel
theorem cond5_true : ∀ (i : grid0.Coords) (t : Fin k0_t1_loop.trips), k0_cond5 i t (wd (t.val % 4)) = 1#1 := by decide +kernel
theorem cond7_iff : ∀ (i : grid0.Coords) (t : Fin k0_t1_loop.trips), k0_cond7 i t (wd (t.val % 4)) = 1#1 ↔ 1 ≤ t.val := by decide +kernel

theorem chk1_ok : ∀ (i : grid0.Coords) (t : Fin k0_t1_loop.trips),
    k0_chk1 i t (carried t.val).1 (wd t.val) (wd t.val) (wd (t.val - 1)) (wd (t.val % 4)) := by decide +kernel
theorem chk2_ok : ∀ t : Fin k0_t1_loop.trips, k0_chk2 (wd t.val) := by decide +kernel
theorem chk3_ok : ∀ t : Fin k0_t1_loop.trips, k0_chk3 (wd t.val) := by decide +kernel
theorem chk4_ok : k0_chk4 (wd 3) := by decide +kernel
theorem chk5_ok : ∀ i : grid0.Coords, k0_chk5 i (wd 0) := by decide +kernel

/-- The word of the task's first block. -/
def taskWord (i : grid0.Coords) : BitVec 32 :=
  Scalar.muli (Scalar.addi (Scalar.addi 0#32 (Scalar.muli (BitVec.ofNat 32 (i 1).val) 1#32)) (Scalar.muli (BitVec.ofNat 32 (i 0).val) 16#32)) 4#32

/-- The words a trip hands to the next, as the trip computes them from those it was handed. -/
def nextWords (i : grid0.Coords) (t : Fin k0_t1_loop.trips) (a6 a7 a8 a9 a10 : BitVec 32) : BitVec 32 × BitVec 32 × BitVec 32 × BitVec 32 × BitVec 32 :=
  let it := Scf.iv 0#32 1#32 t
  let first := Scalar.cmpi .eq it 0#32
  let last := Scalar.cmpi .eq it 3#32
  let here := Scalar.addi a10 (taskWord i)
  let less := Scalar.select 1#1 (Scalar.subi a10 1#32) a10
  let before := Scalar.addi (Scalar.select (Scalar.cmpi .eq less 4294967295#32) 3#32 less) (taskWord i)
  let more := Scalar.select 1#1 (Scalar.addi a10 1#32) a10
  let after := Scalar.addi (Scalar.select (Scalar.cmpi .eq more 4#32) 0#32 more) (taskWord i)
  let fetch := Scalar.andi (Scalar.cmpi .ne here after) (Scalar.xori (Scalar.cmpi .sge it 3#32) 1#1)
  let leave := Scalar.ori (Scalar.cmpi .ne here after) last
  let back := Scalar.andi (Scalar.cmpi .ne here before) (Scalar.xori first 1#1)
  (Scalar.select (Scalar.andi fetch 1#1) (Scalar.addi a6 1#32) a6, Scalar.select leave (Scalar.addi a7 1#32) a7,
    Scalar.select (Scalar.andi leave 1#1) (Scalar.addi a8 1#32) a8, Scalar.select (Scalar.andi back 1#1) (Scalar.addi a9 1#32) a9,
    Scalar.select (Scalar.cmpi .eq more 4#32) 0#32 more)

theorem nextWords_eq : ∀ (i : grid0.Coords) (t : Fin k0_t1_loop.trips),
    nextWords i t (carried t.val).1 (wd t.val) (wd t.val) (wd (t.val - 1)) (wd (t.val % 4)) = carried (t.val + 1) := by decide +kernel

end Words

/-! ## The slots, the blocks and the cells -/

abbrev tabM : Memref sig .scVector .hbm S8192x128 .f32 := Memref.whole main_v1_scv
abbrev winM : Memref sig .scVector .hbm S1x16384 .i32 := Memref.whole main_v2_scv
abbrev rowM : Memref sig .scVector .hbm S16384x128 .f32 := Memref.whole main_v3_scv
abbrev inM : Memref sig .scVector .vmem S2x1x128 .i32 := Memref.whole cc0_scoped0
abbrev outM : Memref sig .scVector .vmem S2x128x128 .f32 := Memref.whole cc0_scoped2

theorem in_inb (s : Fin 2) : ∀ a, (![s.val, 0, 0] : Fin 3 → ℕ) a + S1x1x128.size a ≤ S2x1x128.size a := by revert s; decide
theorem out_inb (s : Fin 2) : ∀ a, (![s.val, 0, 0] : Fin 3 → ℕ) a + S1x128x128.size a ≤ S2x128x128.size a := by revert s; decide
theorem win_inb (i : grid0.Coords) (b : Fin 4) : ∀ a, (![0, start i b.val] : Fin 2 → ℕ) a + S1x128.size a ≤ S1x16384.size a := by
  have h := start_lt i b.val b.isLt
  intro a
  match a with
  | 0 => exact Nat.le_refl 1
  | 1 => exact h
theorem row_inb (i : grid0.Coords) (b : Fin 4) : ∀ a, (![start i b.val, 0] : Fin 2 → ℕ) a + S128x128.size a ≤ S16384x128.size a := by
  have h := start_lt i b.val b.isLt
  intro a
  match a with
  | 0 => exact h
  | 1 => exact Nat.le_refl 128

/-- Input slot `s`: room for one block's winners. -/
abbrev inSlot (s : Fin 2) : Memref sig .scVector .vmem S1x128 .i32 :=
  (inM.slice (Rect.unit (s := S2x1x128) ![s.val, 0, 0] S1x1x128.size (in_inb s)) (fun _ => rfl)).squeeze S1x128 squeezes_S1x1x128_S1x128
/-- Output slot `s`: room for one block's rows. -/
abbrev outSlot (s : Fin 2) : Memref sig .scVector .vmem S128x128 .f32 :=
  (outM.slice (Rect.unit (s := S2x128x128) ![s.val, 0, 0] S1x128x128.size (out_inb s)) (fun _ => rfl)).squeeze S128x128 squeezes_S1x128x128_S128x128
/-- The winners of the task's block `b`. -/
abbrev winBlk (i : grid0.Coords) (b : Fin 4) : Memref sig .scVector .hbm S1x128 .i32 :=
  winM.slice (Rect.unit (s := S1x16384) ![0, start i b.val] S1x128.size (win_inb i b)) (fun _ => rfl)
/-- The rows of the task's block `b`. -/
abbrev rowBlk (i : grid0.Coords) (b : Fin 4) : Memref sig .scVector .hbm S128x128 .f32 :=
  rowM.slice (Rect.unit (s := S16384x128) ![start i b.val, 0] S128x128.size (row_inb i b)) (fun _ => rfl)
/-- The table as the gather names it: all of it. -/
abbrev tabAll : Memref sig .scVector .hbm S8192x128 .f32 :=
  tabM.slice (Rect.unit (s := S8192x128) ![0, 0] S8192x128.size inb_S8192x128_S8192x128_0_0) (fun _ => rfl)
/-- Input slot `s` read as a plain list of 128 words. -/
abbrev listOf (s : Fin 2) : Memref sig .scVector .vmem S128 .i32 :=
  ((inSlot s).slice (Rect.unit (s := S1x128) ![0, 0] S1x128.size inb_S1x128_S1x128_0_0) (fun _ => rfl)).squeeze S128 squeezes_S1x128_S128

/-- The cells of the input slots, of the output slots, and of the gather. -/
abbrev inSem (s : Fin 2) : DmaSem sig := ⟨s.val, by have := s.isLt; show s.val < 5; omega⟩
abbrev outSem (s : Fin 2) : DmaSem sig := ⟨2 + s.val, by have := s.isLt; show 2 + s.val < 5; omega⟩
abbrev gatSem : DmaSem sig := ⟨4, by decide⟩

theorem inSlot_of {off : Fin 3 → ℕ} (s : Fin 2) (e : off = ![s.val, 0, 0]) (h : ∀ a, off a + S1x1x128.size a ≤ S2x1x128.size a)
    (hs : ∀ a, (Rect.unit (s := S2x1x128) off S1x1x128.size h).stride a = 1) :
    (inM.slice (Rect.unit (s := S2x1x128) off S1x1x128.size h) hs).squeeze S1x128 squeezes_S1x1x128_S1x128 = inSlot s := by subst e; rfl
theorem outSlot_of {off : Fin 3 → ℕ} (s : Fin 2) (e : off = ![s.val, 0, 0]) (h : ∀ a, off a + S1x128x128.size a ≤ S2x128x128.size a)
    (hs : ∀ a, (Rect.unit (s := S2x128x128) off S1x128x128.size h).stride a = 1) :
    (outM.slice (Rect.unit (s := S2x128x128) off S1x128x128.size h) hs).squeeze S128x128 squeezes_S1x128x128_S128x128 = outSlot s := by subst e; rfl
theorem winBlk_of {off : Fin 2 → ℕ} (i : grid0.Coords) (b : Fin 4) (e : off = ![0, start i b.val]) (h : ∀ a, off a + S1x128.size a ≤ S1x16384.size a)
    (hs : ∀ a, (Rect.unit (s := S1x16384) off S1x128.size h).stride a = 1) :
    winM.slice (Rect.unit (s := S1x16384) off S1x128.size h) hs = winBlk i b := by subst e; rfl
theorem rowBlk_of {off : Fin 2 → ℕ} (i : grid0.Coords) (b : Fin 4) (e : off = ![start i b.val, 0]) (h : ∀ a, off a + S128x128.size a ≤ S16384x128.size a)
    (hs : ∀ a, (Rect.unit (s := S16384x128) off S128x128.size h).stride a = 1) :
    rowM.slice (Rect.unit (s := S16384x128) off S128x128.size h) hs = rowBlk i b := by subst e; rfl

theorem inSem_of {off : Fin 1 → ℕ} (s : Fin 2) (e : off = ![s.val]) (h : ∀ a, off a + S1.size a ≤ S2.size a) :
    ((cc0_scoped1.slice (Rect.unit (s := S2) off S1.size h)).squeeze S_ squeezes_S1_S_).sem = inSem s := by
  subst e; revert s; decide
theorem outSem_of {off : Fin 1 → ℕ} (s : Fin 2) (e : off = ![s.val]) (h : ∀ a, off a + S1.size a ≤ S2.size a) :
    ((cc0_scoped3.slice (Rect.unit (s := S2) off S1.size h)).squeeze S_ squeezes_S1_S_).sem = outSem s := by
  subst e; revert s; decide
theorem gatSem_eq : cc0_scoped4.sem = gatSem := by decide

end Cert.Proof.Gather

end
-- ==== Proof.Fetched.lean ====
/-
  What the gather fetches. `rowsOf T X` is the array whose row `r` is the row of the table `T` that word `r` of the
  winners `X` names. Fetching block `b` of the winners into an input slot, and the rows they name into an output slot,
  leaves in the output slot exactly block `b` of `rowsOf T X`.
-/
module

public import proofs.«01_k».proof.Proof.Blocks

@[expose] public section

set_option maxRecDepth 16384

noncomputable section

namespace Cert.Proof.Gather

open Cert.DecodeIdeal Cert.DecodeIdeal.Gen
open Idealize.ShloMosaic Idealize.ShloMosaic.ValueIdx
open Idealize.SL Idealize.SL.Sem

variable {F : FTy → Type}

/-- Row `r` is the row of the table the winner in place `r` names. -/
def rowsOf (T : S8192x128.Idx → Elt F .f32) (X : S1x16384.Idx → Elt F .i32) : S16384x128.Idx → Elt F .f32 :=
  fun x => T (ix2 ⟨(X (ix2 (0 : Fin 1) (x 0))).toNat % 8192, Nat.mod_lt _ (by decide)⟩ (x 1))

/-- Every winner names a row of the table. -/
def InRange (X : S1x16384.Idx → Elt F .i32) : Prop := ∀ j, (X j).toNat < 8192

theorem read_winBlk (i : grid0.Coords) (b : Fin 4) (X : S1x16384.Idx → Elt F .i32) (x : S1x128.Idx) :
    (winBlk i b).view.read (Elt F) X x = X (ix2 (0 : Fin 1) ⟨start i b.val + (x 1).val, by
      have := start_lt i b.val b.isLt; have h : (x 1).val < 128 := (x 1).isLt; omega⟩) := by
  show X ((Rect.unit (s := S1x16384) ![0, start i b.val] S1x128.size (win_inb i b)).emb x) = _
  congr 1
  funext a
  refine Fin.ext ?_
  rw [Rect.emb_apply]
  match a with
  | 0 =>
    have h : (x 0).val < 1 := (x 0).isLt
    show 0 + 1 * (x 0).val = 0; omega
  | 1 => show start i b.val + 1 * (x 1).val = start i b.val + (x 1).val; omega

theorem read_rowBlk (i : grid0.Coords) (b : Fin 4) (G : S16384x128.Idx → Elt F .f32) (x : S128x128.Idx) :
    (rowBlk i b).view.read (Elt F) G x = G (ix2 ⟨start i b.val + (x 0).val, by
      have := start_lt i b.val b.isLt; have h : (x 0).val < 128 := (x 0).isLt; omega⟩ (x 1)) := by
  show G ((Rect.unit (s := S16384x128) ![start i b.val, 0] S128x128.size (row_inb i b)).emb x) = _
  congr 1
  funext a
  refine Fin.ext ?_
  rw [Rect.emb_apply]
  match a with
  | 0 => show start i b.val + 1 * (x 0).val = start i b.val + (x 0).val; omega
  | 1 => show 0 + 1 * (x 1).val = (x 1).val; omega

theorem read_tabAll (T : S8192x128.Idx → Elt F .f32) (x : S8192x128.Idx) : (tabAll).view.read (Elt F) T x = T x := by
  show T ((Rect.unit (s := S8192x128) ![0, 0] S8192x128.size inb_S8192x128_S8192x128_0_0).emb x) = _
  congr 1
  funext a
  refine Fin.ext ?_
  rw [Rect.emb_apply]
  match a with
  | 0 => show 0 + 1 * (x 0).val = (x 0).val; omega
  | 1 => show 0 + 1 * (x 1).val = (x 1).val; omega

/-- Word `y` of the list is word `(0, y)` of the slot. -/
theorem read_listOf (s : Fin 2) (f : S2x1x128.Idx → Elt F .i32) (y : S128.Idx) :
    (listOf s).view.read (Elt F) f y = (inSlot s).view.read (Elt F) f (ix2 (0 : Fin 1) (y 0)) := by
  show (inSlot s).view.read (Elt F) f ((Rect.unit (s := S1x128) ![0, 0] S1x128.size inb_S1x128_S1x128_0_0).emb
    (Shape.reshapeEquiv squeezes_S1x128_S128.numel_eq y)) = _
  congr 1
  have e : Shape.reshapeEquiv squeezes_S1x128_S128.numel_eq y = (ix2 (0 : Fin 1) (y 0) : S1x128.Idx) := by
    refine Shape.reshapeEquiv_eq_of_rowMajor _ ?_
    rw [Shape.rowMajor_val_two, Shape.rowMajor_val_one]
    show 0 * 128 + (y 0).val = (y 0).val; omega
  rw [e]
  funext a
  refine Fin.ext ?_
  rw [Rect.emb_apply]
  match a with
  | 0 => rfl
  | 1 => show 0 + 1 * (y 0).val = (y 0).val; omega

/-- The list of a slot that holds a block of winners in range names rows of the table. -/
theorem list_inRange {X : S1x16384.Idx → Elt F .i32} (hX : InRange X) (i : grid0.Coords) (b : Fin 4) (s : Fin 2) {f : S2x1x128.Idx → Elt F .i32}
    (hf : (inSlot s).view.read (Elt F) f = (winBlk i b).view.read (Elt F) X) (y : S128.Idx) :
    ((listOf s).view.read (Elt F) f y).toNat < S8192x128.size gathers_S8192x128_S128x128.axis := by
  rw [read_listOf, hf, read_winBlk]; exact hX _

/-- The gather's payload over such a slot is block `b` of the rows the winners name. -/
theorem gathered_eq (T : S8192x128.Idx → Elt F .f32) {X : S1x16384.Idx → Elt F .i32} (hX : InRange X) (i : grid0.Coords) (b : Fin 4) (s : Fin 2)
    {f : S2x1x128.Idx → Elt F .i32} (hf : (inSlot s).view.read (Elt F) f = (winBlk i b).view.read (Elt F) X)
    (hn : S128.numel = S128x128.size gathers_S8192x128_S128x128.axis')
    (hin : ∀ y, ((listOf s).view.read (Elt F) f y).toNat < S8192x128.size gathers_S8192x128_S128x128.axis) :
    SparseCore.gatherPayload (e := .f32) gathers_S8192x128_S128x128 ((tabAll).view.read (Elt F) T) (SparseCore.rows ((listOf s).view.read (Elt F) f) hn hin)
      = (rowBlk i b).view.read (Elt F) (rowsOf T X) := by
  funext x
  rw [read_rowBlk]
  show (tabAll).view.read (Elt F) T _ = _
  rw [read_tabAll]
  unfold rowsOf
  congr 1
  have hy : (S128.rowMajor.symm ((x 0 : Fin 128).cast hn.symm)) = (ix1 (x 0) : S128.Idx) := by
    rw [Equiv.symm_apply_eq]; refine Fin.ext ?_; rw [Shape.rowMajor_val_one]; rfl
  funext a
  refine Fin.ext ?_
  match a with
  | ⟨0, _⟩ =>
    refine (congrArg Fin.val (Shape.Gathers.idx_axis gathers_S8192x128_S128x128 _ x)).trans ?_
    show ((listOf s).view.read (Elt F) f (S128.rowMajor.symm ((x 0 : Fin 128).cast hn.symm))).toNat = _
    rw [hy, read_listOf, hf, read_winBlk]
    show _ = (X _).toNat % 8192
    rw [Nat.mod_eq_of_lt (hX _)]
  | ⟨1, _⟩ => exact Shape.Gathers.idx_of_ne gathers_S8192x128_S128x128 _ x (1 : Fin 2) (by decide)

end Cert.Proof.Gather

end
-- ==== Proof.Moves.lean ====
/-
  The gather kernel's six moves, each as one rule over the blocks and slots of Blocks.lean: start the fetch of a block of
  winners, wait for it, start the gather of the rows it names, wait for that, start the write-back of the rows, wait for
  that. Each rule says what the move takes and what it leaves, values included: a landed fetch leaves the slot holding
  the block of winners, a landed gather leaves the slot holding the block of rows those winners name, a landed
  write-back leaves the rows' block holding them.
-/
module

public import proofs.«01_k».proof.Proof.Fetched

@[expose] public section

set_option maxRecDepth 16384

noncomputable section

namespace Cert.Proof.Gather

open Cert.DecodeIdeal Cert.DecodeIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev 𝒱₀ : Variants := Variants.none

/-- The ghost state: the handshakes' rounds, the transfers' counters. -/
abbrev UH : Type := URounds (GSem nD τ sig) ℕ
abbrev UU : Type := UH × Counters

local notation "𝕄" => MT nD τ sig (HIx 1) (Elt F) ℕ UU ℕ

/-! ## The memory of a task -/

abbrev tLoc (d : Dev nD) : Loc nD τ sig := (SparseCore.T d).loc main_v1
abbrev wLoc (d : Dev nD) : Loc nD τ sig := (SparseCore.T d).loc main_v2
abbrev rLoc (d : Dev nD) : Loc nD τ sig := (SparseCore.T d).loc main_v3

abbrev coreOf (L : grid0.Coords) : Fin τ.nSC := (L 0).castLE hcore0
abbrev subOf (L : grid0.Coords) : Fin τ.nSub := (L 1).castLE hsub0
/-- The vector subcore the task runs on. -/
abbrev tileOf (d : Dev nD) (L : grid0.Coords) : Thread nD τ := V d (coreOf L) (subOf L)

section Held

variable (d : Dev nD) (L : grid0.Coords) (q : PosShare TreeShare)
  (T : S8192x128.Idx → Elt F .f32) (X : S1x16384.Idx → Elt F .i32)

/-- The task's share of the table. -/
abbrev tabPts : sProp 𝕄 := tLoc d ↦[(tabAll).view.set]{q} T
/-- Block `b` of the winners. -/
abbrev winPts (b : Fin 4) : sProp 𝕄 := wLoc d ↦[(winBlk L b).view.set]{fullShare} X
/-- Block `b` of the rows, at anything; and holding the rows the winners name. -/
abbrev rowAny (b : Fin 4) : sProp 𝕄 := iprop(∃ f, rLoc d ↦[(rowBlk L b).view.set]{fullShare} f)
abbrev rowDone (b : Fin 4) : sProp 𝕄 := rLoc d ↦[(rowBlk L b).view.set]{fullShare} (rowsOf T X)
/-- An input slot holding block `b` of the winners; at anything. -/
abbrev inHolds (b : Fin 4) (s : Fin 2) : sProp 𝕄 :=
  iprop(∃ f : Buf (Elt F) ((tileOf d L).loc cc0_scoped0), ((tileOf d L).loc cc0_scoped0 ↦[(inSlot s).view.set]{fullShare} f)
    ∗ ⌜(inSlot s).view.read (Elt F) f = (winBlk L b).view.read (Elt F) X⌝)
abbrev inAny (s : Fin 2) : sProp 𝕄 := iprop(∃ f, (tileOf d L).loc cc0_scoped0 ↦[(inSlot s).view.set]{fullShare} f)
/-- An output slot holding the rows of block `b`; at anything. -/
abbrev outHolds (b : Fin 4) (s : Fin 2) : sProp 𝕄 :=
  iprop(∃ f : Buf (Elt F) ((tileOf d L).loc cc0_scoped2), ((tileOf d L).loc cc0_scoped2 ↦[(outSlot s).view.set]{fullShare} f)
    ∗ ⌜(outSlot s).view.read (Elt F) f = (rowBlk L b).view.read (Elt F) (rowsOf T X)⌝)
abbrev outAny (s : Fin 2) : sProp 𝕄 := iprop(∃ f, (tileOf d L).loc cc0_scoped2 ↦[(outSlot s).view.set]{fullShare} f)
/-- A cell of the task at zero. -/
abbrev atZero (sm : DmaSem sig) : sProp 𝕄 := semVal (tileOf d L, SemLoc.dma sm) 0
/-- A slot with nothing under way. -/
abbrev inFree (s : Fin 2) : sProp 𝕄 := iprop(atZero d L (inSem s) ∗ inAny d L s)
abbrev outFree (s : Fin 2) : sProp 𝕄 := iprop(atZero d L (outSem s) ∗ outAny d L s)

/-- The fetch of block `b` into slot `s` under way, the gather of its rows, and their write-back. -/
abbrev fetching (b : Fin 4) (s : Fin 2) : sProp 𝕄 :=
  Transfers.Flight countersEmb (tileOf d L) (.dma (inSem s)) (none : HIx 1) (inSlot s).view.dmaCredit iprop(inHolds d L X b s ∗ winPts d L X b)
abbrev gathering (b : Fin 4) (s : Fin 2) : sProp 𝕄 :=
  Transfers.Flight countersEmb (tileOf d L) (.dma gatSem) (none : HIx 1) (outSlot s).view.dmaCredit
    iprop(outHolds d L T X b s ∗ tabPts d q T ∗ inAny d L s)
abbrev writing (b : Fin 4) (s : Fin 2) : sProp 𝕄 :=
  Transfers.Flight countersEmb (tileOf d L) (.dma (outSem s)) (none : HIx 1) (rowBlk L b).view.dmaCredit
    iprop(rowDone d L T X b ∗ outAny d L s)

end Held

/-- The list of a slot is all of the slot. -/
theorem set_listOf (s : Fin 2) : (listOf s).view.set = (inSlot s).view.set := by
  refine Finset.eq_of_subset_of_card_le ?_ (by rw [View.card_set, View.card_set]; decide)
  show View.set (View.reshape (View.slice (inSlot s).view (Rect.unit (s := S1x128) ![0, 0] S1x128.size inb_S1x128_S1x128_0_0)) S128 _) ⊆ _
  rw [View.set_reshape]
  exact View.set_slice_subset _ _

/-! ## The moves -/

/-- A task's program runs to `R`. -/
abbrev runs [FloatOps F] [∀ e, Nonempty (Elt F e)] (d : Dev nD) (L : grid0.Coords) {α : Type} (R : α → sProp 𝕄)
    (p : Prog (TpuEff nD τ sig (Elt F) Λ₀ (tileOf d L).2) α) : sProp 𝕄 :=
  wp frame (wpE (defs₀ (F := F)) 𝒱₀ (tileOf d L) none) Set.univ p R

section Steps

variable [FloatOps F] [∀ e, Nonempty (Elt F e)] (d : Dev nD) (L : grid0.Coords) (q : PosShare TreeShare)
  (T : S8192x128.Idx → Elt F .f32) (X : S1x16384.Idx → Elt F .i32)
  {α : Type} {R : α → sProp (MT nD τ sig (HIx 1) (Elt F) ℕ UU ℕ)} {k : PUnit.{1} → Prog (TpuEff nD τ sig (Elt F) Λ₀ (tileOf d L).2) α}

theorem start_fetch (b : Fin 4) (s : Fin 2) {src : Memref sig .scVector .hbm S1x128 .i32} {dst : Memref sig .scVector .vmem S1x128 .i32} {sm : DmaSem sig}
    (es : src = winBlk L b) (ed : dst = inSlot s) (em : sm = inSem s) {hsrc : src.view.WordExact} {hdst : dst.view.WordExact}
    {hsem : DmaTarget.Typed (nD := nD) (τ := τ) .hbm (.dma sm) (DmaTarget.here (p := (tileOf d L).2) dst)} :
    iprop(inFree d L s ∗ winPts d L X b)
      ⊢ iprop((fetching d L X b s -∗ runs d L R (k ⟨⟩)) -∗ runs d L R (.op (.enqueueDmaAs src (.here dst) .same (.dma sm) hsrc hdst hsem) k)) := by
  subst es ed em
  iintro ⟨⟨Hz, %f, Hs⟩, Hw⟩ Hk
  iapply (Transfers.wp_dmaLocal countersEmb 𝒱₀ (tileOf d L) none (none : HIx 1) (inSlot s).view.dmaCredit rfl
    (View.dmaCredit_pos _ (by decide)) (Finset.Subset.refl _)) $$ [Hz Hs Hw]
  · isplitl [Hw]; · iexact Hw
    isplitl [Hs]; · iexact Hs
    iexact Hz
  iintro HF
  iapply Hk
  iapply (Transfers.Flight_mono countersEmb (tileOf d L) (D' := iprop(inHolds d L X b s ∗ winPts d L X b)) ?_) $$ HF
  iintro ⟨Hs, Hw⟩
  isplitl [Hs]
  · iexists _
    isplitl [Hs]; · iexact Hs
    ipureintro
    exact View.read_write_univ _ _
  · iexact Hw

theorem wait_fetch (b : Fin 4) (s : Fin 2) {src : Memref sig .scVector .hbm S1x128 .i32} {dst : Memref sig .scVector .vmem S1x128 .i32} {sm : DmaSem sig}
    (ed : dst = inSlot s) (em : sm = inSem s) {hsrc : src.view.WordExact} {hdst : dst.view.WordExact}
    {O : CellTallies nD τ sig (HIx 1)} {W : Waits sig (HIx 1)} :
    iprop(fetching d L X b s ∗ owes (tileOf d L) O W ∗ Transfers.MayWaits (tileOf d L) (none : HIx 1) O)
      ⊢ iprop((iprop(inHolds d L X b s ∗ winPts d L X b ∗ atZero d L (inSem s) ∗ owes (tileOf d L) O (insert (SemLoc.dma (inSem s), none) W)) -∗ runs d L R (k ⟨⟩))
        -∗ runs d L R (.op (.waitDma2 sm src dst hsrc hdst) k)) := by
  subst ed em
  iintro ⟨HF, HO, Hmw⟩ Hk
  iapply (Transfers.wp_waitLocalO countersEmb 𝒱₀ (tileOf d L) none (none : HIx 1) (rfl : (inSlot s).view.dmaCredit = _)) $$ [HF HO Hmw]
  · isplitl [HF]; · iexact HF
    isplitl [HO]; · iexact HO
    iapply (Transfers.MayWaits.elim (SemLoc.dma (inSem s))) $$ Hmw
  iintro ⟨⟨Hs, Hw⟩, Hz, HO⟩
  iapply Hk
  isplitl [Hs]; · iexact Hs
  isplitl [Hw]; · iexact Hw
  isplitl [Hz]; · iexact Hz
  iexact HO

theorem start_gather (hX : InRange X) (b : Fin 4) (s : Fin 2) {src : Memref sig .scVector .hbm S8192x128 .f32} {dst : Memref sig .scVector .vmem S128x128 .f32}
    {offs : Memref sig .scVector .vmem S128 .i32} {sm : DmaSem sig}
    (es : src = tabAll) (ed : dst = outSlot s) (eo : offs = listOf s) (em : sm = gatSem)
    {hp : (tileOf d L).2.kind = .scVector} {hn : S128.numel = S128x128.size gathers_S8192x128_S128x128.axis'} {hsrc : src.view.WordExact}
    {he : EltTy.f32.bits = 32} {hsp : Space.hbm = .hbm ∨ Space.hbm = .shared} {hr : S8192x128.StreamRows 0} :
    iprop(atZero d L gatSem ∗ tabPts d q T ∗ inHolds d L X b s ∗ outAny d L s)
      ⊢ iprop((gathering d L q T X b s -∗ runs d L R (k ⟨⟩))
        -∗ runs d L R (SparseCore.enqueueIndirectGather hp src dst gathers_S8192x128_S128x128 offs hn sm hsrc he hsp hr >>= k)) := by
  subst es ed eo em
  iintro ⟨Hz, Ht, ⟨%f, Hi, %hf⟩, %g, Ho⟩ Hk
  have heq : (listOf s).view.set = (inSlot s).view.set := set_listOf s
  ihave Hi' := (Entails.of_eq (show ((tileOf d L).loc cc0_scoped0 ↦[(inSlot s).view.set]{fullShare} f : sProp 𝕄)
      = (tileOf d L).loc cc0_scoped0 ↦[(listOf s).view.set]{fullShare} f by rw [heq])) $$ Hi
  iapply (SparseCore.wp_indirectGatherLocal countersEmb 𝒱₀ (tileOf d L) none (hg := gathers_S8192x128_S128x128) (none : HIx 1)
      (outSlot s).view.dmaCredit (SparseCore.sum_rowCredit_eq_dmaCredit _ _ fun _ => rfl) (by decide)
      (list_inRange hX L b s hf)) $$ [Ht Ho Hi' Hz]
  · isplitl [Ht]; · iexact Ht
    isplitl [Ho]; · iexact Ho
    isplitl [Hi']; · iexact Hi'
    iexact Hz
  iintro HF
  iapply Hk
  iapply (Transfers.Flight_mono countersEmb (tileOf d L) (D' := iprop(outHolds d L T X b s ∗ tabPts d q T ∗ inAny d L s)) ?_) $$ HF
  iintro ⟨Ho, Ht, Hi⟩
  isplitl [Ho]
  · iexists _
    isplitl [Ho]; · iexact Ho
    ipureintro
    rw [View.read_write_univ]
    exact gathered_eq T hX L b s hf _ _
  isplitl [Ht]; · iexact Ht
  iexists f
  rw [← heq]
  iexact Hi

theorem wait_gather (b : Fin 4) (s : Fin 2) {src : Memref sig .scVector .hbm S8192x128 .f32} {dst : Memref sig .scVector .vmem S128x128 .f32} {sm : DmaSem sig}
    (ed : dst = outSlot s) (em : sm = gatSem) {hsrc : src.view.WordExact} {hdst : dst.view.WordExact}
    {O : CellTallies nD τ sig (HIx 1)} {W : Waits sig (HIx 1)} :
    iprop(gathering d L q T X b s ∗ owes (tileOf d L) O W ∗ Transfers.MayWaits (tileOf d L) (none : HIx 1) O)
      ⊢ iprop((iprop(outHolds d L T X b s ∗ tabPts d q T ∗ inAny d L s ∗ atZero d L gatSem
            ∗ owes (tileOf d L) O (insert (SemLoc.dma gatSem, none) W)) -∗ runs d L R (k ⟨⟩))
        -∗ runs d L R (.op (.waitDma2 sm src dst hsrc hdst) k)) := by
  subst ed em
  iintro ⟨HF, HO, Hmw⟩ Hk
  iapply (Transfers.wp_waitLocalO countersEmb 𝒱₀ (tileOf d L) none (none : HIx 1) (rfl : (outSlot s).view.dmaCredit = _)) $$ [HF HO Hmw]
  · isplitl [HF]; · iexact HF
    isplitl [HO]; · iexact HO
    iapply (Transfers.MayWaits.elim (SemLoc.dma gatSem)) $$ Hmw
  iintro ⟨⟨Ho, Ht, Hi⟩, Hz, HO⟩
  iapply Hk
  isplitl [Ho]; · iexact Ho
  isplitl [Ht]; · iexact Ht
  isplitl [Hi]; · iexact Hi
  isplitl [Hz]; · iexact Hz
  iexact HO

theorem start_write (b : Fin 4) (s : Fin 2) {src : Memref sig .scVector .vmem S128x128 .f32} {dst : Memref sig .scVector .hbm S128x128 .f32} {sm : DmaSem sig}
    (es : src = outSlot s) (ed : dst = rowBlk L b) (em : sm = outSem s) {hsrc : src.view.WordExact} {hdst : dst.view.WordExact}
    {hsem : DmaTarget.Typed (nD := nD) (τ := τ) .vmem (.dma sm) (DmaTarget.here (p := (tileOf d L).2) dst)} :
    iprop(outHolds d L T X b s ∗ atZero d L (outSem s) ∗ rowAny d L b)
      ⊢ iprop((writing d L T X b s -∗ runs d L R (k ⟨⟩)) -∗ runs d L R (.op (.enqueueDmaAs src (.here dst) .same (.dma sm) hsrc hdst hsem) k)) := by
  subst es ed em
  iintro ⟨⟨%f, Ho, %hf⟩, Hz, %g, Hr⟩ Hk
  iapply (Transfers.wp_dmaLocal countersEmb 𝒱₀ (tileOf d L) none (none : HIx 1) (rowBlk L b).view.dmaCredit rfl
    (View.dmaCredit_pos _ (by decide)) (Finset.Subset.refl _)) $$ [Ho Hz Hr]
  · isplitl [Ho]; · iexact Ho
    isplitl [Hr]; · iexact Hr
    iexact Hz
  iintro HF
  iapply Hk
  iapply (Transfers.Flight_mono countersEmb (tileOf d L) (D' := iprop(rowDone d L T X b ∗ outAny d L s)) ?_) $$ HF
  iintro ⟨Hr, Ho⟩
  isplitl [Hr]
  · iapply (Entails.of_eq (pointsTo_congr (ℓ := rLoc d) (I := (rowBlk L b).view.set) (q := fullShare) (f := _) (g := rowsOf T X) ?_)) $$ Hr
    intro j hj
    obtain ⟨x, rfl⟩ : ∃ x, (rowBlk L b).view.emb x = j := by simpa [View.set] using hj
    refine View.eq_of_read_eq (v := (rowBlk L b).view) (x := x) ?_
    rw [View.read_write_univ, ← hf]
  · iexists f; iexact Ho

theorem wait_write (b : Fin 4) (s : Fin 2) {src : Memref sig .scVector .vmem S128x128 .f32} {dst : Memref sig .scVector .hbm S128x128 .f32} {sm : DmaSem sig}
    (ed : dst = rowBlk L b) (em : sm = outSem s) {hsrc : src.view.WordExact} {hdst : dst.view.WordExact}
    {O : CellTallies nD τ sig (HIx 1)} {W : Waits sig (HIx 1)} :
    iprop(writing d L T X b s ∗ owes (tileOf d L) O W ∗ Transfers.MayWaits (tileOf d L) (none : HIx 1) O)
      ⊢ iprop((iprop(rowDone d L T X b ∗ outFree d L s ∗ owes (tileOf d L) O (insert (SemLoc.dma (outSem s), none) W)) -∗ runs d L R (k ⟨⟩))
        -∗ runs d L R (.op (.waitDma2 sm src dst hsrc hdst) k)) := by
  subst ed em
  iintro ⟨HF, HO, Hmw⟩ Hk
  iapply (Transfers.wp_waitLocalO countersEmb 𝒱₀ (tileOf d L) none (none : HIx 1) (rfl : (rowBlk L b).view.dmaCredit = _)) $$ [HF HO Hmw]
  · isplitl [HF]; · iexact HF
    isplitl [HO]; · iexact HO
    iapply (Transfers.MayWaits.elim (SemLoc.dma (outSem s))) $$ Hmw
  iintro ⟨⟨Hr, Ho⟩, Hz, HO⟩
  iapply Hk
  isplitl [Hr]; · iexact Hr
  isplitl [Hz Ho]
  · isplitl [Hz]; · iexact Hz
    iexact Ho
  iexact HO

end Steps

end Cert.Proof.Gather

end
-- ==== Proof.Walk.lean ====
/-
  A task's walk over its four blocks. Before trip `k` the fetch of block `k` is under way, the write-back of block
  `k - 1` is under way, the blocks below `k - 1` are written, and the blocks from `k` on are still to be written
  (`before`). A trip starts the next fetch, waits for its own, gathers its rows, starts their write-back, and waits for
  the write-back before it (`trip`).
-/
module

public import proofs.«01_k».proof.Proof.Moves

@[expose] public section

set_option maxRecDepth 16384

noncomputable section

attribute [local irreducible] Idealize.SL.BI.bigSep

namespace Cert.Proof.Gather

open Cert.DecodeIdeal Cert.DecodeIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The blocks from a number on, and below one -/

def fromB (n : ℕ) : Finset (Fin 4) := Finset.univ.filter fun b => n ≤ b.val
def belowB (n : ℕ) : Finset (Fin 4) := Finset.univ.filter fun b => b.val < n

theorem fromB_zero : fromB 0 = Finset.univ := by decide
theorem belowB_zero : belowB 0 = ∅ := by decide
theorem belowB_four : belowB 4 = Finset.univ := by decide
theorem fromB_of_le {n : ℕ} (h : 4 ≤ n) : fromB n = ∅ :=
  Finset.filter_eq_empty_iff.mpr fun b _ hb => absurd (b.isLt.trans_le h) (Nat.not_lt.mpr hb)
theorem fromB_insert {n : ℕ} (h : n < 4) : fromB n = insert ⟨n, h⟩ (fromB (n + 1)) := by
  ext b; simp only [fromB, Finset.mem_filter, Finset.mem_univ, true_and, Finset.mem_insert, Fin.ext_iff]; omega
theorem belowB_insert {n : ℕ} (h : n < 4) : belowB (n + 1) = insert ⟨n, h⟩ (belowB n) := by
  ext b; simp only [belowB, Finset.mem_filter, Finset.mem_univ, true_and, Finset.mem_insert, Fin.ext_iff]; omega
theorem notMem_fromB {n : ℕ} (h : n < 4) : (⟨n, h⟩ : Fin 4) ∉ fromB (n + 1) := by simp [fromB]
theorem notMem_belowB {n : ℕ} (h : n < 4) : (⟨n, h⟩ : Fin 4) ∉ belowB n := by simp [belowB]

theorem bigSep_fromB {n : ℕ} (h : n < 4) (Φ : Fin 4 → sProp 𝕄) : bigSep (fromB n) Φ = iprop(Φ ⟨n, h⟩ ∗ bigSep (fromB (n + 1)) Φ) := by
  rw [fromB_insert h, SparseCore.bigSep_insert' (notMem_fromB h)]
theorem bigSep_belowB {n : ℕ} (h : n < 4) (Φ : Fin 4 → sProp 𝕄) : bigSep (belowB (n + 1)) Φ = iprop(Φ ⟨n, h⟩ ∗ bigSep (belowB n) Φ) := by
  rw [belowB_insert h, SparseCore.bigSep_insert' (notMem_belowB h)]

theorem none_below (Φ : Fin 4 → sProp 𝕄) : (iprop(emp) : sProp 𝕄) ⊢ bigSep (belowB 0) Φ := by
  rw [belowB_zero, bigSep_empty]
  exact .rfl

attribute [local irreducible] fromB belowB

/-! ## What a task holds before a trip -/

section Walk

variable [FloatOps F] [∀ e, Nonempty (Elt F e)] (d : Dev nD) (L : grid0.Coords) (q : PosShare TreeShare)
  (T : S8192x128.Idx → Elt F .f32) (X : S1x16384.Idx → Elt F .i32)
  (O : CellTallies nD τ sig (HIx 1)) (W : Waits sig (HIx 1))

/-- The slot of block `k`: its fetch under way, or nothing when there is no such block. -/
def fetchSlot (k : ℕ) : sProp 𝕄 := if h : k < 4 then fetching d L X ⟨k, h⟩ (slot k) else inFree d L (slot k)
/-- The slot of the block before `k`: its write-back under way, or nothing before the first trip. -/
def writeSlot (k : ℕ) : sProp 𝕄 :=
  if h : 1 ≤ k ∧ k - 1 < 4 then writing d L T X ⟨k - 1, h.2⟩ (slot (k + 1)) else outFree d L (slot (k + 1))

theorem fetchSlot_lt {k : ℕ} (h : k < 4) : fetchSlot (F := F) d L X k = fetching d L X ⟨k, h⟩ (slot k) := dif_pos h
theorem fetchSlot_four : fetchSlot (F := F) d L X 4 = inFree d L (slot 4) := dif_neg (by decide)
theorem writeSlot_zero : writeSlot (F := F) d L T X 0 = outFree d L (slot 1) := dif_neg (by decide)
theorem writeSlot_succ {k : ℕ} (h : k < 4) : writeSlot (F := F) d L T X (k + 1) = writing d L T X ⟨k, h⟩ (slot (k + 2)) :=
  dif_pos ⟨Nat.le_add_left _ _, h⟩

/-- What the task owes, its own waits recorded. -/
abbrev owing : sProp 𝕄 := iprop(∃ W', ⌜∀ p ∈ W', p ∈ W ∨ p.2 = none⌝ ∗ owes (tileOf d L) O W')

omit [FloatOps F] [∀ e, Nonempty (Elt F e)] in
theorem recorded {W' : Waits sig (HIx 1)} (h : ∀ p ∈ W', p ∈ W ∨ p.2 = none) (sm : SemLoc sig) :
    ∀ p ∈ insert (sm, (none : HIx 1)) W', p ∈ W ∨ p.2 = none := fun p hp => by
  rcases Finset.mem_insert.mp hp with rfl | hp
  · exact .inr rfl
  · exact h p hp

/-- Before trip `k`. -/
def before (k : ℕ) (acc : BitVec 32 × BitVec 32 × BitVec 32 × BitVec 32 × BitVec 32) : sProp 𝕄 :=
  iprop(⌜acc = carried k⌝ ∗ owing d L O W
    ∗ fetchSlot d L X k ∗ inFree d L (slot (k + 1)) ∗ writeSlot d L T X k ∗ outFree d L (slot k)
    ∗ atZero d L gatSem ∗ tabPts d q T
    ∗ (bigSep (fromB (k + 1)) fun b => winPts d L X b) ∗ (bigSep (belowB k) fun b => winPts d L X b)
    ∗ (bigSep (fromB k) fun b => rowAny d L b) ∗ (bigSep (belowB (k - 1)) fun b => rowDone d L T X b))

variable {α : Type} {R : α → sProp (MT nD τ sig (HIx 1) (Elt F) ℕ UU ℕ)}

theorem runs_ret (v : α) : R v ⊢ runs d L R (.ret v) := by
  show _ ⊢ wp _ _ _ _ _
  rw [wp_ret]
  iintro H
  imodintro
  iexact H

/-- A guarded step: what the step gives when the guard holds is had outright when it does not. -/
theorem runs_either {c : Prop} [Decidable c] {A : c → Prog (TpuEff nD τ sig (Elt F) Λ₀ (tileOf d L).2) α}
    {B : Prog (TpuEff nD τ sig (Elt F) Λ₀ (tileOf d L).2) α} {P Q : sProp 𝕄}
    (hA : ∀ h, P ⊢ iprop((Q -∗ runs d L R B) -∗ runs d L R (A h))) (hB : ¬c → P ⊢ Q) :
    P ⊢ iprop((Q -∗ runs d L R B) -∗ runs d L R (dite c A fun _ => B)) := by
  by_cases h : c
  · rw [dif_pos h]; exact hA h
  · rw [dif_neg h]
    iintro HP Hk
    iapply Hk
    iapply (hB h) $$ HP

/-- The write-back of the block before `k` lands. -/
theorem settle {n : PUnit.{1} → Prog (TpuEff nD τ sig (Elt F) Λ₀ (tileOf d L).2) α} (k : ℕ) (h1 : 1 ≤ k) (h4 : k ≤ 4)
    {src : Memref sig .scVector .vmem S128x128 .f32} {dst : Memref sig .scVector .hbm S128x128 .f32} {sm : DmaSem sig}
    (ed : dst = rowBlk L ⟨k - 1, by omega⟩) (em : sm = outSem (slot (k - 1))) {hsrc : src.view.WordExact} {hdst : dst.view.WordExact} :
    iprop(writeSlot d L T X k ∗ (bigSep (belowB (k - 1)) fun b => rowDone d L T X b) ∗ owes (tileOf d L) O W
        ∗ Transfers.MayWaits (tileOf d L) (none : HIx 1) O)
      ⊢ iprop((iprop(outFree d L (slot (k + 1)) ∗ (bigSep (belowB k) fun b => rowDone d L T X b)
            ∗ owes (tileOf d L) O (insert (SemLoc.dma (outSem (slot (k + 1))), none) W)) -∗ runs d L R (n ⟨⟩))
        -∗ runs d L R (.op (.waitDma2 sm src dst hsrc hdst) n)) := by
  obtain ⟨j, rfl⟩ : ∃ j, k = j + 1 := ⟨k - 1, by omega⟩
  have hj : j < 4 := by omega
  simp only [Nat.add_sub_cancel] at ed em
  rw [writeSlot_succ d L T X hj, slot_add_two, bigSep_belowB hj]
  iintro ⟨HW, Hrb, HO, Hmw⟩ Hk
  iapply (wait_write d L T X ⟨j, hj⟩ (slot j) ed em) $$ [HW HO Hmw]
  · isplitl [HW]; · iexact HW
    isplitl [HO]; · iexact HO
    iexact Hmw
  iintro ⟨Hr, Hout, HO⟩
  iapply Hk
  isplitl [Hout]; · iexact Hout
  isplitl [Hr Hrb]
  · isplitl [Hr]; · iexact Hr
    iexact Hrb
  iexact HO

set_option maxHeartbeats 2000000 in
theorem trip (hX : InRange X) (k : Fin k0_t1_loop.trips) (acc : BitVec 32 × BitVec 32 × BitVec 32 × BitVec 32 × BitVec 32) :
    iprop(Transfers.MayWaits (tileOf d L) (none : HIx 1) O ∗ before d L q T X O W k.val acc)
      ⊢ runs d L (fun acc' => iprop(Transfers.MayWaits (tileOf d L) (none : HIx 1) O ∗ before d L q T X O W (k.val + 1) acc'))
          (k0_t1_body L tabM (Memref.isWhole_whole _) winM (Memref.isWhole_whole _) rowM (Memref.isWhole_whole _) inM (Memref.isWhole_whole _)
            cc0_scoped1 outM (Memref.isWhole_whole _) cc0_scoped3 cc0_scoped4 (taskWord L) k acc) := by
  have hk : k.val < 4 := trips_four ▸ k.isLt
  obtain ⟨a6, a7, a8, a9, a10⟩ := acc
  unfold before
  iintro ⟨#Hmw, %hacc, ⟨%W₀, %hW₀, HO⟩, HF, Hin, HW, Hout, Hgz, Ht, Hwa, Hwb, Hra, Hrb⟩
  simp only [carried, Prod.mk.injEq] at hacc
  obtain ⟨rfl, rfl, rfl, rfl, rfl⟩ := hacc
  unfold k0_t1_body
  simp only [k0_part1_eq_skeleton, k0_part2_eq_skeleton]
  unfold k0_part1_skel k0_part2_skel
  simp only [Prog.lift, Prog.bind_op, Prog.bind_ret, Prog.pure_eq_ret, Prog.bind_assoc, ite_self]
  simp only [wp_assume_of 𝒱₀ _ none Set.univ (chk3_ok k), wp_assume_of 𝒱₀ _ none Set.univ (chk2_ok k), wp_assume_of 𝒱₀ _ none Set.univ (chk1_ok L k)]
  rw [wp_bind]
  simp only [dif_pos (cond2_true L k), dif_pos (cond5_true L k)]
  -- the next block's fetch starts, if there is a next block
  iapply (runs_either d L (P := iprop(inFree d L (slot (k.val + 1)) ∗ bigSep (fromB (k.val + 1)) fun b => winPts d L X b))
    (Q := iprop(fetchSlot d L X (k.val + 1) ∗ bigSep (fromB (k.val + 2)) fun b => winPts d L X b)) ?next ?none) $$ [Hin Hwa]
  case next =>
    intro h
    have h3 : k.val < 3 := (cond1_iff L k).mp h
    rw [bigSep_fromB (show k.val + 1 < 4 by omega)]
    iintro ⟨Hin, Hw, Hwa⟩ Hk
    iapply (start_fetch d L X ⟨k.val + 1, by omega⟩ (slot (k.val + 1)) (winBlk_of L ⟨k.val + 1, by omega⟩ (off5_eq L k h3) _ _)
      (inSlot_of (slot (k.val + 1)) (off4_eq k h3) _ _) (inSem_of (slot (k.val + 1)) (off6_eq k h3) _)) $$ [Hin Hw]
    · isplitl [Hin]; · iexact Hin
      iexact Hw
    iintro HF
    iapply Hk
    isplitl [HF]
    · unfold fetchSlot; rw [dif_pos (show k.val + 1 < 4 by omega)]; iexact HF
    · iexact Hwa
  case none =>
    intro h
    have h3 : ¬ k.val < 3 := fun h' => h ((cond1_iff L k).mpr h')
    unfold fetchSlot
    rw [dif_neg (show ¬ k.val + 1 < 4 by omega), fromB_of_le (show 4 ≤ k.val + 1 by omega), fromB_of_le (show 4 ≤ k.val + 2 by omega)]
  · isplitl [Hin]; · iexact Hin
    iexact Hwa
  iintro ⟨HFn, Hwa⟩
  iapply (runs_ret d L _)
  simp only [Prog.bind_assoc, SparseCore.waitIndirectGather, Prog.lift, Prog.bind_op, Prog.bind_ret]
  -- its own block's fetch lands
  ihave HF := (Entails.of_eq (fetchSlot_lt d L X hk)) $$ HF
  iapply (wait_fetch d L X ⟨k.val, hk⟩ (slot k.val) (inSlot_of (slot k.val) (off7_eq k) _ _) (inSem_of (slot k.val) (off9_eq k) _)) $$ [HF HO]
  · isplitl [HF]; · iexact HF
    isplitl [HO]; · iexact HO
    iexact Hmw
  iintro ⟨Hi, Hw, Hiz, HO⟩
  -- the gather
  icases Hout with ⟨Hoz, Ho⟩
  iapply (start_gather d L q T X hX ⟨k.val, hk⟩ (slot k.val) rfl (outSlot_of (slot k.val) (off10_eq k) _ _)
    (congrArg (fun m : Memref sig .scVector .vmem S1x128 .i32 =>
      (m.slice (Rect.unit (s := S1x128) ![0, 0] S1x128.size inb_S1x128_S1x128_0_0) (fun _ => rfl)).squeeze S128 squeezes_S1x128_S128)
      (inSlot_of (slot k.val) (off11_eq k) _ _)) gatSem_eq) $$ [Hgz Ht Hi Ho]
  · isplitl [Hgz]; · iexact Hgz
    isplitl [Ht]; · iexact Ht
    isplitl [Hi]; · iexact Hi
    iexact Ho
  iintro HG
  -- the gathered rows land
  iapply (wait_gather d L q T X ⟨k.val, hk⟩ (slot k.val) (outSlot_of (slot k.val) (off10_eq k) _ _) gatSem_eq) $$ [HG HO]
  · isplitl [HG]; · iexact HG
    isplitl [HO]; · iexact HO
    iexact Hmw
  iintro ⟨Ho, Ht, Hi, Hgz, HO⟩
  -- their write-back starts
  ihave Hra := (Entails.of_eq (bigSep_fromB hk fun b => rowAny (F := F) d L b)) $$ Hra
  icases Hra with ⟨Hr, Hra⟩
  iapply (start_write d L T X ⟨k.val, hk⟩ (slot k.val) (outSlot_of (slot k.val) (off12_eq k) _ _)
    (rowBlk_of L ⟨k.val, hk⟩ (off13_eq L k) _ _) (outSem_of (slot k.val) (off14_eq k) _)) $$ [Ho Hoz Hr]
  · isplitl [Ho]; · iexact Ho
    isplitl [Hoz]; · iexact Hoz
    iexact Hr
  iintro HWn
  -- the write-back before it lands, if there is one
  iapply (runs_either d L (P := iprop(writeSlot d L T X k.val ∗ (bigSep (belowB (k.val - 1)) fun b => rowDone d L T X b)
      ∗ owes (tileOf d L) O (insert (SemLoc.dma gatSem, none) (insert (SemLoc.dma (inSem (slot k.val)), none) W₀))
      ∗ Transfers.MayWaits (tileOf d L) (none : HIx 1) O))
    (Q := iprop(outFree d L (slot (k.val + 1)) ∗ (bigSep (belowB k.val) fun b => rowDone d L T X b) ∗ owing d L O W)) ?landed ?first) $$ [HW Hrb HO]
  case landed =>
    intro h
    have h1 : 1 ≤ k.val := (cond7_iff L k).mp h
    iintro ⟨HW, Hrb, HO, Hmw⟩ Hk
    iapply (settle d L T X O _ k.val h1 hk.le (rowBlk_of L ⟨k.val - 1, by omega⟩ (off16_eq L k h1) _ _)
      (outSem_of (slot (k.val - 1)) (off17_eq k h1) _)) $$ [HW Hrb HO Hmw]
    · isplitl [HW]; · iexact HW
      isplitl [Hrb]; · iexact Hrb
      isplitl [HO]; · iexact HO
      iexact Hmw
    iintro ⟨Hout, Hrb, HO⟩
    iapply Hk
    isplitl [Hout]; · iexact Hout
    isplitl [Hrb]; · iexact Hrb
    iexists _
    isplitr
    swap; · iexact HO
    ipureintro
    exact recorded W (recorded W (recorded W hW₀ _) _) _
  case first =>
    intro h
    have h0 : k.val = 0 := Nat.eq_zero_of_not_pos fun h' => h ((cond7_iff L k).mpr h')
    rw [h0, writeSlot_zero]
    iintro ⟨HW, Hrb, HO, -⟩
    isplitl [HW]; · iexact HW
    isplitl [Hrb]; · iexact Hrb
    iexists _
    isplitr
    swap; · iexact HO
    ipureintro
    exact recorded W (recorded W hW₀ _) _
  · isplitl [HW]; · iexact HW
    isplitl [Hrb]; · iexact Hrb
    isplitl [HO]; · iexact HO
    iexact Hmw
  iintro ⟨Hout, Hrb, HO⟩
  iapply (runs_ret d L _)
  isplitr; · iexact Hmw
  isplitr
  · ipureintro; exact nextWords_eq L k
  isplitl [HO]; · iexact HO
  isplitl [HFn]; · iexact HFn
  isplitl [Hiz Hi]
  · rw [slot_add_two]
    isplitl [Hiz]; · iexact Hiz
    iexact Hi
  isplitl [HWn]
  · rw [writeSlot_succ d L T X hk, slot_add_two]; iexact HWn
  isplitl [Hout]; · iexact Hout
  isplitl [Hgz]; · iexact Hgz
  isplitl [Ht]; · iexact Ht
  isplitl [Hwa]; · iexact Hwa
  isplitl [Hw Hwb]
  · rw [bigSep_belowB hk]
    isplitl [Hw]; · iexact Hw
    iexact Hwb
  isplitl [Hra]; · iexact Hra
  iexact Hrb

/-- The two slots of each ring, nothing under way in them, and the gather's cell. -/
abbrev ringsFree : sProp 𝕄 :=
  iprop(inFree d L 0 ∗ inFree d L 1 ∗ outFree d L 0 ∗ outFree d L 1 ∗ atZero d L gatSem)

set_option maxHeartbeats 2000000 in
/-- The whole walk: from its blocks of winners, its blocks of rows at anything and its share of the table, the task
    leaves its blocks of rows holding the rows its winners name. -/
theorem walk (hX : InRange X) :
    iprop(Transfers.MayWaits (tileOf d L) (none : HIx 1) O ∗ owes (tileOf d L) O W ∗ ringsFree d L ∗ tabPts d q T
        ∗ (bigSep Finset.univ fun b => winPts d L X b) ∗ bigSep Finset.univ fun b => rowAny d L b)
      ⊢ runs d L (fun _ => iprop(owing d L O W ∗ ringsFree d L ∗ tabPts d q T
          ∗ (bigSep Finset.univ fun b => winPts d L X b) ∗ bigSep Finset.univ fun b => rowDone d L T X b))
          (cc0_kern L tabM (Memref.isWhole_whole _) winM (Memref.isWhole_whole _) rowM (Memref.isWhole_whole _) inM (Memref.isWhole_whole _)
            cc0_scoped1 outM (Memref.isWhole_whole _) cc0_scoped3 cc0_scoped4) := by
  simp only [cc0_kern_eq_skeleton]
  unfold cc0_kern_skel
  simp only [k0_part3_eq_skeleton, k0_part4_eq_skeleton]
  unfold k0_part3_skel k0_part4_skel
  simp only [Prog.lift, Prog.bind_op, Prog.bind_ret, Prog.pure_eq_ret, Prog.bind_assoc]
  iintro ⟨#Hmw, HO, ⟨Hi0, Hi1, Ho0, Ho1, Hgz⟩, Ht, Hw, Hr⟩
  ihave Hw := (Entails.of_eq (show (bigSep Finset.univ fun b => winPts (F := F) d L X b) = _ by
    rw [← fromB_zero, bigSep_fromB (show 0 < 4 by decide)])) $$ Hw
  icases Hw with ⟨Hw0, Hwa⟩
  iapply (start_fetch d L X 0 0 (winBlk_of L 0 (off2_eq L) _ _) (inSlot_of 0 off1_eq _ _) (inSem_of 0 off3_eq _)) $$ [Hi0 Hw0]
  · isplitl [Hi0]; · iexact Hi0
    iexact Hw0
  iintro HF
  unfold runs
  sl_for (fun k acc => iprop(Transfers.MayWaits (tileOf d L) (none : HIx 1) O ∗ before d L q T X O W k acc)) $$ [HO HF Hi1 Ho0 Ho1 Hgz Ht Hwa Hr]
  · intro k acc
    exact trip d L q T X O W hX k acc
  · isplitr; · iexact Hmw
    unfold before
    isplitr; · ipureintro; rfl
    isplitl [HO]
    · iexists W
      isplitr; · ipureintro; exact fun p hp => .inl hp
      iexact HO
    isplitl [HF]; · rw [fetchSlot_lt d L X (show 0 < 4 by decide)]; iexact HF
    isplitl [Hi1]; · iexact Hi1
    isplitl [Ho1]; · rw [writeSlot_zero]; iexact Ho1
    isplitl [Ho0]; · iexact Ho0
    isplitl [Hgz]; · iexact Hgz
    isplitl [Ht]; · iexact Ht
    isplitl [Hwa]; · iexact Hwa
    isplitr; · iapply (none_below fun b => winPts d L X b); iempintro
    isplitl [Hr]; · rw [fromB_zero]; iexact Hr
    iapply (none_below fun b => rowDone d L T X b); iempintro
  iintro %acc ⟨-, HI⟩
  ihave HI := (show before d L q T X O W (Scf.trips k0_t1_loop.lb k0_t1_loop.ub k0_t1_loop.st) acc ⊢ before d L q T X O W 4 acc from
    Entails.of_eq (congrArg (fun n => before d L q T X O W n acc) trips_four)) $$ HI
  unfold before
  icases HI with ⟨%hacc, ⟨%W₁, %hW₁, HO⟩, HF, Hin, HW, Hout, Hgz, Ht, -, Hwb, -, Hrb⟩
  subst hacc
  sl_respell [walk.sl.prog.cont_1]
  simp only [wp_assume_of 𝒱₀ _ none Set.univ (show k0_chk5 L (carried 4).2.2.2.2 from chk5_ok L),
    wp_assume_of 𝒱₀ _ none Set.univ (show k0_chk4 (carried 4).2.2.2.1 from chk4_ok)]
  -- the last write-back lands
  iapply (settle d L T X O W₁ 4 (by decide) (le_refl 4) (rowBlk_of L 3 (off19_eq L) _ _) (outSem_of 1 off20_eq _)) $$ [HW Hrb HO]
  · isplitl [HW]; · iexact HW
    isplitl [Hrb]; · iexact Hrb
    isplitl [HO]; · iexact HO
    iexact Hmw
  iintro ⟨Hout1, Hrb, HO⟩
  iapply (runs_ret d L _)
  isplitl [HO]
  · iexists _
    isplitr
    swap; · iexact HO
    ipureintro
    exact recorded W hW₁ _
  isplitl [HF Hin Hout Hout1 Hgz]
  · isplitl [HF]; · iapply (Entails.of_eq (fetchSlot_four d L X)); iexact HF
    isplitl [Hin]; · iexact Hin
    isplitl [Hout]; · iexact Hout
    isplitl [Hout1]; · iexact Hout1
    iexact Hgz
  isplitl [Ht]; · iexact Ht
  isplitl [Hwb]; · iapply (Entails.of_eq (congrArg (fun s => bigSep s fun b => winPts (F := F) d L X b) belowB_four)); iexact Hwb
  iapply (Entails.of_eq (congrArg (fun s => bigSep s fun b => rowDone (F := F) d L T X b) belowB_four)); iexact Hrb

end Walk

end Cert.Proof.Gather

end
-- ==== Proof.Tasks.lean ====
/-
  How the memory is dealt to the tasks. The thirty-two tasks' four blocks are 128 blocks of 128 winners, which are all
  the winners, and the rows likewise; of the table each task has one thirty-second share. A task's own scratch memory is
  the two input slots and the two output slots, and its cells are theirs and the gather's.
-/
module

public import proofs.«01_k».proof.Proof.Walk
public import Idealize.ShloMosaic.Lib.ShareLeaves

@[expose] public section

set_option maxRecDepth 16384

noncomputable section

namespace Cert.Proof.Gather

open Cert.DecodeIdeal Cert.DecodeIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tasks -/

/-- The task on subcore `s` of core `c`. -/
def taskAt (c : Fin (grid0.bound 0)) (s : Fin (grid0.bound 1)) : grid0.Coords :=
  fun | 0 => c | 1 => s | ⟨_ + 2, h⟩ => absurd h (Nat.not_lt.2 (Nat.le_add_left _ _))

/-- A block of the call: core, subcore, block of the task. -/
abbrev Blk : Type := Fin 2 × Fin 16 × Fin 4

abbrev taskOf (x : Blk) : grid0.Coords := taskAt x.1 x.2.1
abbrev startOf (x : Blk) : ℕ := start (taskOf x) x.2.2.val

theorem startOf_eq (x : Blk) : startOf x = 128 * (64 * x.1.val + 4 * x.2.1.val + x.2.2.val) := by
  show 512 * x.2.1.val + 8192 * x.1.val + 128 * x.2.2.val = _
  omega

/-- Different blocks lie apart. -/
theorem startOf_apart {x y : Blk} (h : x ≠ y) : startOf x + 128 ≤ startOf y ∨ startOf y + 128 ≤ startOf x := by
  obtain ⟨a, b, c⟩ := x
  obtain ⟨a', b', c'⟩ := y
  have hne : 64 * a.val + 4 * b.val + c.val ≠ 64 * a'.val + 4 * b'.val + c'.val := by
    intro e
    refine h ?_
    have h1 : a.val = a'.val := by omega
    have h2 : b.val = b'.val := by omega
    have h3 : c.val = c'.val := by omega
    rw [Fin.ext h1, Fin.ext h2, Fin.ext h3]
  rw [startOf_eq, startOf_eq]
  show 128 * (64 * a.val + 4 * b.val + c.val) + 128 ≤ 128 * (64 * a'.val + 4 * b'.val + c'.val)
    ∨ 128 * (64 * a'.val + 4 * b'.val + c'.val) + 128 ≤ 128 * (64 * a.val + 4 * b.val + c.val)
  omega

/-- Every place below 16384 is in a block. -/
theorem startOf_cover (n : ℕ) (h : n < 16384) : ∃ x : Blk, startOf x ≤ n ∧ n < startOf x + 128 := by
  refine ⟨(⟨n / 8192, by omega⟩, ⟨n / 512 % 16, by omega⟩, ⟨n / 128 % 4, by omega⟩), ?_⟩
  rw [startOf_eq]
  show 128 * (64 * (n / 8192) + 4 * (n / 512 % 16) + n / 128 % 4) ≤ n ∧ n < 128 * (64 * (n / 8192) + 4 * (n / 512 % 16) + n / 128 % 4) + 128
  omega

/-! ## The blocks of the winners and of the rows -/

theorem set_winBlk (i : grid0.Coords) (b : Fin 4) :
    (winBlk i b).view.set = (Rect.unit (s := S1x16384) ![0, start i b.val] S1x128.size (win_inb i b)).set := by
  show ((View.whole (main_v2_scv : Ref sig .scVector)).slice _).set = _
  rw [View.set_slice]; exact Finset.map_refl
theorem set_rowBlk (i : grid0.Coords) (b : Fin 4) :
    (rowBlk i b).view.set = (Rect.unit (s := S16384x128) ![start i b.val, 0] S128x128.size (row_inb i b)).set := by
  show ((View.whole (main_v3_scv : Ref sig .scVector)).slice _).set = _
  rw [View.set_slice]; exact Finset.map_refl
theorem set_tabAll : (tabAll).view.set = Finset.univ := by
  show ((View.whole (main_v1_scv : Ref sig .scVector)).slice _).set = _
  rw [View.set_slice]
  refine (Finset.map_refl).trans (Finset.eq_univ_iff_forall.mpr fun x => Rect.mem_set_unit.mpr fun a => ?_)
  match a with
  | 0 => exact ⟨Nat.zero_le _, by have h : (x 0).val < 8192 := (x 0).isLt; show (x 0).val < 0 + 8192; omega⟩
  | 1 => exact ⟨Nat.zero_le _, by have h : (x 1).val < 128 := (x 1).isLt; show (x 1).val < 0 + 128; omega⟩

abbrev winSet (x : Blk) : Finset S1x16384.Idx := (winBlk (taskOf x) x.2.2).view.set
abbrev rowSet (x : Blk) : Finset S16384x128.Idx := (rowBlk (taskOf x) x.2.2).view.set

theorem winSets_disjoint : ∀ x ∈ (Finset.univ : Finset Blk), ∀ y ∈ (Finset.univ : Finset Blk), x ≠ y → Disjoint (winSet x) (winSet y) := fun x _ y _ h => by
  unfold winSet
  rw [set_winBlk, set_winBlk]
  exact Rect.unit_disjoint 1 (startOf_apart h)
theorem rowSets_disjoint : ∀ x ∈ (Finset.univ : Finset Blk), ∀ y ∈ (Finset.univ : Finset Blk), x ≠ y → Disjoint (rowSet x) (rowSet y) := fun x _ y _ h => by
  unfold rowSet
  rw [set_rowBlk, set_rowBlk]
  exact Rect.unit_disjoint 0 (startOf_apart h)
theorem winSets_cover : (Finset.univ : Finset Blk).biUnion winSet = Finset.univ := by
  refine Finset.eq_univ_iff_forall.mpr fun j => Finset.mem_biUnion.mpr ?_
  obtain ⟨x, hx⟩ := startOf_cover (j 1).val (j 1).isLt
  refine ⟨x, Finset.mem_univ _, ?_⟩
  unfold winSet
  rw [set_winBlk]
  refine Rect.mem_set_unit.mpr fun a => ?_
  match a with
  | 0 => exact ⟨Nat.zero_le _, by have h : (j 0).val < 1 := (j 0).isLt; show (j 0).val < 0 + 1; omega⟩
  | 1 => exact hx
theorem rowSets_cover : (Finset.univ : Finset Blk).biUnion rowSet = Finset.univ := by
  refine Finset.eq_univ_iff_forall.mpr fun j => Finset.mem_biUnion.mpr ?_
  obtain ⟨x, hx⟩ := startOf_cover (j 0).val (j 0).isLt
  refine ⟨x, Finset.mem_univ _, ?_⟩
  unfold rowSet
  rw [set_rowBlk]
  refine Rect.mem_set_unit.mpr fun a => ?_
  match a with
  | 0 => exact hx
  | 1 => exact ⟨Nat.zero_le _, by have h : (j 1).val < 128 := (j 1).isLt; show (j 1).val < 0 + 128; omega⟩

/-! ## The deal -/

/-- The share of the table the task on subcore `s` of core `c` has. -/
abbrev shareAt (c : Fin 2) (s : Fin 16) : PosShare TreeShare := ShareLeaves.leaf 5 fullShare (@finProdFinEquiv 2 16 (c, s))

theorem wins_dealt (d : Dev nD) (X : S1x16384.Idx → Elt F .i32) :
    (wLoc d ↦{fullShare} X : sProp 𝕄)
      = bigSep Finset.univ fun c : Fin 2 => bigSep Finset.univ fun s : Fin 16 => bigSep Finset.univ fun b : Fin 4 => winPts d (taskAt c s) X b := by
  have h : (wLoc d ↦{fullShare} X : sProp 𝕄) = bigSep Finset.univ fun x : Blk => wLoc d ↦[winSet x]{fullShare} X := by
    rw [← pointsTo_biUnion Finset.univ (ℓ := wLoc d) winSet winSets_disjoint, winSets_cover]; try rfl
  rw [h, bigSep_univ_prod]
  exact bigSep_congr fun c _ => bigSep_univ_prod _
theorem rows_dealt (d : Dev nD) (f : S16384x128.Idx → Elt F .f32) :
    (rLoc d ↦{fullShare} f : sProp 𝕄)
      = bigSep Finset.univ fun c : Fin 2 => bigSep Finset.univ fun s : Fin 16 => bigSep Finset.univ fun b : Fin 4 =>
          rLoc d ↦[(rowBlk (taskAt c s) b).view.set]{fullShare} f := by
  have h : (rLoc d ↦{fullShare} f : sProp 𝕄) = bigSep Finset.univ fun x : Blk => rLoc d ↦[rowSet x]{fullShare} f := by
    rw [← pointsTo_biUnion Finset.univ (ℓ := rLoc d) rowSet rowSets_disjoint, rowSets_cover]; try rfl
  rw [h, bigSep_univ_prod]
  exact bigSep_congr fun c _ => bigSep_univ_prod _
theorem table_dealt (d : Dev nD) (T : S8192x128.Idx → Elt F .f32) :
    (tLoc d ↦{fullShare} T : sProp 𝕄)
      = bigSep Finset.univ fun c : Fin 2 => bigSep Finset.univ fun s : Fin 16 => tabPts d (shareAt c s) T := by
  unfold tabPts
  rw [set_tabAll]
  refine (ShareLeaves.pointsTo_leaves (ℓ := tLoc d) Finset.univ T 5 fullShare).trans ?_
  refine (bigSep_univ_equiv (@finProdFinEquiv 2 16) _).trans ?_
  exact bigSep_univ_prod _

/-! ## A task's scratch -/

section Scratch

variable (d : Dev nD) (L : grid0.Coords)

theorem set_inSlot (s : Fin 2) : (inSlot s).view.set = (Rect.unit (s := S2x1x128) ![s.val, 0, 0] S1x1x128.size (in_inb s)).set := by
  show (((View.whole (cc0_scoped0 : Ref sig .scVector)).slice _).reshape S1x128 _).set = _
  rw [View.set_reshape, View.set_slice]; exact Finset.map_refl
theorem set_outSlot (s : Fin 2) : (outSlot s).view.set = (Rect.unit (s := S2x128x128) ![s.val, 0, 0] S1x128x128.size (out_inb s)).set := by
  show (((View.whole (cc0_scoped2 : Ref sig .scVector)).slice _).reshape S128x128 _).set = _
  rw [View.set_reshape, View.set_slice]; exact Finset.map_refl

abbrev inSet (s : Fin 2) : Finset S2x1x128.Idx := (inSlot s).view.set
abbrev outSet (s : Fin 2) : Finset S2x128x128.Idx := (outSlot s).view.set

theorem slots_apart {s t : Fin 2} (h : s ≠ t) : s.val + 1 ≤ t.val ∨ t.val + 1 ≤ s.val := by omega

theorem inSets_disjoint : ∀ s ∈ (Finset.univ : Finset (Fin 2)), ∀ t ∈ (Finset.univ : Finset (Fin 2)), s ≠ t → Disjoint (inSet s) (inSet t) := fun s _ t _ h => by
  unfold inSet
  rw [set_inSlot, set_inSlot]
  exact Rect.unit_disjoint 0 (slots_apart h)
theorem outSets_disjoint : ∀ s ∈ (Finset.univ : Finset (Fin 2)), ∀ t ∈ (Finset.univ : Finset (Fin 2)), s ≠ t → Disjoint (outSet s) (outSet t) := fun s _ t _ h => by
  unfold outSet
  rw [set_outSlot, set_outSlot]
  exact Rect.unit_disjoint 0 (slots_apart h)
theorem inSets_cover : (Finset.univ : Finset (Fin 2)).biUnion inSet = Finset.univ := by
  refine Finset.eq_univ_iff_forall.mpr fun j => Finset.mem_biUnion.mpr ⟨(j 0 : Fin 2), Finset.mem_univ (α := Fin 2) _, ?_⟩
  rw [show inSet (j 0 : Fin 2) = _ from set_inSlot _]
  refine Rect.mem_set_unit.mpr fun a => ?_
  match a with
  | 0 => exact ⟨Nat.le_refl _, Nat.lt_succ_self _⟩
  | 1 => exact ⟨Nat.zero_le _, by have h : (j 1).val < 1 := (j 1).isLt; show (j 1).val < 0 + 1; omega⟩
  | 2 => exact ⟨Nat.zero_le _, by have h : (j 2).val < 128 := (j 2).isLt; show (j 2).val < 0 + 128; omega⟩
theorem outSets_cover : (Finset.univ : Finset (Fin 2)).biUnion outSet = Finset.univ := by
  refine Finset.eq_univ_iff_forall.mpr fun j => Finset.mem_biUnion.mpr ⟨(j 0 : Fin 2), Finset.mem_univ (α := Fin 2) _, ?_⟩
  rw [show outSet (j 0 : Fin 2) = _ from set_outSlot _]
  refine Rect.mem_set_unit.mpr fun a => ?_
  match a with
  | 0 => exact ⟨Nat.le_refl _, Nat.lt_succ_self _⟩
  | 1 => exact ⟨Nat.zero_le _, by have h : (j 1).val < 128 := (j 1).isLt; show (j 1).val < 0 + 128; omega⟩
  | 2 => exact ⟨Nat.zero_le _, by have h : (j 2).val < 128 := (j 2).isLt; show (j 2).val < 0 + 128; omega⟩

abbrev iLoc : Loc nD τ sig := (tileOf d L).loc cc0_scoped0
abbrev oLoc : Loc nD τ sig := (tileOf d L).loc cc0_scoped2

theorem in_split (f : Buf (Elt F) (iLoc d L)) : (iLoc d L ↦{fullShare} f : sProp 𝕄) ⊢ iprop(inAny d L 0 ∗ inAny d L 1) := by
  have h : (iLoc d L ↦{fullShare} f : sProp 𝕄) = bigSep Finset.univ fun s : Fin 2 => iLoc d L ↦[inSet s]{fullShare} f := by
    rw [← pointsTo_biUnion Finset.univ (ℓ := iLoc d L) inSet inSets_disjoint, inSets_cover]; try rfl
  rw [h, bigSep_univ_two]
  iintro ⟨H0, H1⟩
  isplitl [H0]
  · iexists f; iexact H0
  · iexists f; iexact H1
theorem out_split (f : Buf (Elt F) (oLoc d L)) : (oLoc d L ↦{fullShare} f : sProp 𝕄) ⊢ iprop(outAny d L 0 ∗ outAny d L 1) := by
  have h : (oLoc d L ↦{fullShare} f : sProp 𝕄) = bigSep Finset.univ fun s : Fin 2 => oLoc d L ↦[outSet s]{fullShare} f := by
    rw [← pointsTo_biUnion Finset.univ (ℓ := oLoc d L) outSet outSets_disjoint, outSets_cover]; try rfl
  rw [h, bigSep_univ_two]
  iintro ⟨H0, H1⟩
  isplitl [H0]
  · iexists f; iexact H0
  · iexists f; iexact H1

theorem in_join : (iprop(inAny d L 0 ∗ inAny d L 1) : sProp 𝕄) ⊢ iprop(∃ f, iLoc d L ↦{fullShare} f) := by
  iintro ⟨⟨%f, Hf⟩, %g, Hg⟩
  ihave H := (Entails.of_eq (bigSep_univ_two (M := 𝕄) (fun s : Fin 2 => iLoc d L ↦[inSet s]{fullShare} (![f, g] s))).symm) $$ [Hf Hg]
  · isplitl [Hf]; · iexact Hf
    iexact Hg
  ihave H' := (pointsTo_biUnion_join (ℓ := iLoc d L) (q := fullShare) (Val := Elt F) Finset.univ inSet ![f, g] f inSets_disjoint) $$ H
  icases H' with ⟨%e, -, He⟩
  rw [inSets_cover]
  iexists e; iexact He
theorem out_join : (iprop(outAny d L 0 ∗ outAny d L 1) : sProp 𝕄) ⊢ iprop(∃ f, oLoc d L ↦{fullShare} f) := by
  iintro ⟨⟨%f, Hf⟩, %g, Hg⟩
  ihave H := (Entails.of_eq (bigSep_univ_two (M := 𝕄) (fun s : Fin 2 => oLoc d L ↦[outSet s]{fullShare} (![f, g] s))).symm) $$ [Hf Hg]
  · isplitl [Hf]; · iexact Hf
    iexact Hg
  ihave H' := (pointsTo_biUnion_join (ℓ := oLoc d L) (q := fullShare) (Val := Elt F) Finset.univ outSet ![f, g] f outSets_disjoint) $$ H
  icases H' with ⟨%e, -, He⟩
  rw [outSets_cover]
  iexists e; iexact He

/-- Cell `n` of the task. -/
abbrev cell (n : Fin 5) : GSem nD τ sig := (tileOf d L, SemLoc.dma ⟨n.val, n.isLt⟩)

theorem cell_ne {n k : Fin 5} (h : n ≠ k) : cell d L n ≠ cell d L k := fun e => h (by
  have h2 := congrArg Prod.snd e
  simp only [cell, SemLoc.dma.injEq, Fin.mk.injEq] at h2
  exact Fin.ext (by simpa using h2))
theorem cell_own (n : Fin 5) : cell d L n ∈ ownCells (tileOf d L) :=
  (mem_ownCells (g := cell d L n)).mpr ⟨rfl, by
    show (SemLoc.dma ⟨n.val, n.isLt⟩ : SemLoc sig).isScoped .scVector = true
    revert n; decide⟩

/-- The task's cells besides the kernel's five, and its buffers besides the kernel's two. -/
abbrev cellsLeft : Finset (GSem nD τ sig) :=
  (((((ownCells (tileOf d L)).erase (cell d L 0)).erase (cell d L 1)).erase (cell d L 2)).erase (cell d L 3)).erase (cell d L 4)
abbrev bufsLeft : Finset (DevRef τ sig) :=
  ((ownRefs (τ := τ) (tileOf d L).2).erase ((tileOf d L).2.devRef cc0_scoped0)).erase ((tileOf d L).2.devRef cc0_scoped2)

theorem sems_eq : (ownSems0 (tileOf d L) : sProp 𝕄)
    = iprop(semVal (cell d L 0) 0 ∗ semVal (cell d L 1) 0 ∗ semVal (cell d L 2) 0 ∗ semVal (cell d L 3) 0 ∗ semVal (cell d L 4) 0
        ∗ bigSep (cellsLeft d L) fun g => semVal g 0) := by
  unfold SparseCore.Cfg.ownSems0
  rw [SparseCore.bigSep_erase' (cell_own d L 0),
    SparseCore.bigSep_erase' (i := cell d L 1) (by
      refine Finset.mem_erase.mpr ⟨cell_ne d L (by decide), cell_own d L 1⟩),
    SparseCore.bigSep_erase' (i := cell d L 2) (by
      refine Finset.mem_erase.mpr ⟨cell_ne d L (by decide), Finset.mem_erase.mpr ⟨cell_ne d L (by decide), cell_own d L 2⟩⟩),
    SparseCore.bigSep_erase' (i := cell d L 3) (by
      refine Finset.mem_erase.mpr ⟨cell_ne d L (by decide), Finset.mem_erase.mpr ⟨cell_ne d L (by decide),
        Finset.mem_erase.mpr ⟨cell_ne d L (by decide), cell_own d L 3⟩⟩⟩),
    SparseCore.bigSep_erase' (i := cell d L 4) (by
      refine Finset.mem_erase.mpr ⟨cell_ne d L (by decide), Finset.mem_erase.mpr ⟨cell_ne d L (by decide),
        Finset.mem_erase.mpr ⟨cell_ne d L (by decide), Finset.mem_erase.mpr ⟨cell_ne d L (by decide), cell_own d L 4⟩⟩⟩⟩)]

theorem bufs_eq : (ownBufs (tileOf d L) : sProp 𝕄)
    = iprop((∃ f, iLoc d L ↦{fullShare} f) ∗ (∃ f, oLoc d L ↦{fullShare} f)
        ∗ bigSep (bufsLeft d L) fun b => iprop(∃ f, ((d, b) : Loc nD τ sig) ↦{fullShare} f)) := by
  unfold SparseCore.Cfg.ownBufs
  refine (SparseCore.bigSep_erase' (SparseCore.Cfg.mem_ownRefs_of_owner (p := (tileOf d L).2)
    (b := (tileOf d L).2.devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := (tileOf d L).2) (b := (tileOf d L).2.devRef cc0_scoped2) rfl⟩)]

/-- What a task's scratch holds besides the rings. -/
abbrev scratchLeft : sProp 𝕄 :=
  iprop((bigSep (cellsLeft d L) fun g => semVal g 0) ∗ bigSep (bufsLeft d L) fun b => iprop(∃ f, ((d, b) : Loc nD τ sig) ↦{fullShare} f))

/-- A task's scratch is the rings with nothing under way, and the rest. -/
theorem rings_of_scratch : (iprop(ownBufs (tileOf d L) ∗ ownSems0 (tileOf d L)) : sProp 𝕄) ⊢ iprop(ringsFree d L ∗ scratchLeft d L) := by
  rw [sems_eq, bufs_eq]
  iintro ⟨⟨⟨%f, Hi⟩, ⟨%g, Ho⟩, Hb⟩, H0, H1, H2, H3, H4, Hs⟩
  ihave ⟨Hi0, Hi1⟩ := (in_split d L f) $$ Hi
  ihave ⟨Ho0, Ho1⟩ := (out_split d L g) $$ Ho
  isplitr [Hb Hs]
  · isplitl [H0 Hi0]
    · isplitl [H0]; · iexact H0
      iexact Hi0
    isplitl [H1 Hi1]
    · isplitl [H1]; · iexact H1
      iexact Hi1
    isplitl [H2 Ho0]
    · isplitl [H2]; · iexact H2
      iexact Ho0
    isplitl [H3 Ho1]
    · isplitl [H3]; · iexact H3
      iexact Ho1
    iexact H4
  · isplitl [Hs]; · iexact Hs
    iexact Hb
theorem scratch_of_rings : (iprop(ringsFree d L ∗ scratchLeft d L) : sProp 𝕄) ⊢ iprop(ownBufs (tileOf d L) ∗ ownSems0 (tileOf d L)) := by
  rw [sems_eq, bufs_eq]
  iintro ⟨⟨⟨H0, Hi0⟩, ⟨H1, Hi1⟩, ⟨H2, Ho0⟩, ⟨H3, Ho1⟩, H4⟩, Hs, Hb⟩
  ihave Hi := (in_join d L) $$ [Hi0 Hi1]
  · isplitl [Hi0]; · iexact Hi0
    iexact Hi1
  ihave Ho := (out_join d L) $$ [Ho0 Ho1]
  · isplitl [Ho0]; · iexact Ho0
    iexact Ho1
  isplitl [Hi Ho Hb]
  · isplitl [Hi]; · iexact Hi
    isplitl [Ho]; · iexact Ho
    iexact Hb
  · isplitl [H0]; · iexact H0
    isplitl [H1]; · iexact H1
    isplitl [H2]; · iexact H2
    isplitl [H3]; · iexact H3
    isplitl [H4]; · iexact H4
    iexact Hs

end Scratch

end Cert.Proof.Gather

end
-- ==== Proof.Launch.lean ====
/-
  The run of the whole program. The TensorCore lays the table and the winners out, hands the table, the winners and the
  rows to the two SparseCores, whose thirty-two tasks each gather their blocks (`walk`), takes them back with the rows
  holding what the winners name, and cuts the result out of the rows. `run_main` states what every run ends with: the
  result, the arguments unchanged, every semaphore at zero.
-/
module

public import proofs.«01_k».proof.Proof.Tasks

@[expose] public section

set_option maxRecDepth 16384

noncomputable section

namespace Cert.Proof.Gather

open Cert.DecodeIdeal Cert.DecodeIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_eq : (K (F := F)).nCore 0 = 2 := rfl
theorem nSub_eq : (K (F := F)).nSub 0 = 16 := rfl

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev zLoc (d : Dev nD) : Loc nD τ sig := (SparseCore.T d).loc main_v4

/-- The winners laid out in one row. -/
def winsOf (d : Dev nD) : S1x16384.Idx → Elt F .i32 := shapeCast S1x16384 (m (aLoc d)) shapeCasts_S16384_S1x16384

variable [FloatOps F]

/-- The table: the weights, a row for each neuron, padded to 128 columns. -/
def tableOf (d : Dev nD) : S8192x128.Idx → Elt F .f32 :=
  pad S8192x128 ![0, 0] ![0, 118] ![0, 0] (transpose S8192x10 [1, 0] (m (bLoc d)) transposes_S10x8192_S8192x10_1_0)
    (sitofp .f32 (constantI S_ 32 0#32)) pads_S8192x10_S8192x128_000_01180 h_S_

/-- The result: the first ten columns of the rows the winners name. -/
def resultOf (d : Dev nD) : S16384x10.Idx → Elt F .f32 :=
  extractStridedSlice S16384x10 ![0, 0] (rowsOf (tableOf m d) (winsOf m d)) slices_S16384x128_S16384x10_0_0

/-! ## What the handshakes carry -/

/-- What a task is given, and what it gives back. -/
abbrev given (d : Dev nD) (c : Fin 2) (s : Fin 16) : sProp 𝕄 :=
  iprop(tabPts d (shareAt c s) (tableOf m d) ∗ (bigSep Finset.univ fun b => winPts d (taskAt c s) (winsOf m d) b)
    ∗ bigSep Finset.univ fun b => rowAny d (taskAt c s) b)
abbrev yields (d : Dev nD) (c : Fin 2) (s : Fin 16) : sProp 𝕄 :=
  iprop(tabPts d (shareAt c s) (tableOf m d) ∗ (bigSep Finset.univ fun b => winPts d (taskAt c s) (winsOf m d) b)
    ∗ bigSep Finset.univ fun b => rowDone d (taskAt c s) (tableOf m d) (winsOf m d) b)

def P : (K (F := F)).Pay (nD := nD) (Val := Elt F) (Name := ℕ) (U := UU) where
  st := fun q d c => match q with | 0 => bigSep Finset.univ fun s : Fin 16 => given m d (Fin.cast nCore_eq c) s
  dn := fun q d c => match q with | 0 => bigSep Finset.univ fun s : Fin 16 => yields m d (Fin.cast nCore_eq c) s
  go := fun q d c s => match q with | 0 => given m d (Fin.cast nCore_eq c) (Fin.cast nSub_eq s)
  td := fun q d c s => match q with | 0 => yields m d (Fin.cast nCore_eq c) (Fin.cast nSub_eq s)
  x := fun _ _ => iprop(emp)

instance P_storable : (P (F := F) m).IsStorable where
  st q d c := match q with
    | 0 => (inferInstance : BI.Storable (upEmb : UEmb _ 𝕄) (bigSep Finset.univ fun s : Fin 16 => given m d (Fin.cast nCore_eq c) s))
  dn q d c := match q with
    | 0 => (inferInstance : BI.Storable (upEmb : UEmb _ 𝕄) (bigSep Finset.univ fun s : Fin 16 => yields m d (Fin.cast nCore_eq c) s))
  go q d c s := match q with
    | 0 => (inferInstance : BI.Storable (upEmb : UEmb _ 𝕄) (given m d (Fin.cast nCore_eq c) (Fin.cast nSub_eq s)))
  td q d c s := match q with
    | 0 => (inferInstance : BI.Storable (upEmb : UEmb _ 𝕄) (yields m d (Fin.cast nCore_eq c) (Fin.cast nSub_eq s)))

/-- Every winner the program is given names a row. -/
def AllInRange : Prop := ∀ d : Dev nD, InRange (winsOf m d)

/-! ## A task -/

section Tile

variable [∀ e, Nonempty (Elt F e)]

theorem task (hX : AllInRange m) (d : Dev nD) (c : Fin 2) (s : Fin 16) (O : CellTallies nD τ sig (HIx 1)) (W : Waits sig (HIx 1)) (hO : ∀ g, O g none = 0) :
    iprop(levAts (K (F := F)).L (K (F := F)).lev ∗ emp ∗ given m d c s
        ∗ scopedBufs (tileOf d (taskAt c s)) ∗ scopedSems0 (tileOf d (taskAt c s)) ∗ owes (tileOf d (taskAt c s)) O W)
      ⊢ runs d (taskAt c s) (fun _ => iprop(yields m d c s ∗ scopedBufs (tileOf d (taskAt c s)) ∗ scopedSems0 (tileOf d (taskAt c s))
            ∗ owing d (taskAt c s) O W))
          (cc0_kern (taskAt c s) tabM (Memref.isWhole_whole _) winM (Memref.isWhole_whole _) rowM (Memref.isWhole_whole _) inM (Memref.isWhole_whole _)
            cc0_scoped1 outM (Memref.isWhole_whole _) cc0_scoped3 cc0_scoped4) := by
  rw [(K (F := F)).scopedBufs_V facts d (coreOf (taskAt c s)) (subOf (taskAt c s)),
    SparseCore.Cfg.scopedSems0_V (Val := Elt F) d (coreOf (taskAt c s)) (subOf (taskAt c s))]
  iintro ⟨#Hlv, -, ⟨Ht, Hw, Hr⟩, Hbufs, Hsems, HO⟩
  ihave Hmw := (show levAts (K (F := F)).L (K (F := F)).lev ⊢ Transfers.MayWaits (tileOf d (taskAt c s)) (none : HIx 1) O from
    (K (F := F)).mayWaits_none (thr := tileOf d (taskAt c s)) hO) $$ Hlv
  ihave ⟨Hrings, Hleft⟩ := (rings_of_scratch (F := F) d (taskAt c s)) $$ [Hbufs Hsems]
  · isplitl [Hbufs]; · iexact Hbufs
    iexact Hsems
  ihave H := (walk d (taskAt c s) (shareAt c s) (tableOf m d) (winsOf m d) O W (hX d)) $$ [Hmw HO Hrings Ht Hw Hr]
  · isplitl [Hmw]; · iexact Hmw
    isplitl [HO]; · iexact HO
    isplitl [Hrings]; · iexact Hrings
    isplitl [Ht]; · iexact Ht
    isplitl [Hw]; · iexact Hw
    iexact Hr
  iapply (wp_wand frame (wpE (defs₀ (F := F)) 𝒱₀ (tileOf d (taskAt c s)) none) Set.univ) $$ H
  iintro %_ ⟨HO, Hrings, Ht, Hw, Hr⟩
  ihave ⟨Hbufs, Hsems⟩ := (scratch_of_rings (F := F) d (taskAt c s)) $$ [Hrings Hleft]
  · isplitl [Hrings]; · iexact Hrings
    iexact Hleft
  isplitl [Ht Hw Hr]
  · isplitl [Ht]; · iexact Ht
    isplitl [Hw]; · iexact Hw
    iexact Hr
  isplitl [Hbufs]; · iexact Hbufs
  isplitl [Hsems]; · iexact Hsems
  iexact HO

theorem defs₀_vector (c : Fin τ.nSC) (s : Fin τ.nSub) :
    defs₀ (F := F) (.scVector c s) 0 ()
      = SparseCore.onTile hcore0 hsub0 (fun c s => cc0_kern (taskAt c s) tabM (Memref.isWhole_whole _) winM (Memref.isWhole_whole _)
          rowM (Memref.isWhole_whole _) inM (Memref.isWhole_whole _) cc0_scoped1 outM (Memref.isWhole_whole _) cc0_scoped3 cc0_scoped4) ⟨⟩ c s := rfl

omit [FloatOps F] [∀ e, Nonempty (Elt F e)] in
theorem owed_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hX : AllInRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task m hX d ⟨_, hci.1⟩ ⟨_, hci.2⟩ O W hO).trans (wp_mono frame _ _ fun _ => owed_post)

end Tile

/-- A core's part is its tasks' parts. -/
theorem vecSplit : (K (F := F)).VecSplit' (P m) 0 := by
  intro d c
  show (bigSep Finset.univ fun s : Fin 16 => given m d (Fin.cast nCore_eq c) s) ⊢ |={Set.univ}=> iprop(
      (bigSep Finset.univ fun s : Fin ((K (F := F)).nSub 0) => given m d (Fin.cast nCore_eq c) (Fin.cast nSub_eq s))
      ∗ ((bigSep Finset.univ fun s : Fin ((K (F := F)).nSub 0) => yields m d (Fin.cast nCore_eq c) (Fin.cast nSub_eq s))
          -∗ bigSep Finset.univ fun s : Fin 16 => yields m d (Fin.cast nCore_eq c) s))
  iintro H; imodintro
  isplitl [H]; · iexact H
  iintro H
  iexact H

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [hemp]; iempintro
  rw [show (bigSep Finset.univ fun thr : Thread nD τ => bigSep Finset.univ fun q : Fin 1 => (P (F := F) m).x q thr) = bigSep Finset.univ fun _ => iprop(emp) from
    bigSep_congr fun thr _ => (bigSep_univ_of_subsingleton (0 : Fin 1)).trans (show (P (F := F) m).x 0 thr = iprop(emp) from rfl), hemp]
  iempintro

/-! ## The host's operations -/

abbrev opRows : HloOp τ sig (Elt F) := StableHlo.unary main_arg1 main_v0 (transpose S8192x10 [1, 0] · transposes_S10x8192_S8192x10_1_0)
abbrev opZero : HloOp τ sig (Elt F) := StableHlo.nullary main_c (constantI S_ 32 0#32)
abbrev opFill : HloOp τ sig (Elt F) := StableHlo.unary main_c main_call0_v0 (sitofp .f32)
abbrev opPad : HloOp τ sig (Elt F) := StableHlo.binary main_v0 main_call0_v0 main_v1
  (fun x v => pad S8192x128 ![0, 0] ![0, 118] ![0, 0] x v pads_S8192x10_S8192x128_000_01180 h_S_)
abbrev opLine : HloOp τ sig (Elt F) := StableHlo.reshape main_arg0 main_v2 (rfl : (.i32 : EltTy) = .i32) shapeCasts_S16384_S1x16384
abbrev opCut : HloOp τ sig (Elt F) := StableHlo.unary main_v3 main_v4 (extractStridedSlice S16384x10 ![0, 0] · slices_S16384x128_S16384x10_0_0)

abbrev at0 : DevRef τ sig := Proc.devRef .tc (main_arg0 : Ref sig .tc)
abbrev at1 : DevRef τ sig := Proc.devRef .tc (main_arg1 : Ref sig .tc)
abbrev atRows : DevRef τ sig := Proc.devRef .tc (main_v0 : Ref sig .tc)
abbrev atZ : DevRef τ sig := Proc.devRef .tc (main_c : Ref sig .tc)
abbrev atFill : DevRef τ sig := Proc.devRef .tc (main_call0_v0 : Ref sig .tc)
abbrev atTable : DevRef τ sig := Proc.devRef .tc (main_v1 : Ref sig .tc)
abbrev atWins : DevRef τ sig := Proc.devRef .tc (main_v2 : Ref sig .tc)
abbrev atOut : DevRef τ sig := Proc.devRef .tc (main_v3 : Ref sig .tc)
abbrev atRes : DevRef τ sig := Proc.devRef .tc (main_v4 : Ref sig .tc)

/-- The TensorCore's arrays; those the call uses; those the claims read. -/
abbrev arrays : Finset (DevRef τ sig) := {at0, at1, atRows, atZ, atFill, atTable, atWins, atOut, atRes}
abbrev called : Finset (DevRef τ sig) := {atTable, atWins, atOut}
abbrev kept : Finset (DevRef τ sig) := {at0, at1, atRes}

omit [FloatOps F] in
theorem unscoped_held (d : Dev nD) (W : Valuation τ sig (Elt F)) :
    (unscopedBufs d (fun b => W (Proc.devRef .tc b)) : sProp 𝕄) = held (SparseCore.T d) arrays W := by
  unfold unscopedBufs held arrays
  rw [show (Finset.univ.filter fun b : Ref sig .tc => ¬ b.isScoped)
      = {main_arg0, main_arg1, main_v0, main_c, main_call0_v0, main_v1, main_v2, main_v3, main_v4} by decide]
  iterate 8 rw [SparseCore.bigSep_insert' (by decide)]
  rw [bigSep_singleton]
  iterate 8 rw [SparseCore.bigSep_insert' (by decide)]
  rw [bigSep_singleton]

/-- The contents before the call, after it, and at the end. -/
def V0 (d : Dev nD) : Valuation τ sig (Elt F) := fun b => m (d, b)
abbrev V1 (d : Dev nD) : Valuation τ sig (Elt F) :=
  (opLine (F := F)).result ((opPad (F := F)).result ((opFill (F := F)).result ((opZero (F := F)).result ((opRows (F := F)).result (V0 m d)))))
def V2 (d : Dev nD) : Valuation τ sig (Elt F) := Function.update (V1 m d) atOut (rowsOf (tableOf m d) (winsOf m d))
abbrev V3 (d : Dev nD) : Valuation τ sig (Elt F) := (opCut (F := F)).result (V2 m d)

theorem V1_table (d : Dev nD) : V1 m d atTable = tableOf m d := by
  unfold V1 opLine opPad opFill opZero opRows atTable
  after_results_simp
  rfl
theorem V1_wins (d : Dev nD) : V1 m d atWins = winsOf m d := by
  unfold V1 opLine opPad opFill opZero opRows atWins
  after_results_simp
  rfl
theorem V1_arg0 (d : Dev nD) : V1 m d at0 = m (aLoc d) := by
  unfold V1 opLine opPad opFill opZero opRows at0
  after_results_simp
  rfl
theorem V1_arg1 (d : Dev nD) : V1 m d at1 = m (bLoc d) := by
  unfold V1 opLine opPad opFill opZero opRows at1
  after_results_simp
  rfl

theorem V3_arg0 (d : Dev nD) : V3 m d at0 = m (aLoc d) := by
  unfold V3
  rw [(opCut (F := F)).result_of_not_mem _ (show at0 ∉ ({atRes} : Finset (DevRef τ sig)) by decide)]
  exact (Function.update_of_ne (show at0 ≠ atOut by decide) _ _).trans (V1_arg0 m d)
theorem V3_arg1 (d : Dev nD) : V3 m d at1 = m (bLoc d) := by
  unfold V3
  rw [(opCut (F := F)).result_of_not_mem _ (show at1 ∉ ({atRes} : Finset (DevRef τ sig)) by decide)]
  exact (Function.update_of_ne (show at1 ≠ atOut by decide) _ _).trans (V1_arg1 m d)
theorem V3_res (d : Dev nD) : V3 m d atRes = resultOf m d := by
  refine (StableHlo.unary_result _ _ _ _ _ (V2 m d)).trans ?_
  unfold resultOf
  rw [show V2 m d atOut = rowsOf (tableOf m d) (winsOf m d) from Function.update_self _ _ _]

/-! ## The call's arrays, dealt and gathered in -/

theorem held_called (d : Dev nD) (W : Valuation τ sig (Elt F)) :
    (held (SparseCore.T d) called W : sProp 𝕄)
      = iprop((tLoc d ↦{fullShare} W atTable) ∗ (wLoc d ↦{fullShare} W atWins) ∗ rLoc d ↦{fullShare} W atOut) := by
  unfold held called
  rw [SparseCore.bigSep_insert' (by decide), SparseCore.bigSep_insert' (by decide), bigSep_singleton]
theorem held_kept (d : Dev nD) (W : Valuation τ sig (Elt F)) :
    (held (SparseCore.T d) kept W : sProp 𝕄)
      = iprop((aLoc d ↦{fullShare} W at0) ∗ (bLoc d ↦{fullShare} W at1) ∗ zLoc d ↦{fullShare} W atRes) := by
  unfold held kept
  rw [SparseCore.bigSep_insert' (by decide), SparseCore.bigSep_insert' (by decide), bigSep_singleton]

theorem rowAny_intro (d : Dev nD) (L : grid0.Coords) (b : Fin 4) (f : S16384x128.Idx → Elt F .f32) :
    (rLoc d ↦[(rowBlk L b).view.set]{fullShare} f : sProp 𝕄) ⊢ rowAny d L b := by
  iintro H
  iexists f; iexact H

theorem deal (d : Dev nD) :
    (held (SparseCore.T d) called (V1 m d) : sProp 𝕄) ⊢ bigSep Finset.univ fun c : Fin ((K (F := F)).nCore 0) => (P m).st 0 d c := by
  show _ ⊢ bigSep Finset.univ fun c : Fin 2 => bigSep Finset.univ fun s : Fin 16 => given m d c s
  simp only [given, bigSep_sep']
  rw [held_called, V1_table, V1_wins, table_dealt, wins_dealt, rows_dealt]
  iintro ⟨Ht, Hw, Hr⟩
  isplitl [Ht]; · iexact Ht
  isplitl [Hw]; · iexact Hw
  iapply (show (bigSep Finset.univ fun c : Fin 2 => bigSep Finset.univ fun s : Fin 16 => bigSep Finset.univ fun b : Fin 4 =>
      (rLoc d ↦[(rowBlk (taskAt c s) b).view.set]{fullShare} V1 m d atOut : sProp 𝕄))
      ⊢ bigSep Finset.univ fun c : Fin 2 => bigSep Finset.univ fun s : Fin 16 => bigSep Finset.univ fun b : Fin 4 => rowAny d (taskAt c s) b from
    bigSep_mono fun c _ => bigSep_mono fun s _ => bigSep_mono fun b _ => rowAny_intro d (taskAt c s) b _) $$ Hr

theorem collect (d : Dev nD) :
    (bigSep Finset.univ fun c : Fin ((K (F := F)).nCore 0) => (P m).dn 0 d c) ⊢ (held (SparseCore.T d) called (V2 m d) : sProp 𝕄) := by
  show (bigSep Finset.univ fun c : Fin 2 => bigSep Finset.univ fun s : Fin 16 => yields m d c s) ⊢ _
  simp only [yields, bigSep_sep']
  rw [held_called, show V2 m d atTable = tableOf m d from (Function.update_of_ne (show atTable ≠ atOut by decide) _ _).trans (V1_table m d),
    show V2 m d atWins = winsOf m d from (Function.update_of_ne (show atWins ≠ atOut by decide) _ _).trans (V1_wins m d),
    show V2 m d atOut = rowsOf (tableOf m d) (winsOf m d) from Function.update_self _ _ _, table_dealt, wins_dealt, rows_dealt]

/-! ## @main -/

/-- What is left of the arrays for the claims. -/
abbrev FIN (d : Dev nD) : sProp 𝕄 :=
  iprop((aLoc d ↦{fullShare} m (aLoc d)) ∗ (bLoc d ↦{fullShare} m (bLoc d)) ∗ zLoc d ↦{fullShare} resultOf m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrays (V0 m d) from unscoped_held d (V0 m d)]
  simp only [main, fn_pad.body, wp_bind, wp_pure]
  iintro ⟨#Hctx, Hst, ⟨Hb, Hheld, Hts, -⟩, -⟩
  iapply (wp_hlo_within 𝒱 (SparseCore.T d) none Set.univ (op := opRows) (S := arrays)
    (show ({at1, atRows} : Finset (DevRef τ sig)) ⊆ arrays by decide) (V := V0 m d)) $$ [Hb Hheld]
  · isplitl [Hb] <;> iassumption
  iintro ⟨Hb, Hheld⟩
  rw [wp_ret]; imodintro
  iapply (wp_hlo_within 𝒱 (SparseCore.T d) none Set.univ (op := opZero) (S := arrays)
    (show ({atZ} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opFill) (S := arrays)
    (show ({atZ, atFill} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opPad) (S := arrays)
    (show ({atRows, atFill, atTable} : Finset (DevRef τ sig)) ⊆ arrays by decide)) $$ [Hb Hheld]
  · isplitl [Hb] <;> iassumption
  iintro ⟨Hb, Hheld⟩
  rw [wp_ret]; imodintro; imodintro
  iapply (wp_hlo_within 𝒱 (SparseCore.T d) none Set.univ (op := opLine) (S := arrays)
    (show ({at0, atWins} : Finset (DevRef τ sig)) ⊆ arrays by decide)) $$ [Hb Hheld]
  · isplitl [Hb] <;> iassumption
  iintro ⟨Hb, Hheld⟩
  rw [wp_ret]; imodintro
  ihave Hh := (Entails.of_eq (show (held (SparseCore.T d) arrays (V1 m d) : sProp 𝕄)
      = iprop(held (SparseCore.T d) called (V1 m d) ∗ held (SparseCore.T d) (arrays \ called) (V1 m d)) from
    held_sub_split (SparseCore.T d) (show called ⊆ arrays by decide) (V1 m d))) $$ Hheld
  icases Hh with ⟨Hc, Hrest⟩
  iapply ((K (F := F)).wp_run (D (F := F)) 𝒱 (EH := EH) (P := P m) κ d 0) $$ [Hst Hc Hrest Hb Hts]
  isplitr; · iexact Hctx
  isplitl [Hst]; · iexact Hst
  isplitl [Hc]; · iapply (deal m d) $$ Hc
  iintro ⟨Hst, Hdn⟩
  ihave Hc := (collect m d) $$ Hdn
  ihave Hrest' := (Entails.of_eq (show (held (SparseCore.T d) (arrays \ called) (V1 m d) : sProp 𝕄) = held (SparseCore.T d) (arrays \ called) (V2 m d) from
    held_congr (SparseCore.T d) fun b hb => (Function.update_of_ne (fun e : b = atOut => (Finset.mem_sdiff.mp hb).2 (e ▸ (show atOut ∈ called by decide))) _ _).symm)) $$ Hrest
  iapply (wp_hlo_within 𝒱 (SparseCore.T d) none Set.univ (op := opCut) (S := arrays)
    (show ({atOut, atRes} : Finset (DevRef τ sig)) ⊆ arrays by decide) (V := V2 m d)) $$ [Hb Hc Hrest']
  · isplitl [Hb]; · iexact Hb
    iapply (Entails.of_eq (held_sub_split (SparseCore.T d) (show called ⊆ arrays by decide) (V2 m d)).symm)
    isplitl [Hc]; · iexact Hc
    iexact Hrest'
  iintro ⟨Hb, Hheld⟩
  ihave Hh := (Entails.of_eq (show (held (SparseCore.T d) arrays (V3 m d) : sProp 𝕄)
      = iprop(FIN m d ∗ held (SparseCore.T d) (arrays \ kept) (V3 m d)) by
    rw [held_sub_split (SparseCore.T d) (show kept ⊆ arrays by decide) (V3 m d), held_kept, V3_arg0, V3_arg1, V3_res])) $$ Hheld
  icases Hh with ⟨HF, -⟩
  rw [wp_ret]; imodintro; imodintro
  isplitl [Hst]; · iexact Hst
  isplitl [HF]; · iexact HF
  isplitl [Hb] <;> iassumption

/-- What the claims read of a final state. -/
def fq (d : Dev nD) (s' : Phys nD τ sig (Elt F)) : Prop :=
  s'.mem.mem (zLoc d) = resultOf m d ∧ s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Ha, Hb, Hz⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (SI_pointsTo_agree (st := s') (ℓ := zLoc d) (I := Finset.univ) (q := fullShare) (f := resultOf m d)) $$ [HSI Hz]
  · isplitl [HSI] <;> iassumption
  icases H with %hz
  ipureintro
  exact ⟨funext fun i => hz i (Finset.mem_univ i), funext fun i => ha i (Finset.mem_univ i), funext fun i => hb i (Finset.mem_univ i)⟩

/-- What every run ends with. -/
def Ends : PUnit × MemSt nD τ sig (Elt F) → Prop := fun r =>
  (∀ d : Dev nD, r.2.mem (zLoc d) = resultOf m d ∧ r.2.mem (aLoc d) = m (aLoc d) ∧ r.2.mem (bLoc d) = m (bLoc d)) ∧ r.2.sem = fun _ => 0

theorem run_main [∀ e, Nonempty (Elt F e)] (hX : AllInRange m) :
    θ_run (Cert.DecodeIdeal.defs (F := F)) (Cert.DecodeIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.Gather

end
-- ==== Proof.Chosen.lean ====
/-
  What the claims say the result is: entry (j, k) is the weight from the neuron that won input j to output k.
-/
module

public import Idealize.ShloMosaic.Lib.ValueIdx

@[expose] public section

namespace Cert.Proof

open Idealize.ShloMosaic Idealize.ShloMosaic.ValueIdx

variable {α : Type}

abbrev Winners : Type := (⟨1, ![16384]⟩ : Shape).Idx → BitVec 32
abbrev Weights (α : Type) : Type := (⟨2, ![10, 8192]⟩ : Shape).Idx → α

/-- Every winner is a neuron. -/
def Named (X : Winners) : Prop := ∀ j : Fin 16384, (X (ix1 j)).toNat < 8192

/-- Entry (j, k): the weight of output `k` from the neuron that won input `j`. -/
def chosen (X : Winners) (G : Weights α) : (⟨2, ![16384, 10]⟩ : Shape).Idx → α :=
  fun i => G (ix2 (n0 := 10) (n1 := 8192) (i 1) ⟨(X (ix1 (n := 16384) (i 0))).toNat % 8192, Nat.mod_lt _ (by decide)⟩)

/-- A word that names a neuron is not negative, and is the word of its value. -/
theorem word_not_neg {v : BitVec 32} (h : v.toNat < 8192) : IntOp.cmpi .slt v 0#32 = 0#1 := by
  have e : v.slt 0#32 = false := by
    rw [BitVec.slt_eq_decide, BitVec.toInt_eq_toNat_cond]
    simp only [BitVec.toInt_zero, decide_eq_false_iff_not]; split <;> omega
  simp only [IntOp.cmpi, e]; rfl
theorem word_nonneg {v : BitVec 32} (h : v.toNat < 8192) : IntOp.cmpi .sge v 0#32 = 1#1 := by
  have e : (0#32).sle v = true := by
    rw [BitVec.sle_eq_decide, BitVec.toInt_zero, BitVec.toInt_eq_toNat_cond]
    simp only [decide_eq_true_eq]; split <;> omega
  simp only [IntOp.cmpi, e]; rfl
theorem word_le {v : BitVec 32} (h : v.toNat < 8192) : IntOp.cmpi .sle v 8191#32 = 1#1 := by
  have e : v.sle 8191#32 = true := by
    rw [BitVec.sle_eq_decide, BitVec.toInt_eq_toNat_cond, BitVec.toInt_eq_toNat_cond]
    simp only [BitVec.toNat_ofNat, decide_eq_true_eq]; split <;> omega
  simp only [IntOp.cmpi, e]; rfl
theorem word_of_value {v : BitVec 32} (h : v.toNat < 8192) : v = BitVec.ofNat 32 (v.toNat % 8192) := by
  rw [Nat.mod_eq_of_lt h, BitVec.ofNat_toNat, BitVec.setWidth_eq]

end Cert.Proof

end
-- ==== Proof.Value.lean ====
/-
  What the program's result is, read at an index: the chosen weights. And what the precondition says of the winners.
-/
module

public import proofs.«01_k».proof.Proof.Launch
public import proofs.«01_k».proof.Proof.Chosen
public import proofs.«01_k».proof.Proof.Gen.Pre_winners_in_range
public import Idealize.ShloMosaic.Lib.KernelVsHost
public import Idealize.ShloMosaic.Lib.Routing.Ops

@[expose] public section

set_option maxRecDepth 16384

noncomputable section

namespace Cert.Proof.Gather

open Cert.DecodeIdeal Cert.DecodeIdeal.Gen
open Idealize.ShloMosaic Idealize.ShloMosaic.ValueIdx Idealize.SL.Sem

variable {F : FTy → Type} [FloatOps F] (m : (ℓ : Loc nD τ sig) → Buf (Elt F) ℓ)

/-- The row of winners holds the winners in order. -/
theorem winsOf_at (d : Dev nD) (j : Fin 16384) : winsOf m d (ix2 (0 : Fin 1) j) = m (aLoc d) (ix1 j) := by
  exact Routing.cast12 (m (aLoc d)) shapeCasts_S16384_S1x16384 0 j j (by simp)

/-- Winners that name neurons, laid out in one row, are in range. -/
theorem allInRange (h : ∀ d : Dev nD, Named (m (aLoc d))) : AllInRange m := by
  intro d j
  obtain ⟨a, b, rfl⟩ : ∃ (a : Fin 1) (b : Fin 16384), j = ix2 a b := ⟨j 0, j 1, eq_ix2 j⟩
  obtain rfl : a = 0 := Subsingleton.elim _ _
  rw [winsOf_at]
  exact h d b

/-- The table holds the weights with a neuron's ten in its row's first ten places. -/
theorem tableOf_at (d : Dev nD) (n : Fin 8192) (k : Fin 10) :
    tableOf m d (ix2 n ⟨k.val, by omega⟩ : S8192x128.Idx) = m (bLoc d) (ix2 k n) := by
  unfold tableOf
  refine (pad_apply_of_inside _ _ _ _ _ pads_S8192x10_S8192x128_000_01180 h_S_ _ (ix2 n k : S8192x10.Idx) fun a => ?_).trans ?_
  · match a with
    | ⟨0, _⟩ => show n.val = 0 + n.val * (0 + 1); omega
    | ⟨1, _⟩ => show k.val = 0 + k.val * (0 + 1); omega
  · show transpose _ _ _ _ _ = m (bLoc d) _
    refine congrArg (m (bLoc d)) (funext fun a => ?_)
    match a with
    | ⟨0, _⟩ => rfl
    | ⟨1, _⟩ => rfl

/-- The program's result is the chosen weights. -/
theorem resultOf_eq (d : Dev nD) : resultOf m d = chosen (m (aLoc d)) (m (bLoc d)) := by
  funext i
  obtain ⟨j, k, rfl⟩ : ∃ (j : Fin 16384) (k : Fin 10), i = ix2 j k := ⟨i 0, i 1, eq_ix2 i⟩
  have e : resultOf m d (ix2 j k) = rowsOf (tableOf m d) (winsOf m d) (ix2 j (⟨k.val, by omega⟩ : Fin 128)) := by
    unfold resultOf extractStridedSlice
    refine congrArg (rowsOf (tableOf m d) (winsOf m d)) (funext fun a => Fin.ext ?_)
    match a with
    | ⟨0, _⟩ => exact Nat.zero_add _
    | ⟨1, _⟩ => exact Nat.zero_add _
  rw [e]
  show tableOf m d (ix2 ⟨(winsOf m d (ix2 (0 : Fin 1) j)).toNat % 8192, _⟩ ⟨k.val, _⟩) = m (bLoc d) (ix2 k ⟨(m (aLoc d) (ix1 j)).toNat % 8192, _⟩)
  rw [tableOf_at]
  refine congrArg (m (bLoc d)) (congrArg (ix2 k) (Fin.ext ?_))
  show (winsOf m d (ix2 (0 : Fin 1) j)).toNat % 8192 = _
  rw [winsOf_at]

/-- The precondition says that every winner names a neuron. -/
theorem named_of_pre (X : IVec S16384 32) (G : FVec F S10x8192 .f32)
    (h : Cert.Pre_winners_in_range.fn (F := F) X G = fun _ => 1#1) : Named X := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 8192#32) = 1#1 → v.toNat < 8192 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  intro j
  have e := congrFun h (ix1 j)
  simp only [Cert.Pre_winners_in_range.fn, andi, cmpi, broadcastInDim, constantI] at e
  exact key _ e

end Cert.Proof.Gather

end
-- ==== Proof.RefRows.lean ====
/-
  The reference that takes the winners' rows of the weights: its run leaves the chosen rows.
-/
module

public import proofs.«01_k».proof.Defs
public import proofs.«01_k».proof.Proof.Gen.Rows
public import proofs.«01_k».proof.Proof.Chosen
public import Idealize.ShloMosaic.Lib.Claim
public import Idealize.ShloMosaic.Lib.ReduceAll
public import Idealize.ShloMosaic.Lib.Routing.Ops

@[expose] public section

set_option maxRecDepth 16384

noncomputable section

namespace Cert.Proof.RefRows

open Cert.Rows Cert.Rows.Gen
open Idealize.ShloMosaic Idealize.ShloMosaic.ValueIdx Idealize.SL.Sem

variable {F : FTy → Type} [FloatOps F] [∀ e, Nonempty (Elt F e)]

/-- The winners with the negative ones wrapped, in one column. -/
def wrapped (X : IVec S16384 32) : IVec S16384x1 32 :=
  broadcastInDim S16384x1 ![0] bcast_S16384_S16384x1_0
    (select (cmpi .slt X (broadcastInDim S16384 ![] bcast_S_S16384 (constantI S_ 32 0#32)))
      (addi X (broadcastInDim S16384 ![] bcast_S_S16384 (constantI S_ 32 8192#32))) X)

/-- Which winners name a neuron. -/
def valid (X : IVec S16384 32) : IVec S16384 1 :=
  Host.reduce IntOp.andi
    (andi (cmpi .sge (wrapped X) (broadcastInDim S16384x1 ![] bcast_S_S16384x1 (constantI S_ 32 0#32)))
      (cmpi .sle (wrapped X) (broadcastInDim S16384x1 ![0, 1] bcast_S1x1_S16384x1_0_1 (broadcastInDim S1x1 ![1] bcast_S1_S1x1_1 (constantI S1 32 8191#32)))))
    (constantI S_ 1 1#1) reducesTo_S16384x1_S16384_d1 h_S_

/-- The reference's result over its arguments. -/
def term (X : IVec S16384 32) (G : FVec F S10x8192 .f32) : FVec F S16384x10 .f32 :=
  select (broadcastInDim S16384x10 ![0] bcast_S16384_S16384x10_0 (valid X))
    (Host.gather gather_S8192x10_S16384x1_S16384x10_1_0_n_n_0_1_110 (transpose S8192x10 [1, 0] G transposes_S10x8192_S8192x10_1_0) (wrapped X))
    (broadcastInDim S16384x10 ![] bcast_S_S16384x10 (constant S_ .f32 0x7FC00000#32))

theorem wrapped_eq (X : IVec S16384 32) (hX : Named X) (i : Fin 16384) : wrapped X (ix2 i (0 : Fin 1)) = X (ix1 i) := by
  unfold wrapped
  refine (Routing.bcCol (n := 16384) bcast_S16384_S16384x1_0 _ i).trans ?_
  show Scalar.select (IntOp.cmpi .slt (X (ix1 i)) 0#32) _ _ = _
  rw [word_not_neg (hX i)]; rfl

theorem valid_eq (X : IVec S16384 32) (hX : Named X) (j : S16384.Idx) : valid X j = 1#1 := by
  refine Host.reduce_andi_one _ _ _ _ _ rfl fun i => ?_
  obtain ⟨a, b, rfl⟩ : ∃ (a : Fin 16384) (b : Fin 1), i = ix2 a b := ⟨i 0, i 1, eq_ix2 i⟩
  obtain rfl : b = 0 := Subsingleton.elim _ _
  show IntOp.andi (IntOp.cmpi .sge (wrapped X (ix2 a 0)) 0#32) (IntOp.cmpi .sle (wrapped X (ix2 a 0)) 8191#32) = 1#1
  rw [wrapped_eq X hX, word_nonneg (hX a), word_le (hX a)]; rfl

theorem term_eq (X : IVec S16384 32) (G : FVec F S10x8192 .f32) (hX : Named X) : term X G = chosen X G := by
  funext i
  obtain ⟨j, k, rfl⟩ : ∃ (j : Fin 16384) (k : Fin 10), i = ix2 j k := ⟨i 0, i 1, eq_ix2 i⟩
  have hv : valid X = fun _ => 1#1 := funext (valid_eq X hX)
  unfold term select Scalar.select
  rw [hv]
  refine (if_pos (show broadcastInDim S16384x10 ![0] bcast_S16384_S16384x10_0 (fun _ : S16384.Idx => 1#1) (ix2 j k) = 1 from rfl)).trans ?_
  refine (Routing.gather_row (nb := 8192) (B := 10) (n := 16384) gather_S8192x10_S16384x1_S16384x10_1_0_n_n_0_1_110 rfl rfl rfl rfl rfl _ _ j k
    ⟨(X (ix1 j)).toNat % 8192, Nat.mod_lt _ (by decide)⟩ ((wrapped_eq X hX j).trans (word_of_value (hX j))) (by decide)).trans ?_
  show transpose _ _ _ _ _ = G _
  refine congrArg G (funext fun a => ?_)
  match a with
  | ⟨0, _⟩ => rfl
  | ⟨1, _⟩ => rfl

theorem of_arg0 (h₁ h₂ h₃) (v : main_arg0.ty.Contents (Elt F)) :
    (StableHlo.TRef.of main_arg0 h₁ h₂ h₃ : StableHlo.TRef sig ⟨S16384, .i32⟩).ofBuf v = v := rfl
theorem of_rows (h₁ h₂ h₃) (v : main_v0.ty.Contents (Elt F)) :
    (StableHlo.TRef.of main_v0 h₁ h₂ h₃ : StableHlo.TRef sig ⟨S8192x10, .f32⟩).ofBuf v = v := rfl
theorem to_result (h₁ h₂ h₃) (v : (⟨S16384x10, .f32⟩ : BufTy).Contents (Elt F)) :
    (StableHlo.TRef.of main_v1 h₁ h₂ h₃ : StableHlo.TRef sig ⟨S16384x10, .f32⟩).toBuf v = v := rfl

theorem run_main (m : (ℓ : Loc nD τ sig) → Buf (Elt F) ℓ) (ρ : Dev nD → PrngReg) :
    θ_run (Cert.Rows.defs (F := F)) (onTc (τ := τ) (Cert.Rows.main (F := F))) ⟨m, fun _ => 0, ρ⟩ (fun r => ∀ c : Dev nD,
      r.2.mem ((c.tc : Thread nD τ).loc main_v1) = term (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  simp only [StableHlo.TRef.ofBuf_toBuf, of_arg0, of_rows]
  exact to_result _ _ _ _

end Cert.Proof.RefRows

end
-- ==== Proof.RefOneHot.lean ====
/-
  The reference that multiplies the weights by one-hot rows, at the ideal values: its run leaves the chosen weights, since
  a one-hot row's sum of products is the one product by 1.
-/
module

public import proofs.«01_k».proof.Defs
public import proofs.«01_k».proof.Proof.Gen.OneHotIdeal
public import proofs.«01_k».proof.Proof.Chosen
public import Idealize.ShloMosaic.Lib.Claim
public import Idealize.ShloMosaic.Lib.Routing.OpsSet
public import Idealize.ShloMosaic.Lib.Routing.OpsPair
public import Idealize.ShloMosaic.Lib.StackMember
public import Idealize.ShloMosaic.Lib.Pipeline.Value

@[expose] public section

set_option maxRecDepth 16384

noncomputable section

namespace Cert.Proof.RefOneHot

open Cert.OneHotIdeal Cert.OneHotIdeal.Gen
open Idealize.ShloMosaic Idealize.ShloMosaic.ValueIdx Idealize.SL.Sem
open Idealize.ShloMosaic.Routing (shape1 shape2)

/-! ## A matrix set at one pair of words per update -/

section Pairs
variable {α : Type} {R C U w : Nat}

theorem lands (d : ScatterDims (shape2 R C) (shape2 U 2) (shape1 U)) (hiw : d.insertedWindowDims = [0, 1])
    (hsd : d.scatterDimsToOperandDims = [0, 1]) (hivd : d.indexVectorDim = 1) (idx : IVec (shape2 U 2) w) (k : Fin U) (r : Fin R) (c : Fin C) :
    d.resultIdx? (ix1 k) idx = some (ix2 r c)
      ↔ (idx (ix2 k (0 : Fin 2))).toInt = (r.val : Int) ∧ (idx (ix2 k (1 : Fin 2))).toInt = (c.val : Int) := by
  have hwin : ∀ q : Fin 2, d.window (ix1 k) q = 0 := fun q => by
    unfold ScatterDims.window
    rw [dif_neg fun h => (of_decide_eq_true (List.mem_filter.1 h).2) (by rw [hiw]; fin_cases q <;> simp)]
  have hstart : ∀ q : Fin 2, d.start (ix1 k) idx q = (idx (ix2 k q)).toInt := fun q => by
    have hm : q ∈ d.scatterDimsToOperandDims := by rw [hsd]; fin_cases q <;> simp
    have hsi : d.siIdx (ix1 k) ⟨d.scatterDimsToOperandDims.idxOf q, List.idxOf_lt_length_iff.2 hm⟩ = ix2 k q := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have e : ∀ X : Fin 1, (ix1 k X).val = k.val := fun X => by
          obtain rfl : X = 0 := Subsingleton.elim _ _
          rfl
        exact e _
      | ⟨1, _⟩ =>
        unfold ScatterDims.siIdx
        rw [dif_pos (by rw [hivd])]
        show List.idxOf q d.scatterDimsToOperandDims = q.val
        rw [hsd]
        fin_cases q <;> rfl
    unfold ScatterDims.start
    rw [dif_pos hm, hsi]
  rw [Routing.resultIdx?_ix2, hstart, hstart, hwin, hwin]
  omega

/-- Row `k` set at the word that update `k` carries: one there, zero elsewhere. -/
theorem one_hot (d : ScatterDims (shape2 U C) (shape2 U 2) (shape1 U)) (hiw : d.insertedWindowDims = [0, 1])
    (hsd : d.scatterDimsToOperandDims = [0, 1]) (hivd : d.indexVectorDim = 1) (idx : IVec (shape2 U 2) w) (z o : α) (pick : Fin U → Fin C)
    (h0 : ∀ k, (idx (ix2 k (0 : Fin 2))).toInt = (k.val : Int)) (h1 : ∀ k, (idx (ix2 k (1 : Fin 2))).toInt = ((pick k).val : Int)) (r : Fin U) (c : Fin C) :
    Host.scatter d (fun _ b => b) (fun _ => z) idx (fun _ => o) (ix2 r c) = if c = pick r then o else z := by
  by_cases h : c = pick r
  · rw [if_pos h]
    refine Routing.scatter_set_hit d _ idx _ _ _ (fun _ _ => rfl) (ix1 r) ((lands d hiw hsd hivd idx r r c).2 ⟨h0 r, ?_⟩)
    rw [h]; exact h1 r
  · rw [if_neg h]
    refine Routing.scatter_set_miss d _ idx _ _ fun k hk => h ?_
    obtain ⟨k, rfl⟩ : ∃ k' : Fin U, k = ix1 k' := ⟨k 0, eq_ix1 k⟩
    obtain ⟨e0, e1⟩ := (lands d hiw hsd hivd idx k r c).1 hk
    rw [h0] at e0; rw [h1] at e1
    obtain rfl : k = r := Fin.ext (by exact_mod_cast e0)
    exact Fin.ext (by exact_mod_cast e1.symm)

end Pairs

/-! ## The reference -/

/-- The words by which row `j` is set: `j` and its winner, the negative ones wrapped. -/
def rowWords : IVec S16384x1 32 :=
  broadcastInDim S16384x1 ![0] bcast_S16384_S16384x1_0
    (select (cmpi .slt (iotaInDim S16384 32 0) (broadcastInDim S16384 ![] bcast_S_S16384 (constantI S_ 32 0#32)))
      (addi (iotaInDim S16384 32 0) (broadcastInDim S16384 ![] bcast_S_S16384 (constantI S_ 32 16384#32))) (iotaInDim S16384 32 0))
def winWords (X : IVec S16384 32) : IVec S16384x1 32 :=
  broadcastInDim S16384x1 ![0] bcast_S16384_S16384x1_0
    (select (cmpi .slt X (broadcastInDim S16384 ![] bcast_S_S16384 (constantI S_ 32 0#32)))
      (addi X (broadcastInDim S16384 ![] bcast_S_S16384 (constantI S_ 32 8192#32))) X)
def words (X : IVec S16384 32) : IVec S16384x2 32 :=
  concatenate S16384x2 1 [⟨S16384x1, rowWords⟩, ⟨S16384x1, winWords X⟩] concatenates_S16384x1_S16384x1_S16384x2_d1

/-- The one-hot rows. -/
def hot (X : IVec S16384 32) : FVec Ideal S16384x8192 .f32 :=
  Host.scatter scatter_S16384x8192_S16384x2_S16384_n_01_01_1 (fun _ b => b)
    (broadcastInDim S16384x8192 ![] bcast_S_S16384x8192 (constant S_ .f32 0x00000000#32)) (words X)
    (broadcastInDim S16384 ![] bcast_S_S16384 (constant S_ .f32 0x3F800000#32))

/-- The reference's result over its arguments. -/
def term (X : IVec S16384 32) (G : FVec Ideal S10x8192 .f32) : FVec Ideal S16384x10 .f32 :=
  Host.dotGeneral dot_S16384x8192_S8192x10_S16384x10_1_0_0_1_n_n none (hot X) (transpose S8192x10 [1, 0] G transposes_S10x8192_S8192x10_1_0)

theorem toInt_small {v : BitVec 32} {n : Nat} (h : v.toNat = n) (hn : n < 2 ^ 31) : v.toInt = (n : Int) := by
  rw [BitVec.toInt_eq_toNat_cond, h]
  split <;> omega

theorem rowWords_eq (j : Fin 16384) : (rowWords (ix2 j (0 : Fin 1))).toInt = (j.val : Int) := by
  have hj := j.isLt
  have e : (BitVec.ofNat 32 j.val).toNat = j.val := by rw [BitVec.toNat_ofNat]; exact Nat.mod_eq_of_lt (by omega)
  have hneg : IntOp.cmpi .slt (BitVec.ofNat 32 j.val) 0#32 = 0#1 := by
    have : (BitVec.ofNat 32 j.val).slt 0#32 = false := by
      rw [BitVec.slt_eq_decide, toInt_small e (by omega)]
      simp
    simp only [IntOp.cmpi, this]; rfl
  unfold rowWords
  rw [Routing.bcCol (n := 16384) bcast_S16384_S16384x1_0 _ j]
  show (Scalar.select (IntOp.cmpi .slt (BitVec.ofNat 32 j.val) 0#32) _ (BitVec.ofNat 32 j.val)).toInt = _
  rw [hneg]
  exact toInt_small e (by omega)

theorem winWords_eq (X : IVec S16384 32) (hX : Named X) (j : Fin 16384) : (winWords X (ix2 j (0 : Fin 1))).toInt = ((X (ix1 j)).toNat % 8192 : Nat) := by
  unfold winWords
  rw [Routing.bcCol (n := 16384) bcast_S16384_S16384x1_0 _ j]
  show (Scalar.select (IntOp.cmpi .slt (X (ix1 j)) 0#32) _ (X (ix1 j))).toInt = _
  rw [word_not_neg (hX j)]
  exact toInt_small (Nat.mod_eq_of_lt (hX j)).symm (by omega)

theorem words_row (X : IVec S16384 32) (j : Fin 16384) : words X (ix2 j (0 : Fin 2)) = rowWords (ix2 j (0 : Fin 1)) := by
  unfold words
  refine concatenate_pair_apply_left 1 rowWords (winWords X) concatenates_S16384x1_S16384x1_S16384x2_d1 (ix2 j (0 : Fin 2)) rfl (ix2 j (0 : Fin 1)) fun b => ?_
  match b with
  | ⟨0, _⟩ => rfl
  | ⟨1, _⟩ => rfl
theorem words_win (X : IVec S16384 32) (j : Fin 16384) : words X (ix2 j (1 : Fin 2)) = winWords X (ix2 j (0 : Fin 1)) := by
  unfold words
  refine concatenate_pair_apply_right 1 rowWords (winWords X) concatenates_S16384x1_S16384x1_S16384x2_d1 (ix2 j (1 : Fin 2)) rfl rfl (ix2 j (0 : Fin 1))
    (fun b hb => ?_) rfl
  match b with
  | ⟨0, _⟩ => rfl
  | ⟨1, _⟩ => exact (hb rfl).elim

theorem ofBits_one : (FloatOps.ofBits .f32 0x3F800000#32 : Ideal .f32) = (1 : EReal) := by
  show Ideal.ofBits .f32 0x3F800000#32 = 1
  simp [Ideal.ofBits, Ideal.ieee, -EReal.coe_mul]; norm_num
theorem ofBits_zero : (FloatOps.ofBits .f32 0x00000000#32 : Ideal .f32) = (0 : EReal) := Ideal.ofBits_zero_f32

theorem hot_eq (X : IVec S16384 32) (hX : Named X) (j : Fin 16384) (c : Fin 8192) :
    hot X (ix2 j c) = if c = ⟨(X (ix1 j)).toNat % 8192, Nat.mod_lt _ (by decide)⟩ then (1 : EReal) else 0 := by
  have h := one_hot (α := Ideal .f32) (U := 16384) (C := 8192) scatter_S16384x8192_S16384x2_S16384_n_01_01_1 rfl rfl rfl (words X)
    (FloatOps.ofBits .f32 0x00000000#32) (FloatOps.ofBits .f32 0x3F800000#32) (fun k => ⟨(X (ix1 k)).toNat % 8192, Nat.mod_lt _ (by decide)⟩)
    (fun k => by rw [words_row]; exact rowWords_eq k) (fun k => by rw [words_win]; exact winWords_eq X hX k) j c
  rw [ofBits_one, ofBits_zero] at h
  have hz : broadcastInDim S16384x8192 ![] bcast_S_S16384x8192 (constant (F := Ideal) S_ .f32 0x00000000#32) = fun _ => (0 : EReal) :=
    funext fun i => (Routing.bc0 bcast_S_S16384x8192 _ i).trans ofBits_zero
  have ho : broadcastInDim S16384 ![] bcast_S_S16384 (constant (F := Ideal) S_ .f32 0x3F800000#32) = fun _ => (1 : EReal) :=
    funext fun i => (Routing.bc0 bcast_S_S16384 _ i).trans ofBits_one
  unfold hot
  rw [hz, ho]
  exact h

theorem term_eq (X : IVec S16384 32) (G : FVec Ideal S10x8192 .f32) (hX : Named X) : term X G = chosen X G := by
  funext i
  obtain ⟨j, k, rfl⟩ : ∃ (j : Fin 16384) (k : Fin 10), i = ix2 j k := ⟨i 0, i 1, eq_ix2 i⟩
  refine (StackMember.dotGeneral_plain_apply (m := 16384) (k := 8192) (n := 10) none (hot X) _ j k).trans ?_
  rw [Finset.sum_eq_single (⟨(X (ix1 j)).toNat % 8192, Nat.mod_lt _ (by decide)⟩ : Fin 8192)]
  · rw [hot_eq X hX, if_pos rfl]
    refine (one_mul (M := EReal) _).trans ?_
    show transpose _ _ _ _ _ = G _
    refine congrArg G (funext fun a => ?_)
    match a with
    | ⟨0, _⟩ => rfl
    | ⟨1, _⟩ => rfl
  · intro c _ hc
    rw [hot_eq X hX, if_neg hc]
    exact zero_mul (M₀ := EReal) _
  · intro h; exact absurd (Finset.mem_univ _) h

theorem run_main (m : (ℓ : Loc nD τ sig) → Buf (Elt Ideal) ℓ) (ρ : Dev nD → PrngReg) :
    θ_run (Cert.OneHotIdeal.defs (F := Ideal)) (onTc (τ := τ) (Cert.OneHotIdeal.main (F := Ideal))) ⟨m, fun _ => 0, ρ⟩ (fun r => ∀ c : Dev nD,
      r.2.mem ((c.tc : Thread nD τ).loc main_v18) = term (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

end Cert.Proof.RefOneHot

end
-- ==== Proof.Whole.Blocks.lean ====
/-
  The pieces of memory the gather kernel's pipeline moves, under names of their own, and the arithmetic of the pipeline.
  A task walks over four blocks: block `b` of a task is 128 winners and the 128 rows fetched for them. The winners of a
  block pass through one of two input slots, the rows through one of two output slots; block `b` uses slot `b % 2`. The
  words the loop carries count the blocks started, waited for and written; on trip `t` they are known words, so every
  offset, every condition and every side condition of the trip is arithmetic on `t` and the task's coordinates.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Ring
public import Idealize.ShloMosaic.Lib.ViewIndex
public import Idealize.ShloMosaic.Lib.ValueIdxCore
public import proofs.«01_k».proof.Proof.Gen.KernelIdeal
public import proofs.«01_k».proof.Proof.Gen.KernelIdeal.Skeleton

@[expose] public section

noncomputable section

namespace Cert.Proof.Whole

open Cert.KernelIdeal Cert.KernelIdeal.Gen
open Idealize.ShloMosaic Idealize.ShloMosaic.ValueIdx
open Idealize.SL Idealize.SL.Sem

/-! ## The words the loop carries -/

/-- A number as a word. -/
abbrev wd (n : ℕ) : BitVec 32 := BitVec.ofNat 32 n

/-- What the loop carries before trip `k`: the blocks whose fetch has been started, fetched, gathered, written back, and
    the block the trip works on (which wraps after the last). -/
abbrev carried (k : ℕ) : BitVec 32 × BitVec 32 × BitVec 32 × BitVec 32 × BitVec 32 :=
  (wd (k + 1 - (k + 1) / 5), wd k, wd k, wd (k - 1), wd (k % 4))

/-- The slot of block `k`. -/
abbrev slot (k : ℕ) : Fin 2 := Ring.sl 2 k

theorem slot_val (k : ℕ) : (slot k).val = k % 2 := rfl
theorem slot_add_two (k : ℕ) : slot (k + 2) = slot k := Ring.sl_add 2 k

theorem trips_four : k1_t1_loop.trips = 4 := by decide

/-- The first column of a task's block `b` among the winners, and its first row among the rows. -/
abbrev start (i : grid1.Coords) (b : ℕ) : ℕ := 512 * (i 1).val + 8192 * (i 0).val + 128 * b

theorem start_lt (i : grid1.Coords) (b : ℕ) (hb : b < 4) : start i b + 128 ≤ 16384 := by
  have h0 : (i 0).val < 2 := (i 0).isLt
  have h1 : (i 1).val < 16 := (i 1).isLt
  simp only [start]; omega

/-! ## The trip's offsets, conditions and checks -/

section Words

theorem off1_eq : k1_off1 = ![0, 0, 0] := by decide +kernel
theorem off2_eq : ∀ i : grid1.Coords, k1_off2 i = ![0, start i 0] := by decide +kernel
theorem off3_eq : k1_off3 = ![0] := by decide +kernel
theorem off4_eq : ∀ t : Fin k1_t1_loop.trips, t.val < 3 → k1_off4 (carried t.val).1 = ![(t.val + 1) % 2, 0, 0] := by decide +kernel
theorem off6_eq : ∀ t : Fin k1_t1_loop.trips, t.val < 3 → k1_off6 (carried t.val).1 = ![(t.val + 1) % 2] := by decide +kernel
theorem off5_eq : ∀ (i : grid1.Coords) (t : Fin k1_t1_loop.trips), t.val < 3 →
    k1_off5 i (wd (t.val % 4)) = ![0, start i (t.val + 1)] := by decide +kernel
theorem off7_eq : ∀ t : Fin k1_t1_loop.trips, k1_off7 (wd t.val) = ![t.val % 2, 0, 0] := by decide +kernel
theorem off8_eq : ∀ (i : grid1.Coords) (t : Fin k1_t1_loop.trips), k1_off8 i (wd (t.val % 4)) = ![0, start i t.val] := by decide +kernel
theorem off9_eq : ∀ t : Fin k1_t1_loop.trips, k1_off9 (wd t.val) = ![t.val % 2] := by decide +kernel
theorem off10_eq : ∀ t : Fin k1_t1_loop.trips, k1_off10 (wd t.val) = ![t.val % 2, 0, 0] := by decide +kernel
theorem off11_eq : ∀ t : Fin k1_t1_loop.trips, k1_off11 (wd t.val) = ![t.val % 2, 0, 0] := by decide +kernel
theorem off12_eq : ∀ t : Fin k1_t1_loop.trips, k1_off12 (wd t.val) = ![t.val % 2, 0, 0] := by decide +kernel
theorem off13_eq : ∀ (i : grid1.Coords) (t : Fin k1_t1_loop.trips), k1_off13 i (wd (t.val % 4)) = ![start i t.val, 0] := by decide +kernel
theorem off14_eq : ∀ t : Fin k1_t1_loop.trips, k1_off14 (wd t.val) = ![t.val % 2] := by decide +kernel
theorem off15_eq : ∀ t : Fin k1_t1_loop.trips, 1 ≤ t.val → k1_off15 (wd (t.val - 1)) = ![(t.val - 1) % 2, 0, 0] := by decide +kernel
theorem off16_eq : ∀ (i : grid1.Coords) (t : Fin k1_t1_loop.trips), 1 ≤ t.val →
    k1_off16 i (wd (t.val % 4)) = ![start i (t.val - 1), 0] := by decide +kernel
theorem off17_eq : ∀ t : Fin k1_t1_loop.trips, 1 ≤ t.val → k1_off17 (wd (t.val - 1)) = ![(t.val - 1) % 2] := by decide +kernel
theorem off19_eq : ∀ i : grid1.Coords, k1_off19 i (wd 0) = ![start i 3, 0] := by decide +kernel
theorem off20_eq : k1_off20 (wd 3) = ![1] := by decide +kernel
theorem off21_eq : k1_off21 (wd 3) = ![1, 0, 0] := by decide +kernel

theorem cond1_iff : ∀ (i : grid1.Coords) (t : Fin k1_t1_loop.trips), k1_cond1 i t (wd (t.val % 4)) = 1#1 ↔ t.val < 3 := by decide +kernel
theorem cond2_true : ∀ (i : grid1.Coords) (t : Fin k1_t1_loop.trips), k1_cond2 i t (wd (t.val % 4)) = 1#1 := by decide +kernel
theorem cond5_true : ∀ (i : grid1.Coords) (t : Fin k1_t1_loop.trips), k1_cond5 i t (wd (t.val % 4)) = 1#1 := by decide +kernel
theorem cond7_iff : ∀ (i : grid1.Coords) (t : Fin k1_t1_loop.trips), k1_cond7 i t (wd (t.val % 4)) = 1#1 ↔ 1 ≤ t.val := by decide +kernel

theorem chk1_ok : ∀ (i : grid1.Coords) (t : Fin k1_t1_loop.trips),
    k1_chk1 i t (carried t.val).1 (wd t.val) (wd t.val) (wd (t.val - 1)) (wd (t.val % 4)) := by decide +kernel
theorem chk2_ok : ∀ t : Fin k1_t1_loop.trips, k1_chk2 (wd t.val) := by decide +kernel
theorem chk3_ok : ∀ t : Fin k1_t1_loop.trips, k1_chk3 (wd t.val) := by decide +kernel
theorem chk4_ok : k1_chk4 (wd 3) := by decide +kernel
theorem chk5_ok : ∀ i : grid1.Coords, k1_chk5 i (wd 0) := by decide +kernel

/-- The word of the task's first block. -/
def taskWord (i : grid1.Coords) : BitVec 32 :=
  Scalar.muli (Scalar.addi (Scalar.addi 0#32 (Scalar.muli (BitVec.ofNat 32 (i 1).val) 1#32)) (Scalar.muli (BitVec.ofNat 32 (i 0).val) 16#32)) 4#32

/-- The words a trip hands to the next, as the trip computes them from those it was handed. -/
def nextWords (i : grid1.Coords) (t : Fin k1_t1_loop.trips) (a6 a7 a8 a9 a10 : BitVec 32) : BitVec 32 × BitVec 32 × BitVec 32 × BitVec 32 × BitVec 32 :=
  let it := Scf.iv 0#32 1#32 t
  let first := Scalar.cmpi .eq it 0#32
  let last := Scalar.cmpi .eq it 3#32
  let here := Scalar.addi a10 (taskWord i)
  let less := Scalar.select 1#1 (Scalar.subi a10 1#32) a10
  let before := Scalar.addi (Scalar.select (Scalar.cmpi .eq less 4294967295#32) 3#32 less) (taskWord i)
  let more := Scalar.select 1#1 (Scalar.addi a10 1#32) a10
  let after := Scalar.addi (Scalar.select (Scalar.cmpi .eq more 4#32) 0#32 more) (taskWord i)
  let fetch := Scalar.andi (Scalar.cmpi .ne here after) (Scalar.xori (Scalar.cmpi .sge it 3#32) 1#1)
  let leave := Scalar.ori (Scalar.cmpi .ne here after) last
  let back := Scalar.andi (Scalar.cmpi .ne here before) (Scalar.xori first 1#1)
  (Scalar.select (Scalar.andi fetch 1#1) (Scalar.addi a6 1#32) a6, Scalar.select leave (Scalar.addi a7 1#32) a7,
    Scalar.select (Scalar.andi leave 1#1) (Scalar.addi a8 1#32) a8, Scalar.select (Scalar.andi back 1#1) (Scalar.addi a9 1#32) a9,
    Scalar.select (Scalar.cmpi .eq more 4#32) 0#32 more)

theorem nextWords_eq : ∀ (i : grid1.Coords) (t : Fin k1_t1_loop.trips),
    nextWords i t (carried t.val).1 (wd t.val) (wd t.val) (wd (t.val - 1)) (wd (t.val % 4)) = carried (t.val + 1) := by decide +kernel

end Words

/-! ## The slots, the blocks and the cells -/

abbrev tabM : Memref sig .scVector .hbm S8192x128 .f32 := Memref.whole main_v9_scv
abbrev winM : Memref sig .scVector .hbm S1x16384 .i32 := Memref.whole main_v10_scv
abbrev rowM : Memref sig .scVector .hbm S16384x128 .f32 := Memref.whole main_v11_scv
abbrev inM : Memref sig .scVector .vmem S2x1x128 .i32 := Memref.whole cc1_scoped0
abbrev outM : Memref sig .scVector .vmem S2x128x128 .f32 := Memref.whole cc1_scoped2

theorem in_inb (s : Fin 2) : ∀ a, (![s.val, 0, 0] : Fin 3 → ℕ) a + S1x1x128.size a ≤ S2x1x128.size a := by revert s; decide
theorem out_inb (s : Fin 2) : ∀ a, (![s.val, 0, 0] : Fin 3 → ℕ) a + S1x128x128.size a ≤ S2x128x128.size a := by revert s; decide
theorem win_inb (i : grid1.Coords) (b : Fin 4) : ∀ a, (![0, start i b.val] : Fin 2 → ℕ) a + S1x128.size a ≤ S1x16384.size a := by
  have h := start_lt i b.val b.isLt
  intro a
  match a with
  | 0 => exact Nat.le_refl 1
  | 1 => exact h
theorem row_inb (i : grid1.Coords) (b : Fin 4) : ∀ a, (![start i b.val, 0] : Fin 2 → ℕ) a + S128x128.size a ≤ S16384x128.size a := by
  have h := start_lt i b.val b.isLt
  intro a
  match a with
  | 0 => exact h
  | 1 => exact Nat.le_refl 128

/-- Input slot `s`: room for one block's winners. -/
abbrev inSlot (s : Fin 2) : Memref sig .scVector .vmem S1x128 .i32 :=
  (inM.slice (Rect.unit (s := S2x1x128) ![s.val, 0, 0] S1x1x128.size (in_inb s)) (fun _ => rfl)).squeeze S1x128 squeezes_S1x1x128_S1x128
/-- Output slot `s`: room for one block's rows. -/
abbrev outSlot (s : Fin 2) : Memref sig .scVector .vmem S128x128 .f32 :=
  (outM.slice (Rect.unit (s := S2x128x128) ![s.val, 0, 0] S1x128x128.size (out_inb s)) (fun _ => rfl)).squeeze S128x128 squeezes_S1x128x128_S128x128
/-- The winners of the task's block `b`. -/
abbrev winBlk (i : grid1.Coords) (b : Fin 4) : Memref sig .scVector .hbm S1x128 .i32 :=
  winM.slice (Rect.unit (s := S1x16384) ![0, start i b.val] S1x128.size (win_inb i b)) (fun _ => rfl)
/-- The rows of the task's block `b`. -/
abbrev rowBlk (i : grid1.Coords) (b : Fin 4) : Memref sig .scVector .hbm S128x128 .f32 :=
  rowM.slice (Rect.unit (s := S16384x128) ![start i b.val, 0] S128x128.size (row_inb i b)) (fun _ => rfl)
/-- The table as the gather names it: all of it. -/
abbrev tabAll : Memref sig .scVector .hbm S8192x128 .f32 :=
  tabM.slice (Rect.unit (s := S8192x128) ![0, 0] S8192x128.size inb_S8192x128_S8192x128_0_0) (fun _ => rfl)
/-- Input slot `s` read as a plain list of 128 words. -/
abbrev listOf (s : Fin 2) : Memref sig .scVector .vmem S128 .i32 :=
  ((inSlot s).slice (Rect.unit (s := S1x128) ![0, 0] S1x128.size inb_S1x128_S1x128_0_0) (fun _ => rfl)).squeeze S128 squeezes_S1x128_S128

/-- The cells of the input slots, of the output slots, and of the gather. -/
abbrev inSem (s : Fin 2) : DmaSem sig := ⟨8 + s.val, by have := s.isLt; show 8 + s.val < 13; omega⟩
abbrev outSem (s : Fin 2) : DmaSem sig := ⟨10 + s.val, by have := s.isLt; show 10 + s.val < 13; omega⟩
abbrev gatSem : DmaSem sig := ⟨12, by decide⟩

theorem inSlot_of {off : Fin 3 → ℕ} (s : Fin 2) (e : off = ![s.val, 0, 0]) (h : ∀ a, off a + S1x1x128.size a ≤ S2x1x128.size a)
    (hs : ∀ a, (Rect.unit (s := S2x1x128) off S1x1x128.size h).stride a = 1) :
    (inM.slice (Rect.unit (s := S2x1x128) off S1x1x128.size h) hs).squeeze S1x128 squeezes_S1x1x128_S1x128 = inSlot s := by subst e; rfl
theorem outSlot_of {off : Fin 3 → ℕ} (s : Fin 2) (e : off = ![s.val, 0, 0]) (h : ∀ a, off a + S1x128x128.size a ≤ S2x128x128.size a)
    (hs : ∀ a, (Rect.unit (s := S2x128x128) off S1x128x128.size h).stride a = 1) :
    (outM.slice (Rect.unit (s := S2x128x128) off S1x128x128.size h) hs).squeeze S128x128 squeezes_S1x128x128_S128x128 = outSlot s := by subst e; rfl
theorem winBlk_of {off : Fin 2 → ℕ} (i : grid1.Coords) (b : Fin 4) (e : off = ![0, start i b.val]) (h : ∀ a, off a + S1x128.size a ≤ S1x16384.size a)
    (hs : ∀ a, (Rect.unit (s := S1x16384) off S1x128.size h).stride a = 1) :
    winM.slice (Rect.unit (s := S1x16384) off S1x128.size h) hs = winBlk i b := by subst e; rfl
theorem rowBlk_of {off : Fin 2 → ℕ} (i : grid1.Coords) (b : Fin 4) (e : off = ![start i b.val, 0]) (h : ∀ a, off a + S128x128.size a ≤ S16384x128.size a)
    (hs : ∀ a, (Rect.unit (s := S16384x128) off S128x128.size h).stride a = 1) :
    rowM.slice (Rect.unit (s := S16384x128) off S128x128.size h) hs = rowBlk i b := by subst e; rfl

theorem inSem_of {off : Fin 1 → ℕ} (s : Fin 2) (e : off = ![s.val]) (h : ∀ a, off a + S1.size a ≤ S2.size a) :
    ((cc1_scoped1.slice (Rect.unit (s := S2) off S1.size h)).squeeze S_ squeezes_S1_S_).sem = inSem s := by
  subst e; revert s; decide
theorem outSem_of {off : Fin 1 → ℕ} (s : Fin 2) (e : off = ![s.val]) (h : ∀ a, off a + S1.size a ≤ S2.size a) :
    ((cc1_scoped3.slice (Rect.unit (s := S2) off S1.size h)).squeeze S_ squeezes_S1_S_).sem = outSem s := by
  subst e; revert s; decide
theorem gatSem_eq : cc1_scoped4.sem = gatSem := by decide

end Cert.Proof.Whole

end
-- ==== Proof.Whole.Fetched.lean ====
/-
  What the gather fetches. `rowsOf T X` is the array whose row `r` is the row of the table `T` that word `r` of the
  winners `X` names. Fetching block `b` of the winners into an input slot, and the rows they name into an output slot,
  leaves in the output slot exactly block `b` of `rowsOf T X`.
-/
module

public import proofs.«01_k».proof.Proof.Whole.Blocks

@[expose] public section

set_option maxRecDepth 16384

noncomputable section

namespace Cert.Proof.Whole

open Cert.KernelIdeal Cert.KernelIdeal.Gen
open Idealize.ShloMosaic Idealize.ShloMosaic.ValueIdx
open Idealize.SL Idealize.SL.Sem

variable {F : FTy → Type}

/-- Row `r` is the row of the table the winner in place `r` names. -/
def rowsOf (T : S8192x128.Idx → Elt F .f32) (X : S1x16384.Idx → Elt F .i32) : S16384x128.Idx → Elt F .f32 :=
  fun x => T (ix2 ⟨(X (ix2 (0 : Fin 1) (x 0))).toNat % 8192, Nat.mod_lt _ (by decide)⟩ (x 1))

/-- Every winner names a row of the table. -/
def InRange (X : S1x16384.Idx → Elt F .i32) : Prop := ∀ j, (X j).toNat < 8192

theorem read_winBlk (i : grid1.Coords) (b : Fin 4) (X : S1x16384.Idx → Elt F .i32) (x : S1x128.Idx) :
    (winBlk i b).view.read (Elt F) X x = X (ix2 (0 : Fin 1) ⟨start i b.val + (x 1).val, by
      have := start_lt i b.val b.isLt; have h : (x 1).val < 128 := (x 1).isLt; omega⟩) := by
  show X ((Rect.unit (s := S1x16384) ![0, start i b.val] S1x128.size (win_inb i b)).emb x) = _
  congr 1
  funext a
  refine Fin.ext ?_
  rw [Rect.emb_apply]
  match a with
  | 0 =>
    have h : (x 0).val < 1 := (x 0).isLt
    show 0 + 1 * (x 0).val = 0; omega
  | 1 => show start i b.val + 1 * (x 1).val = start i b.val + (x 1).val; omega

theorem read_rowBlk (i : grid1.Coords) (b : Fin 4) (G : S16384x128.Idx → Elt F .f32) (x : S128x128.Idx) :
    (rowBlk i b).view.read (Elt F) G x = G (ix2 ⟨start i b.val + (x 0).val, by
      have := start_lt i b.val b.isLt; have h : (x 0).val < 128 := (x 0).isLt; omega⟩ (x 1)) := by
  show G ((Rect.unit (s := S16384x128) ![start i b.val, 0] S128x128.size (row_inb i b)).emb x) = _
  congr 1
  funext a
  refine Fin.ext ?_
  rw [Rect.emb_apply]
  match a with
  | 0 => show start i b.val + 1 * (x 0).val = start i b.val + (x 0).val; omega
  | 1 => show 0 + 1 * (x 1).val = (x 1).val; omega

theorem read_tabAll (T : S8192x128.Idx → Elt F .f32) (x : S8192x128.Idx) : (tabAll).view.read (Elt F) T x = T x := by
  show T ((Rect.unit (s := S8192x128) ![0, 0] S8192x128.size inb_S8192x128_S8192x128_0_0).emb x) = _
  congr 1
  funext a
  refine Fin.ext ?_
  rw [Rect.emb_apply]
  match a with
  | 0 => show 0 + 1 * (x 0).val = (x 0).val; omega
  | 1 => show 0 + 1 * (x 1).val = (x 1).val; omega

/-- Word `y` of the list is word `(0, y)` of the slot. -/
theorem read_listOf (s : Fin 2) (f : S2x1x128.Idx → Elt F .i32) (y : S128.Idx) :
    (listOf s).view.read (Elt F) f y = (inSlot s).view.read (Elt F) f (ix2 (0 : Fin 1) (y 0)) := by
  show (inSlot s).view.read (Elt F) f ((Rect.unit (s := S1x128) ![0, 0] S1x128.size inb_S1x128_S1x128_0_0).emb
    (Shape.reshapeEquiv squeezes_S1x128_S128.numel_eq y)) = _
  congr 1
  have e : Shape.reshapeEquiv squeezes_S1x128_S128.numel_eq y = (ix2 (0 : Fin 1) (y 0) : S1x128.Idx) := by
    refine Shape.reshapeEquiv_eq_of_rowMajor _ ?_
    rw [Shape.rowMajor_val_two, Shape.rowMajor_val_one]
    show 0 * 128 + (y 0).val = (y 0).val; omega
  rw [e]
  funext a
  refine Fin.ext ?_
  rw [Rect.emb_apply]
  match a with
  | 0 => rfl
  | 1 => show 0 + 1 * (y 0).val = (y 0).val; omega

/-- The list of a slot that holds a block of winners in range names rows of the table. -/
theorem list_inRange {X : S1x16384.Idx → Elt F .i32} (hX : InRange X) (i : grid1.Coords) (b : Fin 4) (s : Fin 2) {f : S2x1x128.Idx → Elt F .i32}
    (hf : (inSlot s).view.read (Elt F) f = (winBlk i b).view.read (Elt F) X) (y : S128.Idx) :
    ((listOf s).view.read (Elt F) f y).toNat < S8192x128.size gathers_S8192x128_S128x128.axis := by
  rw [read_listOf, hf, read_winBlk]; exact hX _

/-- The gather's payload over such a slot is block `b` of the rows the winners name. -/
theorem gathered_eq (T : S8192x128.Idx → Elt F .f32) {X : S1x16384.Idx → Elt F .i32} (hX : InRange X) (i : grid1.Coords) (b : Fin 4) (s : Fin 2)
    {f : S2x1x128.Idx → Elt F .i32} (hf : (inSlot s).view.read (Elt F) f = (winBlk i b).view.read (Elt F) X)
    (hn : S128.numel = S128x128.size gathers_S8192x128_S128x128.axis')
    (hin : ∀ y, ((listOf s).view.read (Elt F) f y).toNat < S8192x128.size gathers_S8192x128_S128x128.axis) :
    SparseCore.gatherPayload (e := .f32) gathers_S8192x128_S128x128 ((tabAll).view.read (Elt F) T) (SparseCore.rows ((listOf s).view.read (Elt F) f) hn hin)
      = (rowBlk i b).view.read (Elt F) (rowsOf T X) := by
  funext x
  rw [read_rowBlk]
  show (tabAll).view.read (Elt F) T _ = _
  rw [read_tabAll]
  unfold rowsOf
  congr 1
  have hy : (S128.rowMajor.symm ((x 0 : Fin 128).cast hn.symm)) = (ix1 (x 0) : S128.Idx) := by
    rw [Equiv.symm_apply_eq]; refine Fin.ext ?_; rw [Shape.rowMajor_val_one]; rfl
  funext a
  refine Fin.ext ?_
  match a with
  | ⟨0, _⟩ =>
    refine (congrArg Fin.val (Shape.Gathers.idx_axis gathers_S8192x128_S128x128 _ x)).trans ?_
    show ((listOf s).view.read (Elt F) f (S128.rowMajor.symm ((x 0 : Fin 128).cast hn.symm))).toNat = _
    rw [hy, read_listOf, hf, read_winBlk]
    show _ = (X _).toNat % 8192
    rw [Nat.mod_eq_of_lt (hX _)]
  | ⟨1, _⟩ => exact Shape.Gathers.idx_of_ne gathers_S8192x128_S128x128 _ x (1 : Fin 2) (by decide)

end Cert.Proof.Whole

end
-- ==== Proof.Whole.Moves.lean ====
/-
  The gather kernel's six moves, each as one rule over the blocks and slots of Blocks.lean: start the fetch of a block of
  winners, wait for it, start the gather of the rows it names, wait for that, start the write-back of the rows, wait for
  that. Each rule says what the move takes and what it leaves, values included: a landed fetch leaves the slot holding
  the block of winners, a landed gather leaves the slot holding the block of rows those winners name, a landed
  write-back leaves the rows' block holding them.
-/
module

public import proofs.«01_k».proof.Proof.Whole.Fetched

@[expose] public section

set_option maxRecDepth 16384

noncomputable section

namespace Cert.Proof.Whole

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-- The ghost state: the handshakes' rounds, the grid's, the transfers' counters. -/
abbrev UH : Type := URounds (GSem nD τ sig) ℕ
abbrev UP : Type := UR sig nD τ
abbrev UU : Type := UH × (UP × Counters)

local notation "𝕄" => MT nD τ sig (HIx 1) (Elt F) ℕ UU ℕ

/-! ## The memory of a task -/

abbrev tLoc (d : Dev nD) : Loc nD τ sig := (SparseCore.T d).loc main_v9
abbrev wLoc (d : Dev nD) : Loc nD τ sig := (SparseCore.T d).loc main_v10
abbrev rLoc (d : Dev nD) : Loc nD τ sig := (SparseCore.T d).loc main_v11

abbrev coreOf (L : grid1.Coords) : Fin τ.nSC := (L 0).castLE hcore1
abbrev subOf (L : grid1.Coords) : Fin τ.nSub := (L 1).castLE hsub1
/-- The vector subcore the task runs on. -/
abbrev tileOf (d : Dev nD) (L : grid1.Coords) : Thread nD τ := V d (coreOf L) (subOf L)

section Held

variable (d : Dev nD) (L : grid1.Coords) (q : PosShare TreeShare)
  (T : S8192x128.Idx → Elt F .f32) (X : S1x16384.Idx → Elt F .i32)

/-- The task's share of the table. -/
abbrev tabPts : sProp 𝕄 := tLoc d ↦[(tabAll).view.set]{q} T
/-- Block `b` of the winners. -/
abbrev winPts (b : Fin 4) : sProp 𝕄 := wLoc d ↦[(winBlk L b).view.set]{fullShare} X
/-- Block `b` of the rows, at anything; and holding the rows the winners name. -/
abbrev rowAny (b : Fin 4) : sProp 𝕄 := iprop(∃ f, rLoc d ↦[(rowBlk L b).view.set]{fullShare} f)
abbrev rowDone (b : Fin 4) : sProp 𝕄 := rLoc d ↦[(rowBlk L b).view.set]{fullShare} (rowsOf T X)
/-- An input slot holding block `b` of the winners; at anything. -/
abbrev inHolds (b : Fin 4) (s : Fin 2) : sProp 𝕄 :=
  iprop(∃ f : Buf (Elt F) ((tileOf d L).loc cc1_scoped0), ((tileOf d L).loc cc1_scoped0 ↦[(inSlot s).view.set]{fullShare} f)
    ∗ ⌜(inSlot s).view.read (Elt F) f = (winBlk L b).view.read (Elt F) X⌝)
abbrev inAny (s : Fin 2) : sProp 𝕄 := iprop(∃ f, (tileOf d L).loc cc1_scoped0 ↦[(inSlot s).view.set]{fullShare} f)
/-- An output slot holding the rows of block `b`; at anything. -/
abbrev outHolds (b : Fin 4) (s : Fin 2) : sProp 𝕄 :=
  iprop(∃ f : Buf (Elt F) ((tileOf d L).loc cc1_scoped2), ((tileOf d L).loc cc1_scoped2 ↦[(outSlot s).view.set]{fullShare} f)
    ∗ ⌜(outSlot s).view.read (Elt F) f = (rowBlk L b).view.read (Elt F) (rowsOf T X)⌝)
abbrev outAny (s : Fin 2) : sProp 𝕄 := iprop(∃ f, (tileOf d L).loc cc1_scoped2 ↦[(outSlot s).view.set]{fullShare} f)
/-- A cell of the task at zero. -/
abbrev atZero (sm : DmaSem sig) : sProp 𝕄 := semVal (tileOf d L, SemLoc.dma sm) 0
/-- A slot with nothing under way. -/
abbrev inFree (s : Fin 2) : sProp 𝕄 := iprop(atZero d L (inSem s) ∗ inAny d L s)
abbrev outFree (s : Fin 2) : sProp 𝕄 := iprop(atZero d L (outSem s) ∗ outAny d L s)

/-- The fetch of block `b` into slot `s` under way, the gather of its rows, and their write-back. -/
abbrev fetching (b : Fin 4) (s : Fin 2) : sProp 𝕄 :=
  Transfers.Flight countersEmb (tileOf d L) (.dma (inSem s)) (none : HIx 1) (inSlot s).view.dmaCredit iprop(inHolds d L X b s ∗ winPts d L X b)
abbrev gathering (b : Fin 4) (s : Fin 2) : sProp 𝕄 :=
  Transfers.Flight countersEmb (tileOf d L) (.dma gatSem) (none : HIx 1) (outSlot s).view.dmaCredit
    iprop(outHolds d L T X b s ∗ tabPts d q T ∗ inAny d L s)
abbrev writing (b : Fin 4) (s : Fin 2) : sProp 𝕄 :=
  Transfers.Flight countersEmb (tileOf d L) (.dma (outSem s)) (none : HIx 1) (rowBlk L b).view.dmaCredit
    iprop(rowDone d L T X b ∗ outAny d L s)

end Held

/-- The list of a slot is all of the slot. -/
theorem set_listOf (s : Fin 2) : (listOf s).view.set = (inSlot s).view.set := by
  refine Finset.eq_of_subset_of_card_le ?_ (by rw [View.card_set, View.card_set]; decide)
  show View.set (View.reshape (View.slice (inSlot s).view (Rect.unit (s := S1x128) ![0, 0] S1x128.size inb_S1x128_S1x128_0_0)) S128 _) ⊆ _
  rw [View.set_reshape]
  exact View.set_slice_subset _ _

/-! ## The moves -/

/-- A task's program runs to `R`. -/
abbrev runs [FloatOps F] [∀ e, Nonempty (Elt F e)] (d : Dev nD) (L : grid1.Coords) {α : Type} (R : α → sProp 𝕄)
    (p : Prog (TpuEff nD τ sig (Elt F) Λ₀ (tileOf d L).2) α) : sProp 𝕄 :=
  wp frame (wpE (defs₀ (F := F)) 𝒱₀ (tileOf d L) none) Set.univ p R

section Steps

variable [FloatOps F] [∀ e, Nonempty (Elt F e)] (d : Dev nD) (L : grid1.Coords) (q : PosShare TreeShare)
  (T : S8192x128.Idx → Elt F .f32) (X : S1x16384.Idx → Elt F .i32)
  {α : Type} {R : α → sProp (MT nD τ sig (HIx 1) (Elt F) ℕ UU ℕ)} {k : PUnit.{1} → Prog (TpuEff nD τ sig (Elt F) Λ₀ (tileOf d L).2) α}

theorem start_fetch (b : Fin 4) (s : Fin 2) {src : Memref sig .scVector .hbm S1x128 .i32} {dst : Memref sig .scVector .vmem S1x128 .i32} {sm : DmaSem sig}
    (es : src = winBlk L b) (ed : dst = inSlot s) (em : sm = inSem s) {hsrc : src.view.WordExact} {hdst : dst.view.WordExact}
    {hsem : DmaTarget.Typed (nD := nD) (τ := τ) .hbm (.dma sm) (DmaTarget.here (p := (tileOf d L).2) dst)} :
    iprop(inFree d L s ∗ winPts d L X b)
      ⊢ iprop((fetching d L X b s -∗ runs d L R (k ⟨⟩)) -∗ runs d L R (.op (.enqueueDmaAs src (.here dst) .same (.dma sm) hsrc hdst hsem) k)) := by
  subst es ed em
  iintro ⟨⟨Hz, %f, Hs⟩, Hw⟩ Hk
  iapply (Transfers.wp_dmaLocal countersEmb 𝒱₀ (tileOf d L) none (none : HIx 1) (inSlot s).view.dmaCredit rfl
    (View.dmaCredit_pos _ (by decide)) (Finset.Subset.refl _)) $$ [Hz Hs Hw]
  · isplitl [Hw]; · iexact Hw
    isplitl [Hs]; · iexact Hs
    iexact Hz
  iintro HF
  iapply Hk
  iapply (Transfers.Flight_mono countersEmb (tileOf d L) (D' := iprop(inHolds d L X b s ∗ winPts d L X b)) ?_) $$ HF
  iintro ⟨Hs, Hw⟩
  isplitl [Hs]
  · iexists _
    isplitl [Hs]; · iexact Hs
    ipureintro
    exact View.read_write_univ _ _
  · iexact Hw

theorem wait_fetch (b : Fin 4) (s : Fin 2) {src : Memref sig .scVector .hbm S1x128 .i32} {dst : Memref sig .scVector .vmem S1x128 .i32} {sm : DmaSem sig}
    (ed : dst = inSlot s) (em : sm = inSem s) {hsrc : src.view.WordExact} {hdst : dst.view.WordExact}
    {O : CellTallies nD τ sig (HIx 1)} {W : Waits sig (HIx 1)} :
    iprop(fetching d L X b s ∗ owes (tileOf d L) O W ∗ Transfers.MayWaits (tileOf d L) (none : HIx 1) O)
      ⊢ iprop((iprop(inHolds d L X b s ∗ winPts d L X b ∗ atZero d L (inSem s) ∗ owes (tileOf d L) O (insert (SemLoc.dma (inSem s), none) W)) -∗ runs d L R (k ⟨⟩))
        -∗ runs d L R (.op (.waitDma2 sm src dst hsrc hdst) k)) := by
  subst ed em
  iintro ⟨HF, HO, Hmw⟩ Hk
  iapply (Transfers.wp_waitLocalO countersEmb 𝒱₀ (tileOf d L) none (none : HIx 1) (rfl : (inSlot s).view.dmaCredit = _)) $$ [HF HO Hmw]
  · isplitl [HF]; · iexact HF
    isplitl [HO]; · iexact HO
    iapply (Transfers.MayWaits.elim (SemLoc.dma (inSem s))) $$ Hmw
  iintro ⟨⟨Hs, Hw⟩, Hz, HO⟩
  iapply Hk
  isplitl [Hs]; · iexact Hs
  isplitl [Hw]; · iexact Hw
  isplitl [Hz]; · iexact Hz
  iexact HO

theorem start_gather (hX : InRange X) (b : Fin 4) (s : Fin 2) {src : Memref sig .scVector .hbm S8192x128 .f32} {dst : Memref sig .scVector .vmem S128x128 .f32}
    {offs : Memref sig .scVector .vmem S128 .i32} {sm : DmaSem sig}
    (es : src = tabAll) (ed : dst = outSlot s) (eo : offs = listOf s) (em : sm = gatSem)
    {hp : (tileOf d L).2.kind = .scVector} {hn : S128.numel = S128x128.size gathers_S8192x128_S128x128.axis'} {hsrc : src.view.WordExact}
    {he : EltTy.f32.bits = 32} {hsp : Space.hbm = .hbm ∨ Space.hbm = .shared} {hr : S8192x128.StreamRows 0} :
    iprop(atZero d L gatSem ∗ tabPts d q T ∗ inHolds d L X b s ∗ outAny d L s)
      ⊢ iprop((gathering d L q T X b s -∗ runs d L R (k ⟨⟩))
        -∗ runs d L R (SparseCore.enqueueIndirectGather hp src dst gathers_S8192x128_S128x128 offs hn sm hsrc he hsp hr >>= k)) := by
  subst es ed eo em
  iintro ⟨Hz, Ht, ⟨%f, Hi, %hf⟩, %g, Ho⟩ Hk
  have heq : (listOf s).view.set = (inSlot s).view.set := set_listOf s
  ihave Hi' := (Entails.of_eq (show ((tileOf d L).loc cc1_scoped0 ↦[(inSlot s).view.set]{fullShare} f : sProp 𝕄)
      = (tileOf d L).loc cc1_scoped0 ↦[(listOf s).view.set]{fullShare} f by rw [heq])) $$ Hi
  iapply (SparseCore.wp_indirectGatherLocal countersEmb 𝒱₀ (tileOf d L) none (hg := gathers_S8192x128_S128x128) (none : HIx 1)
      (outSlot s).view.dmaCredit (SparseCore.sum_rowCredit_eq_dmaCredit _ _ fun _ => rfl) (by decide)
      (list_inRange hX L b s hf)) $$ [Ht Ho Hi' Hz]
  · isplitl [Ht]; · iexact Ht
    isplitl [Ho]; · iexact Ho
    isplitl [Hi']; · iexact Hi'
    iexact Hz
  iintro HF
  iapply Hk
  iapply (Transfers.Flight_mono countersEmb (tileOf d L) (D' := iprop(outHolds d L T X b s ∗ tabPts d q T ∗ inAny d L s)) ?_) $$ HF
  iintro ⟨Ho, Ht, Hi⟩
  isplitl [Ho]
  · iexists _
    isplitl [Ho]; · iexact Ho
    ipureintro
    rw [View.read_write_univ]
    exact gathered_eq T hX L b s hf _ _
  isplitl [Ht]; · iexact Ht
  iexists f
  rw [← heq]
  iexact Hi

theorem wait_gather (b : Fin 4) (s : Fin 2) {src : Memref sig .scVector .hbm S8192x128 .f32} {dst : Memref sig .scVector .vmem S128x128 .f32} {sm : DmaSem sig}
    (ed : dst = outSlot s) (em : sm = gatSem) {hsrc : src.view.WordExact} {hdst : dst.view.WordExact}
    {O : CellTallies nD τ sig (HIx 1)} {W : Waits sig (HIx 1)} :
    iprop(gathering d L q T X b s ∗ owes (tileOf d L) O W ∗ Transfers.MayWaits (tileOf d L) (none : HIx 1) O)
      ⊢ iprop((iprop(outHolds d L T X b s ∗ tabPts d q T ∗ inAny d L s ∗ atZero d L gatSem
            ∗ owes (tileOf d L) O (insert (SemLoc.dma gatSem, none) W)) -∗ runs d L R (k ⟨⟩))
        -∗ runs d L R (.op (.waitDma2 sm src dst hsrc hdst) k)) := by
  subst ed em
  iintro ⟨HF, HO, Hmw⟩ Hk
  iapply (Transfers.wp_waitLocalO countersEmb 𝒱₀ (tileOf d L) none (none : HIx 1) (rfl : (outSlot s).view.dmaCredit = _)) $$ [HF HO Hmw]
  · isplitl [HF]; · iexact HF
    isplitl [HO]; · iexact HO
    iapply (Transfers.MayWaits.elim (SemLoc.dma gatSem)) $$ Hmw
  iintro ⟨⟨Ho, Ht, Hi⟩, Hz, HO⟩
  iapply Hk
  isplitl [Ho]; · iexact Ho
  isplitl [Ht]; · iexact Ht
  isplitl [Hi]; · iexact Hi
  isplitl [Hz]; · iexact Hz
  iexact HO

theorem start_write (b : Fin 4) (s : Fin 2) {src : Memref sig .scVector .vmem S128x128 .f32} {dst : Memref sig .scVector .hbm S128x128 .f32} {sm : DmaSem sig}
    (es : src = outSlot s) (ed : dst = rowBlk L b) (em : sm = outSem s) {hsrc : src.view.WordExact} {hdst : dst.view.WordExact}
    {hsem : DmaTarget.Typed (nD := nD) (τ := τ) .vmem (.dma sm) (DmaTarget.here (p := (tileOf d L).2) dst)} :
    iprop(outHolds d L T X b s ∗ atZero d L (outSem s) ∗ rowAny d L b)
      ⊢ iprop((writing d L T X b s -∗ runs d L R (k ⟨⟩)) -∗ runs d L R (.op (.enqueueDmaAs src (.here dst) .same (.dma sm) hsrc hdst hsem) k)) := by
  subst es ed em
  iintro ⟨⟨%f, Ho, %hf⟩, Hz, %g, Hr⟩ Hk
  iapply (Transfers.wp_dmaLocal countersEmb 𝒱₀ (tileOf d L) none (none : HIx 1) (rowBlk L b).view.dmaCredit rfl
    (View.dmaCredit_pos _ (by decide)) (Finset.Subset.refl _)) $$ [Ho Hz Hr]
  · isplitl [Ho]; · iexact Ho
    isplitl [Hr]; · iexact Hr
    iexact Hz
  iintro HF
  iapply Hk
  iapply (Transfers.Flight_mono countersEmb (tileOf d L) (D' := iprop(rowDone d L T X b ∗ outAny d L s)) ?_) $$ HF
  iintro ⟨Hr, Ho⟩
  isplitl [Hr]
  · iapply (Entails.of_eq (pointsTo_congr (ℓ := rLoc d) (I := (rowBlk L b).view.set) (q := fullShare) (f := _) (g := rowsOf T X) ?_)) $$ Hr
    intro j hj
    obtain ⟨x, rfl⟩ : ∃ x, (rowBlk L b).view.emb x = j := by simpa [View.set] using hj
    refine View.eq_of_read_eq (v := (rowBlk L b).view) (x := x) ?_
    rw [View.read_write_univ, ← hf]
  · iexists f; iexact Ho

theorem wait_write (b : Fin 4) (s : Fin 2) {src : Memref sig .scVector .vmem S128x128 .f32} {dst : Memref sig .scVector .hbm S128x128 .f32} {sm : DmaSem sig}
    (ed : dst = rowBlk L b) (em : sm = outSem s) {hsrc : src.view.WordExact} {hdst : dst.view.WordExact}
    {O : CellTallies nD τ sig (HIx 1)} {W : Waits sig (HIx 1)} :
    iprop(writing d L T X b s ∗ owes (tileOf d L) O W ∗ Transfers.MayWaits (tileOf d L) (none : HIx 1) O)
      ⊢ iprop((iprop(rowDone d L T X b ∗ outFree d L s ∗ owes (tileOf d L) O (insert (SemLoc.dma (outSem s), none) W)) -∗ runs d L R (k ⟨⟩))
        -∗ runs d L R (.op (.waitDma2 sm src dst hsrc hdst) k)) := by
  subst ed em
  iintro ⟨HF, HO, Hmw⟩ Hk
  iapply (Transfers.wp_waitLocalO countersEmb 𝒱₀ (tileOf d L) none (none : HIx 1) (rfl : (rowBlk L b).view.dmaCredit = _)) $$ [HF HO Hmw]
  · isplitl [HF]; · iexact HF
    isplitl [HO]; · iexact HO
    iapply (Transfers.MayWaits.elim (SemLoc.dma (outSem s))) $$ Hmw
  iintro ⟨⟨Hr, Ho⟩, Hz, HO⟩
  iapply Hk
  isplitl [Hr]; · iexact Hr
  isplitl [Hz Ho]
  · isplitl [Hz]; · iexact Hz
    iexact Ho
  iexact HO

end Steps

end Cert.Proof.Whole

end
-- ==== Proof.Whole.Walk.lean ====
/-
  A task's walk over its four blocks. Before trip `k` the fetch of block `k` is under way, the write-back of block
  `k - 1` is under way, the blocks below `k - 1` are written, and the blocks from `k` on are still to be written
  (`before`). A trip starts the next fetch, waits for its own, gathers its rows, starts their write-back, and waits for
  the write-back before it (`trip`).
-/
module

public import proofs.«01_k».proof.Proof.Whole.Moves

@[expose] public section

set_option maxRecDepth 16384

noncomputable section

attribute [local irreducible] Idealize.SL.BI.bigSep

namespace Cert.Proof.Whole

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The blocks from a number on, and below one -/

def fromB (n : ℕ) : Finset (Fin 4) := Finset.univ.filter fun b => n ≤ b.val
def belowB (n : ℕ) : Finset (Fin 4) := Finset.univ.filter fun b => b.val < n

theorem fromB_zero : fromB 0 = Finset.univ := by decide
theorem belowB_zero : belowB 0 = ∅ := by decide
theorem belowB_four : belowB 4 = Finset.univ := by decide
theorem fromB_of_le {n : ℕ} (h : 4 ≤ n) : fromB n = ∅ :=
  Finset.filter_eq_empty_iff.mpr fun b _ hb => absurd (b.isLt.trans_le h) (Nat.not_lt.mpr hb)
theorem fromB_insert {n : ℕ} (h : n < 4) : fromB n = insert ⟨n, h⟩ (fromB (n + 1)) := by
  ext b; simp only [fromB, Finset.mem_filter, Finset.mem_univ, true_and, Finset.mem_insert, Fin.ext_iff]; omega
theorem belowB_insert {n : ℕ} (h : n < 4) : belowB (n + 1) = insert ⟨n, h⟩ (belowB n) := by
  ext b; simp only [belowB, Finset.mem_filter, Finset.mem_univ, true_and, Finset.mem_insert, Fin.ext_iff]; omega
theorem notMem_fromB {n : ℕ} (h : n < 4) : (⟨n, h⟩ : Fin 4) ∉ fromB (n + 1) := by simp [fromB]
theorem notMem_belowB {n : ℕ} (h : n < 4) : (⟨n, h⟩ : Fin 4) ∉ belowB n := by simp [belowB]

theorem bigSep_fromB {n : ℕ} (h : n < 4) (Φ : Fin 4 → sProp 𝕄) : bigSep (fromB n) Φ = iprop(Φ ⟨n, h⟩ ∗ bigSep (fromB (n + 1)) Φ) := by
  rw [fromB_insert h, SparseCore.bigSep_insert' (notMem_fromB h)]
theorem bigSep_belowB {n : ℕ} (h : n < 4) (Φ : Fin 4 → sProp 𝕄) : bigSep (belowB (n + 1)) Φ = iprop(Φ ⟨n, h⟩ ∗ bigSep (belowB n) Φ) := by
  rw [belowB_insert h, SparseCore.bigSep_insert' (notMem_belowB h)]

theorem none_below (Φ : Fin 4 → sProp 𝕄) : (iprop(emp) : sProp 𝕄) ⊢ bigSep (belowB 0) Φ := by
  rw [belowB_zero, bigSep_empty]
  exact .rfl

attribute [local irreducible] fromB belowB

/-! ## What a task holds before a trip -/

section Walk

variable [FloatOps F] [∀ e, Nonempty (Elt F e)] (d : Dev nD) (L : grid1.Coords) (q : PosShare TreeShare)
  (T : S8192x128.Idx → Elt F .f32) (X : S1x16384.Idx → Elt F .i32)
  (O : CellTallies nD τ sig (HIx 1)) (W : Waits sig (HIx 1))

/-- The slot of block `k`: its fetch under way, or nothing when there is no such block. -/
def fetchSlot (k : ℕ) : sProp 𝕄 := if h : k < 4 then fetching d L X ⟨k, h⟩ (slot k) else inFree d L (slot k)
/-- The slot of the block before `k`: its write-back under way, or nothing before the first trip. -/
def writeSlot (k : ℕ) : sProp 𝕄 :=
  if h : 1 ≤ k ∧ k - 1 < 4 then writing d L T X ⟨k - 1, h.2⟩ (slot (k + 1)) else outFree d L (slot (k + 1))

theorem fetchSlot_lt {k : ℕ} (h : k < 4) : fetchSlot (F := F) d L X k = fetching d L X ⟨k, h⟩ (slot k) := dif_pos h
theorem fetchSlot_four : fetchSlot (F := F) d L X 4 = inFree d L (slot 4) := dif_neg (by decide)
theorem writeSlot_zero : writeSlot (F := F) d L T X 0 = outFree d L (slot 1) := dif_neg (by decide)
theorem writeSlot_succ {k : ℕ} (h : k < 4) : writeSlot (F := F) d L T X (k + 1) = writing d L T X ⟨k, h⟩ (slot (k + 2)) :=
  dif_pos ⟨Nat.le_add_left _ _, h⟩

/-- What the task owes, its own waits recorded. -/
abbrev owing : sProp 𝕄 := iprop(∃ W', ⌜∀ p ∈ W', p ∈ W ∨ p.2 = none⌝ ∗ owes (tileOf d L) O W')

omit [FloatOps F] [∀ e, Nonempty (Elt F e)] in
theorem recorded {W' : Waits sig (HIx 1)} (h : ∀ p ∈ W', p ∈ W ∨ p.2 = none) (sm : SemLoc sig) :
    ∀ p ∈ insert (sm, (none : HIx 1)) W', p ∈ W ∨ p.2 = none := fun p hp => by
  rcases Finset.mem_insert.mp hp with rfl | hp
  · exact .inr rfl
  · exact h p hp

/-- Before trip `k`. -/
def before (k : ℕ) (acc : BitVec 32 × BitVec 32 × BitVec 32 × BitVec 32 × BitVec 32) : sProp 𝕄 :=
  iprop(⌜acc = carried k⌝ ∗ owing d L O W
    ∗ fetchSlot d L X k ∗ inFree d L (slot (k + 1)) ∗ writeSlot d L T X k ∗ outFree d L (slot k)
    ∗ atZero d L gatSem ∗ tabPts d q T
    ∗ (bigSep (fromB (k + 1)) fun b => winPts d L X b) ∗ (bigSep (belowB k) fun b => winPts d L X b)
    ∗ (bigSep (fromB k) fun b => rowAny d L b) ∗ (bigSep (belowB (k - 1)) fun b => rowDone d L T X b))

variable {α : Type} {R : α → sProp (MT nD τ sig (HIx 1) (Elt F) ℕ UU ℕ)}

theorem runs_ret (v : α) : R v ⊢ runs d L R (.ret v) := by
  show _ ⊢ wp _ _ _ _ _
  rw [wp_ret]
  iintro H
  imodintro
  iexact H

/-- A guarded step: what the step gives when the guard holds is had outright when it does not. -/
theorem runs_either {c : Prop} [Decidable c] {A : c → Prog (TpuEff nD τ sig (Elt F) Λ₀ (tileOf d L).2) α}
    {B : Prog (TpuEff nD τ sig (Elt F) Λ₀ (tileOf d L).2) α} {P Q : sProp 𝕄}
    (hA : ∀ h, P ⊢ iprop((Q -∗ runs d L R B) -∗ runs d L R (A h))) (hB : ¬c → P ⊢ Q) :
    P ⊢ iprop((Q -∗ runs d L R B) -∗ runs d L R (dite c A fun _ => B)) := by
  by_cases h : c
  · rw [dif_pos h]; exact hA h
  · rw [dif_neg h]
    iintro HP Hk
    iapply Hk
    iapply (hB h) $$ HP

/-- The write-back of the block before `k` lands. -/
theorem settle {n : PUnit.{1} → Prog (TpuEff nD τ sig (Elt F) Λ₀ (tileOf d L).2) α} (k : ℕ) (h1 : 1 ≤ k) (h4 : k ≤ 4)
    {src : Memref sig .scVector .vmem S128x128 .f32} {dst : Memref sig .scVector .hbm S128x128 .f32} {sm : DmaSem sig}
    (ed : dst = rowBlk L ⟨k - 1, by omega⟩) (em : sm = outSem (slot (k - 1))) {hsrc : src.view.WordExact} {hdst : dst.view.WordExact} :
    iprop(writeSlot d L T X k ∗ (bigSep (belowB (k - 1)) fun b => rowDone d L T X b) ∗ owes (tileOf d L) O W
        ∗ Transfers.MayWaits (tileOf d L) (none : HIx 1) O)
      ⊢ iprop((iprop(outFree d L (slot (k + 1)) ∗ (bigSep (belowB k) fun b => rowDone d L T X b)
            ∗ owes (tileOf d L) O (insert (SemLoc.dma (outSem (slot (k + 1))), none) W)) -∗ runs d L R (n ⟨⟩))
        -∗ runs d L R (.op (.waitDma2 sm src dst hsrc hdst) n)) := by
  obtain ⟨j, rfl⟩ : ∃ j, k = j + 1 := ⟨k - 1, by omega⟩
  have hj : j < 4 := by omega
  simp only [Nat.add_sub_cancel] at ed em
  rw [writeSlot_succ d L T X hj, slot_add_two, bigSep_belowB hj]
  iintro ⟨HW, Hrb, HO, Hmw⟩ Hk
  iapply (wait_write d L T X ⟨j, hj⟩ (slot j) ed em) $$ [HW HO Hmw]
  · isplitl [HW]; · iexact HW
    isplitl [HO]; · iexact HO
    iexact Hmw
  iintro ⟨Hr, Hout, HO⟩
  iapply Hk
  isplitl [Hout]; · iexact Hout
  isplitl [Hr Hrb]
  · isplitl [Hr]; · iexact Hr
    iexact Hrb
  iexact HO

set_option maxHeartbeats 2000000 in
theorem trip (hX : InRange X) (k : Fin k1_t1_loop.trips) (acc : BitVec 32 × BitVec 32 × BitVec 32 × BitVec 32 × BitVec 32) :
    iprop(Transfers.MayWaits (tileOf d L) (none : HIx 1) O ∗ before d L q T X O W k.val acc)
      ⊢ runs d L (fun acc' => iprop(Transfers.MayWaits (tileOf d L) (none : HIx 1) O ∗ before d L q T X O W (k.val + 1) acc'))
          (k1_t1_body L tabM (Memref.isWhole_whole _) winM (Memref.isWhole_whole _) rowM (Memref.isWhole_whole _) inM (Memref.isWhole_whole _)
            cc1_scoped1 outM (Memref.isWhole_whole _) cc1_scoped3 cc1_scoped4 (taskWord L) k acc) := by
  have hk : k.val < 4 := trips_four ▸ k.isLt
  obtain ⟨a6, a7, a8, a9, a10⟩ := acc
  unfold before
  iintro ⟨#Hmw, %hacc, ⟨%W₀, %hW₀, HO⟩, HF, Hin, HW, Hout, Hgz, Ht, Hwa, Hwb, Hra, Hrb⟩
  simp only [carried, Prod.mk.injEq] at hacc
  obtain ⟨rfl, rfl, rfl, rfl, rfl⟩ := hacc
  unfold k1_t1_body
  simp only [k1_part1_eq_skeleton, k1_part2_eq_skeleton]
  unfold k1_part1_skel k1_part2_skel
  simp only [Prog.lift, Prog.bind_op, Prog.bind_ret, Prog.pure_eq_ret, Prog.bind_assoc, ite_self]
  simp only [wp_assume_of 𝒱₀ _ none Set.univ (chk3_ok k), wp_assume_of 𝒱₀ _ none Set.univ (chk2_ok k), wp_assume_of 𝒱₀ _ none Set.univ (chk1_ok L k)]
  rw [wp_bind]
  simp only [dif_pos (cond2_true L k), dif_pos (cond5_true L k)]
  -- the next block's fetch starts, if there is a next block
  iapply (runs_either d L (P := iprop(inFree d L (slot (k.val + 1)) ∗ bigSep (fromB (k.val + 1)) fun b => winPts d L X b))
    (Q := iprop(fetchSlot d L X (k.val + 1) ∗ bigSep (fromB (k.val + 2)) fun b => winPts d L X b)) ?next ?none) $$ [Hin Hwa]
  case next =>
    intro h
    have h3 : k.val < 3 := (cond1_iff L k).mp h
    rw [bigSep_fromB (show k.val + 1 < 4 by omega)]
    iintro ⟨Hin, Hw, Hwa⟩ Hk
    iapply (start_fetch d L X ⟨k.val + 1, by omega⟩ (slot (k.val + 1)) (winBlk_of L ⟨k.val + 1, by omega⟩ (off5_eq L k h3) _ _)
      (inSlot_of (slot (k.val + 1)) (off4_eq k h3) _ _) (inSem_of (slot (k.val + 1)) (off6_eq k h3) _)) $$ [Hin Hw]
    · isplitl [Hin]; · iexact Hin
      iexact Hw
    iintro HF
    iapply Hk
    isplitl [HF]
    · unfold fetchSlot; rw [dif_pos (show k.val + 1 < 4 by omega)]; iexact HF
    · iexact Hwa
  case none =>
    intro h
    have h3 : ¬ k.val < 3 := fun h' => h ((cond1_iff L k).mpr h')
    unfold fetchSlot
    rw [dif_neg (show ¬ k.val + 1 < 4 by omega), fromB_of_le (show 4 ≤ k.val + 1 by omega), fromB_of_le (show 4 ≤ k.val + 2 by omega)]
  · isplitl [Hin]; · iexact Hin
    iexact Hwa
  iintro ⟨HFn, Hwa⟩
  iapply (runs_ret d L _)
  simp only [Prog.bind_assoc, SparseCore.waitIndirectGather, Prog.lift, Prog.bind_op, Prog.bind_ret]
  -- its own block's fetch lands
  ihave HF := (Entails.of_eq (fetchSlot_lt d L X hk)) $$ HF
  iapply (wait_fetch d L X ⟨k.val, hk⟩ (slot k.val) (inSlot_of (slot k.val) (off7_eq k) _ _) (inSem_of (slot k.val) (off9_eq k) _)) $$ [HF HO]
  · isplitl [HF]; · iexact HF
    isplitl [HO]; · iexact HO
    iexact Hmw
  iintro ⟨Hi, Hw, Hiz, HO⟩
  -- the gather
  icases Hout with ⟨Hoz, Ho⟩
  iapply (start_gather d L q T X hX ⟨k.val, hk⟩ (slot k.val) rfl (outSlot_of (slot k.val) (off10_eq k) _ _)
    (congrArg (fun m : Memref sig .scVector .vmem S1x128 .i32 =>
      (m.slice (Rect.unit (s := S1x128) ![0, 0] S1x128.size inb_S1x128_S1x128_0_0) (fun _ => rfl)).squeeze S128 squeezes_S1x128_S128)
      (inSlot_of (slot k.val) (off11_eq k) _ _)) gatSem_eq) $$ [Hgz Ht Hi Ho]
  · isplitl [Hgz]; · iexact Hgz
    isplitl [Ht]; · iexact Ht
    isplitl [Hi]; · iexact Hi
    iexact Ho
  iintro HG
  -- the gathered rows land
  iapply (wait_gather d L q T X ⟨k.val, hk⟩ (slot k.val) (outSlot_of (slot k.val) (off10_eq k) _ _) gatSem_eq) $$ [HG HO]
  · isplitl [HG]; · iexact HG
    isplitl [HO]; · iexact HO
    iexact Hmw
  iintro ⟨Ho, Ht, Hi, Hgz, HO⟩
  -- their write-back starts
  ihave Hra := (Entails.of_eq (bigSep_fromB hk fun b => rowAny (F := F) d L b)) $$ Hra
  icases Hra with ⟨Hr, Hra⟩
  iapply (start_write d L T X ⟨k.val, hk⟩ (slot k.val) (outSlot_of (slot k.val) (off12_eq k) _ _)
    (rowBlk_of L ⟨k.val, hk⟩ (off13_eq L k) _ _) (outSem_of (slot k.val) (off14_eq k) _)) $$ [Ho Hoz Hr]
  · isplitl [Ho]; · iexact Ho
    isplitl [Hoz]; · iexact Hoz
    iexact Hr
  iintro HWn
  -- the write-back before it lands, if there is one
  iapply (runs_either d L (P := iprop(writeSlot d L T X k.val ∗ (bigSep (belowB (k.val - 1)) fun b => rowDone d L T X b)
      ∗ owes (tileOf d L) O (insert (SemLoc.dma gatSem, none) (insert (SemLoc.dma (inSem (slot k.val)), none) W₀))
      ∗ Transfers.MayWaits (tileOf d L) (none : HIx 1) O))
    (Q := iprop(outFree d L (slot (k.val + 1)) ∗ (bigSep (belowB k.val) fun b => rowDone d L T X b) ∗ owing d L O W)) ?landed ?first) $$ [HW Hrb HO]
  case landed =>
    intro h
    have h1 : 1 ≤ k.val := (cond7_iff L k).mp h
    iintro ⟨HW, Hrb, HO, Hmw⟩ Hk
    iapply (settle d L T X O _ k.val h1 hk.le (rowBlk_of L ⟨k.val - 1, by omega⟩ (off16_eq L k h1) _ _)
      (outSem_of (slot (k.val - 1)) (off17_eq k h1) _)) $$ [HW Hrb HO Hmw]
    · isplitl [HW]; · iexact HW
      isplitl [Hrb]; · iexact Hrb
      isplitl [HO]; · iexact HO
      iexact Hmw
    iintro ⟨Hout, Hrb, HO⟩
    iapply Hk
    isplitl [Hout]; · iexact Hout
    isplitl [Hrb]; · iexact Hrb
    iexists _
    isplitr
    swap; · iexact HO
    ipureintro
    exact recorded W (recorded W (recorded W hW₀ _) _) _
  case first =>
    intro h
    have h0 : k.val = 0 := Nat.eq_zero_of_not_pos fun h' => h ((cond7_iff L k).mpr h')
    rw [h0, writeSlot_zero]
    iintro ⟨HW, Hrb, HO, -⟩
    isplitl [HW]; · iexact HW
    isplitl [Hrb]; · iexact Hrb
    iexists _
    isplitr
    swap; · iexact HO
    ipureintro
    exact recorded W (recorded W hW₀ _) _
  · isplitl [HW]; · iexact HW
    isplitl [Hrb]; · iexact Hrb
    isplitl [HO]; · iexact HO
    iexact Hmw
  iintro ⟨Hout, Hrb, HO⟩
  iapply (runs_ret d L _)
  isplitr; · iexact Hmw
  isplitr
  · ipureintro; exact nextWords_eq L k
  isplitl [HO]; · iexact HO
  isplitl [HFn]; · iexact HFn
  isplitl [Hiz Hi]
  · rw [slot_add_two]
    isplitl [Hiz]; · iexact Hiz
    iexact Hi
  isplitl [HWn]
  · rw [writeSlot_succ d L T X hk, slot_add_two]; iexact HWn
  isplitl [Hout]; · iexact Hout
  isplitl [Hgz]; · iexact Hgz
  isplitl [Ht]; · iexact Ht
  isplitl [Hwa]; · iexact Hwa
  isplitl [Hw Hwb]
  · rw [bigSep_belowB hk]
    isplitl [Hw]; · iexact Hw
    iexact Hwb
  isplitl [Hra]; · iexact Hra
  iexact Hrb

/-- The two slots of each ring, nothing under way in them, and the gather's cell. -/
abbrev ringsFree : sProp 𝕄 :=
  iprop(inFree d L 0 ∗ inFree d L 1 ∗ outFree d L 0 ∗ outFree d L 1 ∗ atZero d L gatSem)

set_option maxHeartbeats 2000000 in
/-- The whole walk: from its blocks of winners, its blocks of rows at anything and its share of the table, the task
    leaves its blocks of rows holding the rows its winners name. -/
theorem walk (hX : InRange X) :
    iprop(Transfers.MayWaits (tileOf d L) (none : HIx 1) O ∗ owes (tileOf d L) O W ∗ ringsFree d L ∗ tabPts d q T
        ∗ (bigSep Finset.univ fun b => winPts d L X b) ∗ bigSep Finset.univ fun b => rowAny d L b)
      ⊢ runs d L (fun _ => iprop(owing d L O W ∗ ringsFree d L ∗ tabPts d q T
          ∗ (bigSep Finset.univ fun b => winPts d L X b) ∗ bigSep Finset.univ fun b => rowDone d L T X b))
          (cc1_kern L tabM (Memref.isWhole_whole _) winM (Memref.isWhole_whole _) rowM (Memref.isWhole_whole _) inM (Memref.isWhole_whole _)
            cc1_scoped1 outM (Memref.isWhole_whole _) cc1_scoped3 cc1_scoped4) := by
  simp only [cc1_kern_eq_skeleton]
  unfold cc1_kern_skel
  simp only [k1_part3_eq_skeleton, k1_part4_eq_skeleton]
  unfold k1_part3_skel k1_part4_skel
  simp only [Prog.lift, Prog.bind_op, Prog.bind_ret, Prog.pure_eq_ret, Prog.bind_assoc]
  iintro ⟨#Hmw, HO, ⟨Hi0, Hi1, Ho0, Ho1, Hgz⟩, Ht, Hw, Hr⟩
  ihave Hw := (Entails.of_eq (show (bigSep Finset.univ fun b => winPts (F := F) d L X b) = _ by
    rw [← fromB_zero, bigSep_fromB (show 0 < 4 by decide)])) $$ Hw
  icases Hw with ⟨Hw0, Hwa⟩
  iapply (start_fetch d L X 0 0 (winBlk_of L 0 (off2_eq L) _ _) (inSlot_of 0 off1_eq _ _) (inSem_of 0 off3_eq _)) $$ [Hi0 Hw0]
  · isplitl [Hi0]; · iexact Hi0
    iexact Hw0
  iintro HF
  unfold runs
  sl_for (fun k acc => iprop(Transfers.MayWaits (tileOf d L) (none : HIx 1) O ∗ before d L q T X O W k acc)) $$ [HO HF Hi1 Ho0 Ho1 Hgz Ht Hwa Hr]
  · intro k acc
    exact trip d L q T X O W hX k acc
  · isplitr; · iexact Hmw
    unfold before
    isplitr; · ipureintro; rfl
    isplitl [HO]
    · iexists W
      isplitr; · ipureintro; exact fun p hp => .inl hp
      iexact HO
    isplitl [HF]; · rw [fetchSlot_lt d L X (show 0 < 4 by decide)]; iexact HF
    isplitl [Hi1]; · iexact Hi1
    isplitl [Ho1]; · rw [writeSlot_zero]; iexact Ho1
    isplitl [Ho0]; · iexact Ho0
    isplitl [Hgz]; · iexact Hgz
    isplitl [Ht]; · iexact Ht
    isplitl [Hwa]; · iexact Hwa
    isplitr; · iapply (none_below fun b => winPts d L X b); iempintro
    isplitl [Hr]; · rw [fromB_zero]; iexact Hr
    iapply (none_below fun b => rowDone d L T X b); iempintro
  iintro %acc ⟨-, HI⟩
  ihave HI := (show before d L q T X O W (Scf.trips k1_t1_loop.lb k1_t1_loop.ub k1_t1_loop.st) acc ⊢ before d L q T X O W 4 acc from
    Entails.of_eq (congrArg (fun n => before d L q T X O W n acc) trips_four)) $$ HI
  unfold before
  icases HI with ⟨%hacc, ⟨%W₁, %hW₁, HO⟩, HF, Hin, HW, Hout, Hgz, Ht, -, Hwb, -, Hrb⟩
  subst hacc
  sl_respell [walk.sl.prog.cont_1]
  simp only [wp_assume_of 𝒱₀ _ none Set.univ (show k1_chk5 L (carried 4).2.2.2.2 from chk5_ok L),
    wp_assume_of 𝒱₀ _ none Set.univ (show k1_chk4 (carried 4).2.2.2.1 from chk4_ok)]
  -- the last write-back lands
  iapply (settle d L T X O W₁ 4 (by decide) (le_refl 4) (rowBlk_of L 3 (off19_eq L) _ _) (outSem_of 1 off20_eq _)) $$ [HW Hrb HO]
  · isplitl [HW]; · iexact HW
    isplitl [Hrb]; · iexact Hrb
    isplitl [HO]; · iexact HO
    iexact Hmw
  iintro ⟨Hout1, Hrb, HO⟩
  iapply (runs_ret d L _)
  isplitl [HO]
  · iexists _
    isplitr
    swap; · iexact HO
    ipureintro
    exact recorded W hW₁ _
  isplitl [HF Hin Hout Hout1 Hgz]
  · isplitl [HF]; · iapply (Entails.of_eq (fetchSlot_four d L X)); iexact HF
    isplitl [Hin]; · iexact Hin
    isplitl [Hout]; · iexact Hout
    isplitl [Hout1]; · iexact Hout1
    iexact Hgz
  isplitl [Ht]; · iexact Ht
  isplitl [Hwb]; · iapply (Entails.of_eq (congrArg (fun s => bigSep s fun b => winPts (F := F) d L X b) belowB_four)); iexact Hwb
  iapply (Entails.of_eq (congrArg (fun s => bigSep s fun b => rowDone (F := F) d L T X b) belowB_four)); iexact Hrb

end Walk

end Cert.Proof.Whole

end
-- ==== Proof.Whole.Tasks.lean ====
/-
  How the memory is dealt to the tasks. The thirty-two tasks' four blocks are 128 blocks of 128 winners, which are all
  the winners, and the rows likewise; of the table each task has one thirty-second share. A task's own scratch memory is
  the two input slots and the two output slots, and its cells are theirs and the gather's.
-/
module

public import proofs.«01_k».proof.Proof.Whole.Walk
public import Idealize.ShloMosaic.Lib.ShareLeaves

@[expose] public section

set_option maxRecDepth 16384

noncomputable section

namespace Cert.Proof.Whole

open Cert.KernelIdeal Cert.KernelIdeal.Gen
open Idealize.ShloMosaic Idealize.ShloMosaic.ValueIdx
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The tasks -/

/-- The task on subcore `s` of core `c`. -/
def taskAt (c : Fin (grid1.bound 0)) (s : Fin (grid1.bound 1)) : grid1.Coords :=
  fun | 0 => c | 1 => s | ⟨_ + 2, h⟩ => absurd h (Nat.not_lt.2 (Nat.le_add_left _ _))

/-- A block of the call: core, subcore, block of the task. -/
abbrev Blk : Type := Fin 2 × Fin 16 × Fin 4

abbrev taskOf (x : Blk) : grid1.Coords := taskAt x.1 x.2.1
abbrev startOf (x : Blk) : ℕ := start (taskOf x) x.2.2.val

theorem startOf_eq (x : Blk) : startOf x = 128 * (64 * x.1.val + 4 * x.2.1.val + x.2.2.val) := by
  show 512 * x.2.1.val + 8192 * x.1.val + 128 * x.2.2.val = _
  omega

/-- Different blocks lie apart. -/
theorem startOf_apart {x y : Blk} (h : x ≠ y) : startOf x + 128 ≤ startOf y ∨ startOf y + 128 ≤ startOf x := by
  obtain ⟨a, b, c⟩ := x
  obtain ⟨a', b', c'⟩ := y
  have hne : 64 * a.val + 4 * b.val + c.val ≠ 64 * a'.val + 4 * b'.val + c'.val := by
    intro e
    refine h ?_
    have h1 : a.val = a'.val := by omega
    have h2 : b.val = b'.val := by omega
    have h3 : c.val = c'.val := by omega
    rw [Fin.ext h1, Fin.ext h2, Fin.ext h3]
  rw [startOf_eq, startOf_eq]
  show 128 * (64 * a.val + 4 * b.val + c.val) + 128 ≤ 128 * (64 * a'.val + 4 * b'.val + c'.val)
    ∨ 128 * (64 * a'.val + 4 * b'.val + c'.val) + 128 ≤ 128 * (64 * a.val + 4 * b.val + c.val)
  omega

/-- Every place below 16384 is in a block. -/
theorem startOf_cover (n : ℕ) (h : n < 16384) : ∃ x : Blk, startOf x ≤ n ∧ n < startOf x + 128 := by
  refine ⟨(⟨n / 8192, by omega⟩, ⟨n / 512 % 16, by omega⟩, ⟨n / 128 % 4, by omega⟩), ?_⟩
  rw [startOf_eq]
  show 128 * (64 * (n / 8192) + 4 * (n / 512 % 16) + n / 128 % 4) ≤ n ∧ n < 128 * (64 * (n / 8192) + 4 * (n / 512 % 16) + n / 128 % 4) + 128
  omega

/-! ## The blocks of the winners and of the rows -/

theorem set_winBlk (i : grid1.Coords) (b : Fin 4) :
    (winBlk i b).view.set = (Rect.unit (s := S1x16384) ![0, start i b.val] S1x128.size (win_inb i b)).set := by
  show ((View.whole (main_v10_scv : Ref sig .scVector)).slice _).set = _
  rw [View.set_slice]; exact Finset.map_refl
theorem set_rowBlk (i : grid1.Coords) (b : Fin 4) :
    (rowBlk i b).view.set = (Rect.unit (s := S16384x128) ![start i b.val, 0] S128x128.size (row_inb i b)).set := by
  show ((View.whole (main_v11_scv : Ref sig .scVector)).slice _).set = _
  rw [View.set_slice]; exact Finset.map_refl
theorem set_tabAll : (tabAll).view.set = Finset.univ := by
  show ((View.whole (main_v9_scv : Ref sig .scVector)).slice _).set = _
  rw [View.set_slice]
  refine (Finset.map_refl).trans (Finset.eq_univ_iff_forall.mpr fun x => Rect.mem_set_unit.mpr fun a => ?_)
  match a with
  | 0 => exact ⟨Nat.zero_le _, by have h : (x 0).val < 8192 := (x 0).isLt; show (x 0).val < 0 + 8192; omega⟩
  | 1 => exact ⟨Nat.zero_le _, by have h : (x 1).val < 128 := (x 1).isLt; show (x 1).val < 0 + 128; omega⟩

abbrev winSet (x : Blk) : Finset S1x16384.Idx := (winBlk (taskOf x) x.2.2).view.set
abbrev rowSet (x : Blk) : Finset S16384x128.Idx := (rowBlk (taskOf x) x.2.2).view.set

theorem winSets_disjoint : ∀ x ∈ (Finset.univ : Finset Blk), ∀ y ∈ (Finset.univ : Finset Blk), x ≠ y → Disjoint (winSet x) (winSet y) := fun x _ y _ h => by
  unfold winSet
  rw [set_winBlk, set_winBlk]
  exact Rect.unit_disjoint 1 (startOf_apart h)
theorem rowSets_disjoint : ∀ x ∈ (Finset.univ : Finset Blk), ∀ y ∈ (Finset.univ : Finset Blk), x ≠ y → Disjoint (rowSet x) (rowSet y) := fun x _ y _ h => by
  unfold rowSet
  rw [set_rowBlk, set_rowBlk]
  exact Rect.unit_disjoint 0 (startOf_apart h)
theorem winSets_cover : (Finset.univ : Finset Blk).biUnion winSet = Finset.univ := by
  refine Finset.eq_univ_iff_forall.mpr fun j => Finset.mem_biUnion.mpr ?_
  obtain ⟨x, hx⟩ := startOf_cover (j 1).val (j 1).isLt
  refine ⟨x, Finset.mem_univ _, ?_⟩
  unfold winSet
  rw [set_winBlk]
  refine Rect.mem_set_unit.mpr fun a => ?_
  match a with
  | 0 => exact ⟨Nat.zero_le _, by have h : (j 0).val < 1 := (j 0).isLt; show (j 0).val < 0 + 1; omega⟩
  | 1 => exact hx
theorem rowSets_cover : (Finset.univ : Finset Blk).biUnion rowSet = Finset.univ := by
  refine Finset.eq_univ_iff_forall.mpr fun j => Finset.mem_biUnion.mpr ?_
  obtain ⟨x, hx⟩ := startOf_cover (j 0).val (j 0).isLt
  refine ⟨x, Finset.mem_univ _, ?_⟩
  unfold rowSet
  rw [set_rowBlk]
  refine Rect.mem_set_unit.mpr fun a => ?_
  match a with
  | 0 => exact hx
  | 1 => exact ⟨Nat.zero_le _, by have h : (j 1).val < 128 := (j 1).isLt; show (j 1).val < 0 + 128; omega⟩

/-! ## The deal -/

/-- The share of the table the task on subcore `s` of core `c` has. -/
abbrev shareAt (c : Fin 2) (s : Fin 16) : PosShare TreeShare := ShareLeaves.leaf 5 fullShare (@finProdFinEquiv 2 16 (c, s))

theorem wins_dealt (d : Dev nD) (X : S1x16384.Idx → Elt F .i32) :
    (wLoc d ↦{fullShare} X : sProp 𝕄)
      = bigSep Finset.univ fun c : Fin 2 => bigSep Finset.univ fun s : Fin 16 => bigSep Finset.univ fun b : Fin 4 => winPts d (taskAt c s) X b := by
  have h : (wLoc d ↦{fullShare} X : sProp 𝕄) = bigSep Finset.univ fun x : Blk => wLoc d ↦[winSet x]{fullShare} X := by
    rw [← pointsTo_biUnion Finset.univ (ℓ := wLoc d) winSet winSets_disjoint, winSets_cover]; try rfl
  rw [h, bigSep_univ_prod]
  exact bigSep_congr fun c _ => bigSep_univ_prod _
theorem rows_dealt (d : Dev nD) (f : S16384x128.Idx → Elt F .f32) :
    (rLoc d ↦{fullShare} f : sProp 𝕄)
      = bigSep Finset.univ fun c : Fin 2 => bigSep Finset.univ fun s : Fin 16 => bigSep Finset.univ fun b : Fin 4 =>
          rLoc d ↦[(rowBlk (taskAt c s) b).view.set]{fullShare} f := by
  have h : (rLoc d ↦{fullShare} f : sProp 𝕄) = bigSep Finset.univ fun x : Blk => rLoc d ↦[rowSet x]{fullShare} f := by
    rw [← pointsTo_biUnion Finset.univ (ℓ := rLoc d) rowSet rowSets_disjoint, rowSets_cover]; try rfl
  rw [h, bigSep_univ_prod]
  exact bigSep_congr fun c _ => bigSep_univ_prod _
theorem table_dealt (d : Dev nD) (T : S8192x128.Idx → Elt F .f32) :
    (tLoc d ↦{fullShare} T : sProp 𝕄)
      = bigSep Finset.univ fun c : Fin 2 => bigSep Finset.univ fun s : Fin 16 => tabPts d (shareAt c s) T := by
  unfold tabPts
  rw [set_tabAll]
  refine (ShareLeaves.pointsTo_leaves (ℓ := tLoc d) Finset.univ T 5 fullShare).trans ?_
  refine (bigSep_univ_equiv (@finProdFinEquiv 2 16) _).trans ?_
  exact bigSep_univ_prod _

/-! ## A task's scratch -/

section Scratch

variable (d : Dev nD) (L : grid1.Coords)

theorem set_inSlot (s : Fin 2) : (inSlot s).view.set = (Rect.unit (s := S2x1x128) ![s.val, 0, 0] S1x1x128.size (in_inb s)).set := by
  show (((View.whole (cc1_scoped0 : Ref sig .scVector)).slice _).reshape S1x128 _).set = _
  rw [View.set_reshape, View.set_slice]; exact Finset.map_refl
theorem set_outSlot (s : Fin 2) : (outSlot s).view.set = (Rect.unit (s := S2x128x128) ![s.val, 0, 0] S1x128x128.size (out_inb s)).set := by
  show (((View.whole (cc1_scoped2 : Ref sig .scVector)).slice _).reshape S128x128 _).set = _
  rw [View.set_reshape, View.set_slice]; exact Finset.map_refl

abbrev inSet (s : Fin 2) : Finset S2x1x128.Idx := (inSlot s).view.set
abbrev outSet (s : Fin 2) : Finset S2x128x128.Idx := (outSlot s).view.set

theorem slots_apart {s t : Fin 2} (h : s ≠ t) : s.val + 1 ≤ t.val ∨ t.val + 1 ≤ s.val := by omega

theorem inSets_disjoint : ∀ s ∈ (Finset.univ : Finset (Fin 2)), ∀ t ∈ (Finset.univ : Finset (Fin 2)), s ≠ t → Disjoint (inSet s) (inSet t) := fun s _ t _ h => by
  unfold inSet
  rw [set_inSlot, set_inSlot]
  exact Rect.unit_disjoint 0 (slots_apart h)
theorem outSets_disjoint : ∀ s ∈ (Finset.univ : Finset (Fin 2)), ∀ t ∈ (Finset.univ : Finset (Fin 2)), s ≠ t → Disjoint (outSet s) (outSet t) := fun s _ t _ h => by
  unfold outSet
  rw [set_outSlot, set_outSlot]
  exact Rect.unit_disjoint 0 (slots_apart h)
theorem inSets_cover : (Finset.univ : Finset (Fin 2)).biUnion inSet = Finset.univ := by
  refine Finset.eq_univ_iff_forall.mpr fun j => Finset.mem_biUnion.mpr ⟨(j 0 : Fin 2), Finset.mem_univ (α := Fin 2) _, ?_⟩
  rw [show inSet (j 0 : Fin 2) = _ from set_inSlot _]
  refine Rect.mem_set_unit.mpr fun a => ?_
  match a with
  | 0 => exact ⟨Nat.le_refl _, Nat.lt_succ_self _⟩
  | 1 => exact ⟨Nat.zero_le _, by have h : (j 1).val < 1 := (j 1).isLt; show (j 1).val < 0 + 1; omega⟩
  | 2 => exact ⟨Nat.zero_le _, by have h : (j 2).val < 128 := (j 2).isLt; show (j 2).val < 0 + 128; omega⟩
theorem outSets_cover : (Finset.univ : Finset (Fin 2)).biUnion outSet = Finset.univ := by
  refine Finset.eq_univ_iff_forall.mpr fun j => Finset.mem_biUnion.mpr ⟨(j 0 : Fin 2), Finset.mem_univ (α := Fin 2) _, ?_⟩
  rw [show outSet (j 0 : Fin 2) = _ from set_outSlot _]
  refine Rect.mem_set_unit.mpr fun a => ?_
  match a with
  | 0 => exact ⟨Nat.le_refl _, Nat.lt_succ_self _⟩
  | 1 => exact ⟨Nat.zero_le _, by have h : (j 1).val < 128 := (j 1).isLt; show (j 1).val < 0 + 128; omega⟩
  | 2 => exact ⟨Nat.zero_le _, by have h : (j 2).val < 128 := (j 2).isLt; show (j 2).val < 0 + 128; omega⟩

abbrev iLoc : Loc nD τ sig := (tileOf d L).loc cc1_scoped0
abbrev oLoc : Loc nD τ sig := (tileOf d L).loc cc1_scoped2

theorem in_split (f : Buf (Elt F) (iLoc d L)) : (iLoc d L ↦{fullShare} f : sProp 𝕄) ⊢ iprop(inAny d L 0 ∗ inAny d L 1) := by
  have h : (iLoc d L ↦{fullShare} f : sProp 𝕄) = bigSep Finset.univ fun s : Fin 2 => iLoc d L ↦[inSet s]{fullShare} f := by
    rw [← pointsTo_biUnion Finset.univ (ℓ := iLoc d L) inSet inSets_disjoint, inSets_cover]; try rfl
  rw [h, bigSep_univ_two]
  iintro ⟨H0, H1⟩
  isplitl [H0]
  · iexists f; iexact H0
  · iexists f; iexact H1
theorem out_split (f : Buf (Elt F) (oLoc d L)) : (oLoc d L ↦{fullShare} f : sProp 𝕄) ⊢ iprop(outAny d L 0 ∗ outAny d L 1) := by
  have h : (oLoc d L ↦{fullShare} f : sProp 𝕄) = bigSep Finset.univ fun s : Fin 2 => oLoc d L ↦[outSet s]{fullShare} f := by
    rw [← pointsTo_biUnion Finset.univ (ℓ := oLoc d L) outSet outSets_disjoint, outSets_cover]; try rfl
  rw [h, bigSep_univ_two]
  iintro ⟨H0, H1⟩
  isplitl [H0]
  · iexists f; iexact H0
  · iexists f; iexact H1

theorem in_join : (iprop(inAny d L 0 ∗ inAny d L 1) : sProp 𝕄) ⊢ iprop(∃ f, iLoc d L ↦{fullShare} f) := by
  iintro ⟨⟨%f, Hf⟩, %g, Hg⟩
  ihave H := (Entails.of_eq (bigSep_univ_two (M := 𝕄) (fun s : Fin 2 => iLoc d L ↦[inSet s]{fullShare} (![f, g] s))).symm) $$ [Hf Hg]
  · isplitl [Hf]; · iexact Hf
    iexact Hg
  ihave H' := (pointsTo_biUnion_join (ℓ := iLoc d L) (q := fullShare) (Val := Elt F) Finset.univ inSet ![f, g] f inSets_disjoint) $$ H
  icases H' with ⟨%e, -, He⟩
  rw [inSets_cover]
  iexists e; iexact He
theorem out_join : (iprop(outAny d L 0 ∗ outAny d L 1) : sProp 𝕄) ⊢ iprop(∃ f, oLoc d L ↦{fullShare} f) := by
  iintro ⟨⟨%f, Hf⟩, %g, Hg⟩
  ihave H := (Entails.of_eq (bigSep_univ_two (M := 𝕄) (fun s : Fin 2 => oLoc d L ↦[outSet s]{fullShare} (![f, g] s))).symm) $$ [Hf Hg]
  · isplitl [Hf]; · iexact Hf
    iexact Hg
  ihave H' := (pointsTo_biUnion_join (ℓ := oLoc d L) (q := fullShare) (Val := Elt F) Finset.univ outSet ![f, g] f outSets_disjoint) $$ H
  icases H' with ⟨%e, -, He⟩
  rw [outSets_cover]
  iexists e; iexact He

/-- Cell `n` of the task. -/
abbrev cell (n : Fin 5) : GSem nD τ sig := (tileOf d L, SemLoc.dma ⟨8 + n.val, by have := n.isLt; show 8 + n.val < 13; omega⟩)

theorem cell_ne {n k : Fin 5} (h : n ≠ k) : cell d L n ≠ cell d L k := fun e => h (by
  have h2 := congrArg Prod.snd e
  simp only [cell, SemLoc.dma.injEq, Fin.mk.injEq] at h2
  exact Fin.ext (by simpa using h2))
theorem cell_own (n : Fin 5) : cell d L n ∈ ownCells (tileOf d L) :=
  (mem_ownCells (g := cell d L n)).mpr ⟨rfl, by
    show (SemLoc.dma ⟨8 + n.val, by have := n.isLt; show 8 + n.val < 13; omega⟩ : SemLoc sig).isScoped .scVector = true
    revert n; decide⟩

/-- The task's cells besides the kernel's five, and its buffers besides the kernel's two. -/
abbrev cellsLeft : Finset (GSem nD τ sig) :=
  (((((ownCells (tileOf d L)).erase (cell d L 0)).erase (cell d L 1)).erase (cell d L 2)).erase (cell d L 3)).erase (cell d L 4)
abbrev bufsLeft : Finset (DevRef τ sig) :=
  ((ownRefs (τ := τ) (tileOf d L).2).erase ((tileOf d L).2.devRef cc1_scoped0)).erase ((tileOf d L).2.devRef cc1_scoped2)

theorem sems_eq : (ownSems0 (tileOf d L) : sProp 𝕄)
    = iprop(semVal (cell d L 0) 0 ∗ semVal (cell d L 1) 0 ∗ semVal (cell d L 2) 0 ∗ semVal (cell d L 3) 0 ∗ semVal (cell d L 4) 0
        ∗ bigSep (cellsLeft d L) fun g => semVal g 0) := by
  unfold SparseCore.Cfg.ownSems0
  rw [SparseCore.bigSep_erase' (cell_own d L 0),
    SparseCore.bigSep_erase' (i := cell d L 1) (by
      refine Finset.mem_erase.mpr ⟨cell_ne d L (by decide), cell_own d L 1⟩),
    SparseCore.bigSep_erase' (i := cell d L 2) (by
      refine Finset.mem_erase.mpr ⟨cell_ne d L (by decide), Finset.mem_erase.mpr ⟨cell_ne d L (by decide), cell_own d L 2⟩⟩),
    SparseCore.bigSep_erase' (i := cell d L 3) (by
      refine Finset.mem_erase.mpr ⟨cell_ne d L (by decide), Finset.mem_erase.mpr ⟨cell_ne d L (by decide),
        Finset.mem_erase.mpr ⟨cell_ne d L (by decide), cell_own d L 3⟩⟩⟩),
    SparseCore.bigSep_erase' (i := cell d L 4) (by
      refine Finset.mem_erase.mpr ⟨cell_ne d L (by decide), Finset.mem_erase.mpr ⟨cell_ne d L (by decide),
        Finset.mem_erase.mpr ⟨cell_ne d L (by decide), Finset.mem_erase.mpr ⟨cell_ne d L (by decide), cell_own d L 4⟩⟩⟩⟩)]

theorem bufs_eq : (ownBufs (tileOf d L) : sProp 𝕄)
    = iprop((∃ f, iLoc d L ↦{fullShare} f) ∗ (∃ f, oLoc d L ↦{fullShare} f)
        ∗ bigSep (bufsLeft d L) fun b => iprop(∃ f, ((d, b) : Loc nD τ sig) ↦{fullShare} f)) := by
  unfold SparseCore.Cfg.ownBufs
  refine (SparseCore.bigSep_erase' (SparseCore.Cfg.mem_ownRefs_of_owner (p := (tileOf d L).2)
    (b := (tileOf d L).2.devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := (tileOf d L).2) (b := (tileOf d L).2.devRef cc1_scoped2) rfl⟩)]

/-- What a task's scratch holds besides the rings. -/
abbrev scratchLeft : sProp 𝕄 :=
  iprop((bigSep (cellsLeft d L) fun g => semVal g 0) ∗ bigSep (bufsLeft d L) fun b => iprop(∃ f, ((d, b) : Loc nD τ sig) ↦{fullShare} f))

/-- A task's scratch is the rings with nothing under way, and the rest. -/
theorem rings_of_scratch : (iprop(ownBufs (tileOf d L) ∗ ownSems0 (tileOf d L)) : sProp 𝕄) ⊢ iprop(ringsFree d L ∗ scratchLeft d L) := by
  rw [sems_eq, bufs_eq]
  iintro ⟨⟨⟨%f, Hi⟩, ⟨%g, Ho⟩, Hb⟩, H0, H1, H2, H3, H4, Hs⟩
  ihave ⟨Hi0, Hi1⟩ := (in_split d L f) $$ Hi
  ihave ⟨Ho0, Ho1⟩ := (out_split d L g) $$ Ho
  isplitr [Hb Hs]
  · isplitl [H0 Hi0]
    · isplitl [H0]; · iexact H0
      iexact Hi0
    isplitl [H1 Hi1]
    · isplitl [H1]; · iexact H1
      iexact Hi1
    isplitl [H2 Ho0]
    · isplitl [H2]; · iexact H2
      iexact Ho0
    isplitl [H3 Ho1]
    · isplitl [H3]; · iexact H3
      iexact Ho1
    iexact H4
  · isplitl [Hs]; · iexact Hs
    iexact Hb
theorem scratch_of_rings : (iprop(ringsFree d L ∗ scratchLeft d L) : sProp 𝕄) ⊢ iprop(ownBufs (tileOf d L) ∗ ownSems0 (tileOf d L)) := by
  rw [sems_eq, bufs_eq]
  iintro ⟨⟨⟨H0, Hi0⟩, ⟨H1, Hi1⟩, ⟨H2, Ho0⟩, ⟨H3, Ho1⟩, H4⟩, Hs, Hb⟩
  ihave Hi := (in_join d L) $$ [Hi0 Hi1]
  · isplitl [Hi0]; · iexact Hi0
    iexact Hi1
  ihave Ho := (out_join d L) $$ [Ho0 Ho1]
  · isplitl [Ho0]; · iexact Ho0
    iexact Ho1
  isplitl [Hi Ho Hb]
  · isplitl [Hi]; · iexact Hi
    isplitl [Ho]; · iexact Ho
    iexact Hb
  · isplitl [H0]; · iexact H0
    isplitl [H1]; · iexact H1
    isplitl [H2]; · iexact H2
    isplitl [H3]; · iexact H3
    isplitl [H4]; · iexact H4
    iexact Hs

end Scratch

end Cert.Proof.Whole

end
-- ==== Proof.Whole.Search.lean ====
/-
  The search for the winners, the kernel's TensorCore call: 64 points, each fetching 256 rows of points with their squared
  norms, computing for each row its nearest column of the codebook and writing the 256 winners back. The body's run, the
  call's proof data, and the call as one step of @main: the six arrays it reads as they were, the winners' array at one
  function of them.
-/
module

public import proofs.«01_k».proof.Proof.Whole.Tasks
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArrays
public import Idealize.ShloMosaic.Lib.Pipeline.Value
public import Idealize.ShloMosaic.Lib.Pipeline.ValueKit
public import Idealize.ShloMosaic.Lib.VecWindow
public import Idealize.ShloMosaic.Lib.Tactic

@[expose] public section

set_option maxRecDepth 16384

noncomputable section

namespace Cert.Proof.Whole

open Cert.KernelIdeal Cert.KernelIdeal.Gen
open Idealize.ShloMosaic Idealize.ShloMosaic.ValueIdx
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body -/

/-- The winners of 256 rows `x` with squared norms `x2`, among the columns of `w` with squared norms `w2`: what the body
    stores. -/
def found (x : Vec F S256x32 .f32) (w : Vec F S32x8192 .f32) (x2 : Vec F S256x1 .f32) (w2 : Vec F S1x8192 .f32) : IVec S256 32 :=
  k0_pay1 (k0_pay5 x w x2 w2) (k0_pay6 x w x2 w2) (k0_pay7 x w x2 w2) (k0_pay8 x w x2 w2)

/-- The body's run: from the five staging buffers, the inputs' at what was fetched, it leaves the inputs as they were and
    the output's buffer at the winners. -/
theorem search_run (c : Dev nD) (i : grid0.Coords)
    (M1 : Memref sig .tc .vmem S256x32 .f32) (h1 : M1.IsWhole) (M2 : Memref sig .tc .vmem S32x8192 .f32) (h2 : M2.IsWhole)
    (M3 : Memref sig .tc .vmem S256x1 .f32) (h3 : M3.IsWhole) (M4 : Memref sig .tc .vmem S1x8192 .f32) (h4 : M4.IsWhole)
    (M5 : Memref sig .tc .vmem S256 .i32) (h5 : M5.IsWhole)
    (x : Vec F S256x32 .f32) (w : Vec F S32x8192 .f32) (x2 : Vec F S256x1 .f32) (w2 : Vec F S1x8192 .f32) (y : IVec S256 32)
    (Q : PUnit → sProp (MT nD τ sig (HIx 1) (Elt F) ℕ UU ℕ)) :
    iprop(owns (c : Thread nD τ) M1 fullShare x ∗ owns (c : Thread nD τ) M2 fullShare w ∗ owns (c : Thread nD τ) M3 fullShare x2
        ∗ owns (c : Thread nD τ) M4 fullShare w2 ∗ owns (c : Thread nD τ) M5 fullShare y
        ∗ (iprop(owns (c : Thread nD τ) M1 fullShare x ∗ owns (c : Thread nD τ) M2 fullShare w ∗ owns (c : Thread nD τ) M3 fullShare x2
            ∗ owns (c : Thread nD τ) M4 fullShare w2 ∗ owns (c : Thread nD τ) M5 fullShare (found x w x2 w2)) -∗ Q ⟨⟩))
      ⊢ wp frame (wpE (defs₀ (F := F)) 𝒱₀ (c : Thread nD τ) none) Set.univ (cc0__winners_body (F := F) i M1 h1 M2 h2 M3 h3 M4 h4 M5 h5) Q := by
  unfold owns
  iintro ⟨⟨%f1, %e1, H1⟩, ⟨%f2, %e2, H2⟩, ⟨%f3, %e3, H3⟩, ⟨%f4, %e4, H4⟩, ⟨%f5, %e5, H5⟩, Hk⟩
  subst e1 e2 e3 e4 e5
  rw [cc0__winners_body_eq_skeleton]
  unfold cc0__winners_body_skel
  rw [k0_part1_eq_skeleton]
  unfold k0_part1_skel
  simp only [Prog.bind_assoc, Prog.bind_lift, Prog.bind_op, Prog.bind_ret, Prog.pure_eq_ret]
  iapply (wp_load 𝒱₀ (c : Thread nD τ) none Set.univ (M1.view.setOn_subset_set _)) $$ H1
  iintro H1
  iapply (wp_load 𝒱₀ (c : Thread nD τ) none Set.univ (M2.view.setOn_subset_set _)) $$ H2
  iintro H2
  iapply (wp_load 𝒱₀ (c : Thread nD τ) none Set.univ (M3.view.setOn_subset_set _)) $$ H3
  iintro H3
  iapply (wp_load 𝒱₀ (c : Thread nD τ) none Set.univ (M4.view.setOn_subset_set _)) $$ H4
  iintro H4
  iapply (wp_load 𝒱₀ (c : Thread nD τ) none Set.univ (M5.view.setOn_subset_set _)) $$ H5
  iintro H5
  iapply (wp_store_writes₀ 𝒱₀ (c : Thread nD τ) none Set.univ (m := M5) (f := f5) (S := M5.view.set)
    (r := Rect.unit (s := S256) ![0] S256.size inb_S256_S256_0) (M5.view.set_slice_subset _)) $$ H5
  iintro H5
  iapply (le_wp_ret frame (wpE (defs₀ (F := F)) 𝒱₀ (c : Thread nD τ) none) Set.univ)
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  iexists _; isplitr; swap; (· iexact H5); ipureintro
  rw [View.readAt_full M1.view f1, View.readAt_full M2.view f2, View.readAt_full M3.view f3, View.readAt_full M4.view f4]
  exact View.read_writes_full M5.view f5 _ _ []

/-! ## The call's proof data -/

abbrev adm : (p : Fin 1) → (pcfgs (F := F) p).Adm := fun p => (cfgs p).toPCfg_adm

variable (V : Dev nD → Valuation τ sig (Elt F))

/-- Window `w`'s array as the call finds it. -/
abbrev arr (d : Dev nD) (w : Fin 5) : Buf (Elt F) ((cfg0.win w).arr.view.loc (d.tc : Thread nD τ)) :=
  V d (Proc.devRef .tc (Pipeline.arrRef spec0 w))

/-- The block of window `w`'s array that point `t` works on. -/
abbrev part (d : Dev nD) (w : Fin 5) (t : Fin cfg0.N) : ((cfg0.win w).xblock (cfg0.grid.coords t)).Idx → Elt F (cfg0.win w).elt :=
  ((cfg0.win w).blk t).view.read (Elt F) (arr V d w)

/-- The winners point `t` computes. -/
def foundAt (d : Dev nD) (t : Fin cfg0.N) : IVec S256 32 := found (part V d 0 t) (part V d 1 t) (part V d 2 t) (part V d 3 t)

/-- The proof data: the arrays as found; each input's buffer left as fetched, the output's at the point's winners; what
    the TensorCore owes the SparseCores owed throughout. -/
def dat (d : Dev nD) : Dat τ (Elt F) (HIx 1) ℕ UU ℕ cfg0 d where
  A w := arr V d w
  after w t := match w with
    | ⟨0, _⟩ => part V d 0 t
    | ⟨1, _⟩ => part V d 1 t
    | ⟨2, _⟩ => part V d 2 t
    | ⟨3, _⟩ => part V d 3 t
    | ⟨4, _⟩ => foundAt V d t
  Φ _ := iprop(emp)
  q _ := fullShare
  owed _ := (K (F := F)).Otc d 0
  recorded _ := {p | p.2 = none}

def pdats : (p : Fin 1) → (d : Dev nD) → Dat τ (Elt F) (HIx 1) ℕ UU ℕ (Pipeline.pin (pcfgs (F := F)) adm p) d
  | 0 => dat V

variable [∀ e, Nonempty (Elt F e)]

theorem before0 (d : Dev nD) (t : Fin cfg0.N) (x) : (dat V d).before 0 t x = part V d 0 t :=
  (dat V d).before_in_eq_fetched 0 rfl (fun _ => rfl) (fun _ _ _ => rfl) (fun _ => rfl) t x
theorem before1 (d : Dev nD) (t : Fin cfg0.N) (x) : (dat V d).before 1 t x = part V d 1 t :=
  (dat V d).before_in_eq_fetched 1 rfl (fun _ => rfl) (fun _ _ _ => rfl) (fun _ => rfl) t x
theorem before2 (d : Dev nD) (t : Fin cfg0.N) (x) : (dat V d).before 2 t x = part V d 2 t :=
  (dat V d).before_in_eq_fetched 2 rfl (fun _ => rfl) (fun _ _ _ => rfl) (fun _ => rfl) t x
theorem before3 (d : Dev nD) (t : Fin cfg0.N) (x) : (dat V d).before 3 t x = part V d 3 t :=
  (dat V d).before_in_eq_fetched 3 rfl (fun _ => rfl) (fun _ _ _ => rfl) (fun _ => rfl) t x

theorem body_obligation (d : Dev nD) : BodyObligation (dat V d) (defs₀ (F := F)) 𝒱₀ none Set.univ := fun t => by
  rw [bigSep_W0, bigSep_W0]
  rw [show (dat V d).owesAt none t.succ = (dat V d).owesAt none t.castSucc from rfl,
    show (dat V d).Φ t.succ = (dat V d).Φ t.castSucc from rfl]
  iintro ⟨HΦ, Howes, ⟨%d0, H0⟩, ⟨%d1, H1⟩, ⟨%d2, H2⟩, ⟨%d3, H3⟩, ⟨%d4, H4⟩⟩
  ihave H0 := (Entails.of_eq (congrArg (owns (d : Thread nD τ) _ fullShare) (before0 V d t d0))) $$ H0
  ihave H1 := (Entails.of_eq (congrArg (owns (d : Thread nD τ) _ fullShare) (before1 V d t d1))) $$ H1
  ihave H2 := (Entails.of_eq (congrArg (owns (d : Thread nD τ) _ fullShare) (before2 V d t d2))) $$ H2
  ihave H3 := (Entails.of_eq (congrArg (owns (d : Thread nD τ) _ fullShare) (before3 V d t d3))) $$ H3
  iapply (search_run d (grid0.coords t) (st0_0 t) (hstage0_0 (cfg0.slots t 0))
    (st0_1 t) (hstage0_1 (cfg0.slots t 1)) (st0_2 t) (hstage0_2 (cfg0.slots t 2))
    (st0_3 t) (hstage0_3 (cfg0.slots t 3)) (st0_4 t) (hstage0_4 (cfg0.slots t 4))
    (part V d 0 t) (part V d 1 t) (part V d 2 t) (part V d 3 t) _ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ## What the winners' array ends holding -/

/-- The winners of all rows: row `r`'s is computed at point `r / 256`, as its row `r % 256`. -/
def winnersOf (d : Dev nD) : S16384.Idx → BitVec 32 := fun r =>
  foundAt V d ⟨(r 0).val / 256, by have := (r 0).isLt; change _ < 16384 at this; rw [show cfg0.N = 64 from N_0]; omega⟩
    (ix1 (n := 256) ⟨(r 0).val % 256, Nat.mod_lt _ (by decide)⟩)

theorem index0_4 : ∀ t : Fin grid0.N, win0_4.index t 0 = t.val := by decide +kernel

theorem covers0_4 : win0_4.Covers := by decide +kernel

/-- After the call the winners' array holds them. -/
theorem arrAt_winners (d : Dev nD) : (dat V d).arrAt 4 cfg0.N = winnersOf V d := by
  refine Dat.arrAt_eq_of_cover (dat V d) 4 (winnersOf V d) (fun t _ => ?_) (Pipeline.Window.Covers.cover win0_4 covers0_4 (Memref.isWhole_whole _))
  funext y
  have hy : (y 0).val < 256 := (y 0).isLt
  have he : ((win0_4.rect t).emb y 0).val = t.val * 256 + (y 0).val := by
    have h := win0_4.rect_emb_val t y 0 rfl
    rw [index0_4] at h
    exact h
  show foundAt V d t y = winnersOf V d ((win0_4.rect t).emb y)
  unfold winnersOf
  have hq : (⟨((win0_4.rect t).emb y 0).val / 256, by rw [he]; have ht : t.val < 64 := lt_of_lt_of_eq t.isLt N_0; rw [show cfg0.N = 64 from N_0]; omega⟩ : Fin cfg0.N) = t :=
    Fin.ext (by show ((win0_4.rect t).emb y 0).val / 256 = t.val; rw [he]; omega)
  have hr : (ix1 (n := 256) ⟨((win0_4.rect t).emb y 0).val % 256, Nat.mod_lt _ (by decide)⟩ : S256.Idx) = y := by
    funext a
    obtain rfl : a = 0 := Subsingleton.elim _ _
    exact Fin.ext (by show ((win0_4.rect t).emb y 0).val % 256 = (y 0).val; rw [he]; omega)
  exact (congr (congrArg (foundAt V d) hq) hr).symm

/-! ## The call as a step of @main -/

/-- The valuation the call leaves. -/
abbrev after (d : Dev nD) : Valuation τ sig (Elt F) := Function.update (V d) (Proc.devRef .tc main_v7) (winnersOf V d)

theorem arrAt_after (d : Dev nD) : ∀ w : Fin 5, (dat V d).arrAt w cfg0.N = after V d (Proc.devRef .tc (Pipeline.arrRef spec0 w))
  | ⟨0, _⟩ => ((dat V d).arrAt_in 0 rfl _).trans
      (Function.update_of_ne (show Proc.devRef (τ := τ) .tc main_arg0 ≠ Proc.devRef .tc main_v7 by decide) (winnersOf V d) (V d)).symm
  | ⟨1, _⟩ => ((dat V d).arrAt_in 1 rfl _).trans
      (Function.update_of_ne (show Proc.devRef (τ := τ) .tc main_v6 ≠ Proc.devRef .tc main_v7 by decide) (winnersOf V d) (V d)).symm
  | ⟨2, _⟩ => ((dat V d).arrAt_in 2 rfl _).trans
      (Function.update_of_ne (show Proc.devRef (τ := τ) .tc main_v2 ≠ Proc.devRef .tc main_v7 by decide) (winnersOf V d) (V d)).symm
  | ⟨3, _⟩ => ((dat V d).arrAt_in 3 rfl _).trans
      (Function.update_of_ne (show Proc.devRef (τ := τ) .tc main_v5 ≠ Proc.devRef .tc main_v7 by decide) (winnersOf V d) (V d)).symm
  | ⟨4, _⟩ => (arrAt_winners V d).trans (Function.update_self (Proc.devRef (τ := τ) .tc main_v7) (winnersOf V d) (V d)).symm

theorem kit : Pipeline.PLaunchFacts (nD := nD) (τ := τ) (pcfgs (F := F)) 0 := launch0.toP

/-- A recorded wait at level zero is one of the kernels' own. -/
theorem index_none {g : GSem nD τ sig} {i : HIx 1} (h : (K (F := F)).lev g i ≤ 0) : i = none := by
  cases i with
  | none => rfl
  | some q => exact absurd (show 8 * q.val + (K (F := F)).place g + 1 ≤ 0 from h) (by omega)

/-- The waits the call records are at level zero. -/
theorem below_of_bound (d : Dev nD) {W : Waits sig (HIx 1)} (h : (↑W : Set (SemLoc sig × HIx 1)) ⊆ (dat V d).bound none (Fin.last cfg0.N)) :
    (K (F := F)).WBelow (T d) W 0 := fun p hp => by
  rcases h hp with h | ⟨_, _, h⟩
  · exact le_of_eq (by rw [show p.2 = none from h]; rfl)
  · exact le_of_eq (by rw [h]; rfl)

set_option backward.isDefEq.respectTransparency.types false in
/-- The call, entered from its arrays at any contents and what the TensorCore owes before the SparseCore call, left with
    the winners written. -/
def search : Pipeline.RegionSeg (pcfgs (F := F)) adm (pdats V) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody d := (body_obligation V d).loose
  hwaits d := Pipeline.cellsWaits_of_cut (Pipeline.pin (pcfgs (F := F)) adm) (pdats V) none 0 d 0 ((K (F := F)).Otc d 0)
    (fun _ => rfl) (fun _ _ => Finset.mem_univ _) (fun _ _ => le_refl _)
    (fun g i h => ⟨Finset.mem_univ _, lt_of_lt_of_le (by omega) ((K (F := F)).lev_of_Otc_pos h)⟩)
  pre d := iprop(StableHlo.held (d.tc : Thread nD τ) (Pipeline.arrRefs spec0) (V d)
    ∗ ∃ W, ⌜(K (F := F)).WBelow (T d) W 0⌝ ∗ owes (T d) ((K (F := F)).Otc d 0) W)
  post d := iprop(StableHlo.held (d.tc : Thread nD τ) (Pipeline.arrRefs spec0) (after V d)
    ∗ ∃ W, ⌜(K (F := F)).WBelow (T d) W 0⌝ ∗ owes (T d) ((K (F := F)).Otc d 0) W)
  X _ := iprop(emp)
  Y _ := iprop(emp)
  Z _ := iprop(emp)
  hentry d := by
    rw [Pipeline.ownSems0_none, Pipeline.prefHeld_of_none _ (show (pcfgs (F := F) 0).pre.K = 0 from rfl)]
    iintro ⟨⟨Ha, %W, %hW, HO⟩, -, -⟩
    imodintro
    isplitl [Ha]
    · iapply (Entails.of_eq (Pipeline.arrays_held pcfgs adm (pdats V) 0 kit d ((pdats V 0 d).share_full fun _ => rfl)
        ((pdats V 0 d).arrAt · 0) (V d) (fun w => rfl)).symm) $$ Ha
    isplitr; · iempintro
    isplitl [HO]
    · unfold Pipeline.Dat.owesAt Pipeline.owesWithin Pipeline.Dat.bound
      iexists W; isplitr; · ipureintro; exact fun p hp => Or.inl (index_none (hW p hp))
      iexact HO
    isplitr <;> iempintro
  hin d := by
    iintro ⟨-, -, -⟩
    iempintro
  hout d := by
    rw [Pipeline.ownSems0_none]
    iintro -
    isplitr; · iempintro
    isplitr; · iempintro
    iapply (Entails.of_eq (scopedRest0_eq d).symm)
    iempintro
  hexit d := by
    iintro ⟨Ha, HO, -, -⟩
    imodintro
    isplitl [Ha]
    · iapply (Entails.of_eq (Pipeline.arrays_held pcfgs adm (pdats V) 0 kit d ((pdats V 0 d).share_full fun _ => rfl)
        ((pdats V 0 d).arrAt · cfg0.N) (after V d) (arrAt_after V d))) $$ Ha
    unfold Pipeline.Dat.owesAt Pipeline.owesWithin
    icases HO with ⟨%W, %hW, HO⟩; iexists W
    isplitr; · ipureintro; exact below_of_bound V d hW
    iexact HO

end Cert.Proof.Whole

end
-- ==== Proof.Whole.Launch.lean ====
/-
  The run of the whole program. The TensorCore squares and sums the points and the codebook, searches for the winners
  (`search`), lays the table and the winners out, hands the table, the winners and the rows to the two SparseCores, whose
  thirty-two tasks each gather their blocks (`walk`), takes them back with the rows holding what the winners name, and
  cuts the result out of the rows. `run_main` states what every run ends with: the winners, the result, the arguments
  unchanged, every semaphore at zero.
-/
module

public import proofs.«01_k».proof.Proof.Whole.Search

@[expose] public section

set_option maxRecDepth 16384

noncomputable section

namespace Cert.Proof.Whole

open Cert.KernelIdeal Cert.KernelIdeal.Gen
open Idealize.ShloMosaic Idealize.ShloMosaic.ValueIdx
open Idealize.ShloMosaic.SparseCore (T)
open Idealize.ShloMosaic.SparseCore.Cfg (HIx Pay ownBufs ownSems0 ownCells ownRefs mem_ownCells)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The program as the launch theorem sees it -/

abbrev D [FloatOps F] : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_eq : (K (F := F)).nCore 0 = 2 := rfl
theorem nSub_eq : (K (F := F)).nSub 0 = 16 := rfl

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev gLoc (d : Dev nD) : Loc nD τ sig := (SparseCore.T d).loc main_arg2
abbrev xLoc (d : Dev nD) : Loc nD τ sig := (SparseCore.T d).loc main_v7
abbrev zLoc (d : Dev nD) : Loc nD τ sig := (SparseCore.T d).loc main_v12

variable [FloatOps F]

/-! ## The host's operations -/

abbrev opSq : HloOp τ sig (Elt F) := StableHlo.binary main_arg0 main_arg0 main_v0
  (mulf : (⟨S16384x32, .f32⟩ : BufTy).Contents (Elt F) → (⟨S16384x32, .f32⟩ : BufTy).Contents (Elt F) → (⟨S16384x32, .f32⟩ : BufTy).Contents (Elt F))
abbrev opNil : HloOp τ sig (Elt F) := StableHlo.nullary main_cst (constant S_ .f32 0x00000000#32)
abbrev opSum : HloOp τ sig (Elt F) := StableHlo.binary main_v0 main_cst main_v1
  ((fun x v => Host.reduceAdd x v reducesTo_S16384x32_S16384_d1 h_S_) : (⟨S16384x32, .f32⟩ : BufTy).Contents (Elt F) → (⟨S_, .f32⟩ : BufTy).Contents (Elt F) → (⟨S16384, .f32⟩ : BufTy).Contents (Elt F))
abbrev opCol : HloOp τ sig (Elt F) := StableHlo.unary main_v1 main_v2
  (broadcastInDim S16384x1 ![0] bcast_S16384_S16384x1_0 : (⟨S16384, .f32⟩ : BufTy).Contents (Elt F) → (⟨S16384x1, .f32⟩ : BufTy).Contents (Elt F))
abbrev opSqW : HloOp τ sig (Elt F) := StableHlo.binary main_arg1 main_arg1 main_v3
  (mulf : (⟨S8192x32, .f32⟩ : BufTy).Contents (Elt F) → (⟨S8192x32, .f32⟩ : BufTy).Contents (Elt F) → (⟨S8192x32, .f32⟩ : BufTy).Contents (Elt F))
abbrev opNilW : HloOp τ sig (Elt F) := StableHlo.nullary main_cst_0 (constant S_ .f32 0x00000000#32)
abbrev opSumW : HloOp τ sig (Elt F) := StableHlo.binary main_v3 main_cst_0 main_v4
  ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F))
abbrev opColW : HloOp τ sig (Elt F) := StableHlo.unary main_v4 main_v5
  (broadcastInDim S1x8192 ![1] bcast_S8192_S1x8192_1 : (⟨S8192, .f32⟩ : BufTy).Contents (Elt F) → (⟨S1x8192, .f32⟩ : BufTy).Contents (Elt F))
abbrev opCode : HloOp τ sig (Elt F) := StableHlo.unary main_arg1 main_v6
  ((transpose S32x8192 [1, 0] · transposes_S8192x32_S32x8192_1_0) : (⟨S8192x32, .f32⟩ : BufTy).Contents (Elt F) → (⟨S32x8192, .f32⟩ : BufTy).Contents (Elt F))
abbrev opRows : HloOp τ sig (Elt F) := StableHlo.unary main_arg2 main_v8
  ((transpose S8192x10 [1, 0] · transposes_S10x8192_S8192x10_1_0) : (⟨S10x8192, .f32⟩ : BufTy).Contents (Elt F) → (⟨S8192x10, .f32⟩ : BufTy).Contents (Elt F))
abbrev opZero : HloOp τ sig (Elt F) := StableHlo.nullary main_c (constantI S_ 32 0#32)
abbrev opFill : HloOp τ sig (Elt F) := StableHlo.unary main_c main_call0_v0 (sitofp .f32)
abbrev opPad : HloOp τ sig (Elt F) := StableHlo.binary main_v8 main_call0_v0 main_v9
  (fun x v => pad S8192x128 ![0, 0] ![0, 118] ![0, 0] x v pads_S8192x10_S8192x128_000_01180 h_S_)
abbrev opLine : HloOp τ sig (Elt F) := StableHlo.reshape main_v7 main_v10 (rfl : (.i32 : EltTy) = .i32) shapeCasts_S16384_S1x16384
abbrev opCut : HloOp τ sig (Elt F) := StableHlo.unary main_v11 main_v12
  ((extractStridedSlice S16384x10 ![0, 0] · slices_S16384x128_S16384x10_0_0) : (⟨S16384x128, .f32⟩ : BufTy).Contents (Elt F) → (⟨S16384x10, .f32⟩ : BufTy).Contents (Elt F))

/-! ## What the arrays hold -/

/-- The contents the search starts from. -/
def V0 (d : Dev nD) : Valuation τ sig (Elt F) := fun b => m (d, b)
abbrev VS (d : Dev nD) : Valuation τ sig (Elt F) :=
  (opCode (F := F)).result ((opColW (F := F)).result ((opSumW (F := F)).result ((opNilW (F := F)).result ((opSqW (F := F)).result
    ((opCol (F := F)).result ((opSum (F := F)).result ((opNil (F := F)).result ((opSq (F := F)).result (V0 m d)))))))))

/-- The winners. -/
abbrev wonBy (d : Dev nD) : S16384.Idx → BitVec 32 := winnersOf (VS m) d

/-- The winners laid out in one row. -/
def winsOf (d : Dev nD) : S1x16384.Idx → Elt F .i32 := shapeCast S1x16384 (wonBy m d) shapeCasts_S16384_S1x16384

/-- The table: the weights, a row for each neuron, padded to 128 columns. -/
def tableOf (d : Dev nD) : S8192x128.Idx → Elt F .f32 :=
  pad S8192x128 ![0, 0] ![0, 118] ![0, 0] (transpose S8192x10 [1, 0] (m (gLoc d)) transposes_S10x8192_S8192x10_1_0)
    (sitofp .f32 (constantI S_ 32 0#32)) pads_S8192x10_S8192x128_000_01180 h_S_

/-- The result: the first ten columns of the rows the winners name. -/
def resultOf (d : Dev nD) : S16384x10.Idx → Elt F .f32 :=
  extractStridedSlice S16384x10 ![0, 0] (rowsOf (tableOf m d) (winsOf m d)) slices_S16384x128_S16384x10_0_0

/-! ## What the handshakes carry -/

/-- What a task is given, and what it gives back. -/
abbrev given (d : Dev nD) (c : Fin 2) (s : Fin 16) : sProp 𝕄 :=
  iprop(tabPts d (shareAt c s) (tableOf m d) ∗ (bigSep Finset.univ fun b => winPts d (taskAt c s) (winsOf m d) b)
    ∗ bigSep Finset.univ fun b => rowAny d (taskAt c s) b)
abbrev yields (d : Dev nD) (c : Fin 2) (s : Fin 16) : sProp 𝕄 :=
  iprop(tabPts d (shareAt c s) (tableOf m d) ∗ (bigSep Finset.univ fun b => winPts d (taskAt c s) (winsOf m d) b)
    ∗ bigSep Finset.univ fun b => rowDone d (taskAt c s) (tableOf m d) (winsOf m d) b)

def P : (K (F := F)).Pay (nD := nD) (Val := Elt F) (Name := ℕ) (U := UU) where
  st := fun q d c => match q with | 0 => bigSep Finset.univ fun s : Fin 16 => given m d (Fin.cast nCore_eq c) s
  dn := fun q d c => match q with | 0 => bigSep Finset.univ fun s : Fin 16 => yields m d (Fin.cast nCore_eq c) s
  go := fun q d c s => match q with | 0 => given m d (Fin.cast nCore_eq c) (Fin.cast nSub_eq s)
  td := fun q d c s => match q with | 0 => yields m d (Fin.cast nCore_eq c) (Fin.cast nSub_eq s)
  x := fun _ _ => iprop(emp)

instance P_storable : (P (F := F) m).IsStorable where
  st q d c := match q with
    | 0 => (inferInstance : BI.Storable (upEmb : UEmb _ 𝕄) (bigSep Finset.univ fun s : Fin 16 => given m d (Fin.cast nCore_eq c) s))
  dn q d c := match q with
    | 0 => (inferInstance : BI.Storable (upEmb : UEmb _ 𝕄) (bigSep Finset.univ fun s : Fin 16 => yields m d (Fin.cast nCore_eq c) s))
  go q d c s := match q with
    | 0 => (inferInstance : BI.Storable (upEmb : UEmb _ 𝕄) (given m d (Fin.cast nCore_eq c) (Fin.cast nSub_eq s)))
  td q d c s := match q with
    | 0 => (inferInstance : BI.Storable (upEmb : UEmb _ 𝕄) (yields m d (Fin.cast nCore_eq c) (Fin.cast nSub_eq s)))

/-- Every winner the program is given names a row. -/
def AllInRange : Prop := ∀ d : Dev nD, InRange (winsOf m d)

/-! ## A task -/

section Tile

variable [∀ e, Nonempty (Elt F e)]

theorem task (hX : AllInRange m) (d : Dev nD) (c : Fin 2) (s : Fin 16) (O : CellTallies nD τ sig (HIx 1)) (W : Waits sig (HIx 1)) (hO : ∀ g, O g none = 0) :
    iprop(levAts (K (F := F)).L (K (F := F)).lev ∗ emp ∗ given m d c s
        ∗ scopedBufs (tileOf d (taskAt c s)) ∗ scopedSems0 (tileOf d (taskAt c s)) ∗ owes (tileOf d (taskAt c s)) O W)
      ⊢ runs d (taskAt c s) (fun _ => iprop(yields m d c s ∗ scopedBufs (tileOf d (taskAt c s)) ∗ scopedSems0 (tileOf d (taskAt c s))
            ∗ owing d (taskAt c s) O W))
          (cc1_kern (taskAt c s) tabM (Memref.isWhole_whole _) winM (Memref.isWhole_whole _) rowM (Memref.isWhole_whole _) inM (Memref.isWhole_whole _)
            cc1_scoped1 outM (Memref.isWhole_whole _) cc1_scoped3 cc1_scoped4) := by
  rw [(K (F := F)).scopedBufs_V facts d (coreOf (taskAt c s)) (subOf (taskAt c s)),
    SparseCore.Cfg.scopedSems0_V (Val := Elt F) d (coreOf (taskAt c s)) (subOf (taskAt c s))]
  iintro ⟨#Hlv, -, ⟨Ht, Hw, Hr⟩, Hbufs, Hsems, HO⟩
  ihave Hmw := (show levAts (K (F := F)).L (K (F := F)).lev ⊢ Transfers.MayWaits (tileOf d (taskAt c s)) (none : HIx 1) O from
    (K (F := F)).mayWaits_none (thr := tileOf d (taskAt c s)) hO) $$ Hlv
  ihave ⟨Hrings, Hleft⟩ := (rings_of_scratch (F := F) d (taskAt c s)) $$ [Hbufs Hsems]
  · isplitl [Hbufs]; · iexact Hbufs
    iexact Hsems
  ihave H := (walk d (taskAt c s) (shareAt c s) (tableOf m d) (winsOf m d) O W (hX d)) $$ [Hmw HO Hrings Ht Hw Hr]
  · isplitl [Hmw]; · iexact Hmw
    isplitl [HO]; · iexact HO
    isplitl [Hrings]; · iexact Hrings
    isplitl [Ht]; · iexact Ht
    isplitl [Hw]; · iexact Hw
    iexact Hr
  iapply (wp_wand frame (wpE (defs₀ (F := F)) 𝒱₀ (tileOf d (taskAt c s)) none) Set.univ) $$ H
  iintro %_ ⟨HO, Hrings, Ht, Hw, Hr⟩
  ihave ⟨Hbufs, Hsems⟩ := (scratch_of_rings (F := F) d (taskAt c s)) $$ [Hrings Hleft]
  · isplitl [Hrings]; · iexact Hrings
    iexact Hleft
  isplitl [Ht Hw Hr]
  · isplitl [Ht]; · iexact Ht
    isplitl [Hw]; · iexact Hw
    iexact Hr
  isplitl [Hbufs]; · iexact Hbufs
  isplitl [Hsems]; · iexact Hsems
  iexact HO

theorem defs₀_vector (c : Fin τ.nSC) (s : Fin τ.nSub) :
    defs₀ (F := F) (.scVector c s) 1 ()
      = SparseCore.onTile hcore1 hsub1 (fun c s => cc1_kern (taskAt c s) tabM (Memref.isWhole_whole _) winM (Memref.isWhole_whole _)
          rowM (Memref.isWhole_whole _) inM (Memref.isWhole_whole _) cc1_scoped1 outM (Memref.isWhole_whole _) cc1_scoped3 cc1_scoped4) ⟨⟩ c s := rfl

omit [FloatOps F] [∀ e, Nonempty (Elt F e)] in
theorem owed_post {thr : Thread nD τ} {A B C : sProp (MT nD τ sig (HIx 1) (Elt F) ℕ UU ℕ)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hX : AllInRange m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task m hX d ⟨_, hci.1⟩ ⟨_, hci.2⟩ O W hO).trans (wp_mono frame _ _ fun _ => owed_post)

end Tile

/-- A core's part is its tasks' parts. -/
theorem vecSplit : (K (F := F)).VecSplit' (P m) 0 := by
  intro d c
  show (bigSep Finset.univ fun s : Fin 16 => given m d (Fin.cast nCore_eq c) s) ⊢ |={Set.univ}=> iprop(
      (bigSep Finset.univ fun s : Fin ((K (F := F)).nSub 0) => given m d (Fin.cast nCore_eq c) (Fin.cast nSub_eq s))
      ∗ ((bigSep Finset.univ fun s : Fin ((K (F := F)).nSub 0) => yields m d (Fin.cast nCore_eq c) (Fin.cast nSub_eq s))
          -∗ bigSep Finset.univ fun s : Fin 16 => yields m d (Fin.cast nCore_eq c) s))
  iintro H; imodintro
  isplitl [H]; · iexact H
  iintro H
  iexact H

/-! ## The launch element of the ghost state -/

/-- The search's part of the ghost state. -/
abbrev EP : Emb UP (MT nD τ sig (HIx 1) (Elt F) ℕ UU ℕ) := (Emb.inl : Emb UP (UP × Counters)).trans embR

abbrev pinned : (p : Fin 1) → Pipeline.Cfg sig Λ₀ := Pipeline.pin (pcfgs (F := F)) adm

theorem pinned_inj : Function.Injective (Pipeline.cellOf (nD := nD) (τ := τ) (pinned (F := F))) := cellOf_inj

def u₀ : UU := (initOf (K (F := F)).hsCells (K (F := F)).hsToks,
  (initOf (Pipeline.cells (pinned (F := F)) pinned_inj) (Pipeline.launchToks (pinned (F := F)) pinned_inj), 1))

/-- What a device's search starts from, ghost state alone. -/
abbrev Gs (d : Dev nD) : sProp 𝕄 := iprop(Pipeline.cellsGhost (pinned (F := F)) EP 0 d ∗ Pipeline.toksInit (pinned (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => Gs d)
        ∗ bigSep Finset.univ fun thr : Thread nD τ => bigSep Finset.univ fun q : Fin 1 => (P m).x q thr) := by
  have hemp : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, HR⟩
  ihave H := (own_pair_emb embR _ _) $$ HR
  icases H with ⟨HP, -⟩
  imod (Pipeline.fund_ghost (pinned (F := F)) EP pinned_inj) $$ HP with ⟨Hg, Ht⟩
  imodintro
  isplitl [HH]; · iexact HH
  isplitl [Hg Ht]
  · simp only [Gs, bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  rw [show (bigSep Finset.univ fun thr : Thread nD τ => bigSep Finset.univ fun q : Fin 1 => (P (F := F) m).x q thr) = bigSep Finset.univ fun _ => iprop(emp) from
    bigSep_congr fun thr _ => (bigSep_univ_of_subsingleton (0 : Fin 1)).trans (show (P (F := F) m).x 0 thr = iprop(emp) from rfl), hemp]
  iempintro

/-! ## The arrays -/

abbrev at0 : DevRef τ sig := Proc.devRef .tc (main_arg0 : Ref sig .tc)
abbrev at1 : DevRef τ sig := Proc.devRef .tc (main_arg1 : Ref sig .tc)
abbrev at2 : DevRef τ sig := Proc.devRef .tc (main_arg2 : Ref sig .tc)
abbrev atSq : DevRef τ sig := Proc.devRef .tc (main_v0 : Ref sig .tc)
abbrev atNil : DevRef τ sig := Proc.devRef .tc (main_cst : Ref sig .tc)
abbrev atSum : DevRef τ sig := Proc.devRef .tc (main_v1 : Ref sig .tc)
abbrev atCol : DevRef τ sig := Proc.devRef .tc (main_v2 : Ref sig .tc)
abbrev atSqW : DevRef τ sig := Proc.devRef .tc (main_v3 : Ref sig .tc)
abbrev atNilW : DevRef τ sig := Proc.devRef .tc (main_cst_0 : Ref sig .tc)
abbrev atSumW : DevRef τ sig := Proc.devRef .tc (main_v4 : Ref sig .tc)
abbrev atColW : DevRef τ sig := Proc.devRef .tc (main_v5 : Ref sig .tc)
abbrev atCode : DevRef τ sig := Proc.devRef .tc (main_v6 : Ref sig .tc)
abbrev atWon : DevRef τ sig := Proc.devRef .tc (main_v7 : Ref sig .tc)
abbrev atRows : DevRef τ sig := Proc.devRef .tc (main_v8 : Ref sig .tc)
abbrev atZ : DevRef τ sig := Proc.devRef .tc (main_c : Ref sig .tc)
abbrev atFill : DevRef τ sig := Proc.devRef .tc (main_call0_v0 : Ref sig .tc)
abbrev atTable : DevRef τ sig := Proc.devRef .tc (main_v9 : Ref sig .tc)
abbrev atWins : DevRef τ sig := Proc.devRef .tc (main_v10 : Ref sig .tc)
abbrev atOut : DevRef τ sig := Proc.devRef .tc (main_v11 : Ref sig .tc)
abbrev atRes : DevRef τ sig := Proc.devRef .tc (main_v12 : Ref sig .tc)

/-- The TensorCore's arrays; those the search uses; those the SparseCore call uses; those the claims read. -/
abbrev arrays : Finset (DevRef τ sig) := {at0, at1, at2, atSq, atNil, atSum, atCol, atSqW, atNilW, atSumW, atColW, atCode, atWon,
  atRows, atZ, atFill, atTable, atWins, atOut, atRes}
abbrev searched : Finset (DevRef τ sig) := Pipeline.arrRefs spec0
abbrev called : Finset (DevRef τ sig) := {atTable, atWins, atOut}
abbrev kept : Finset (DevRef τ sig) := {at0, at1, at2, atWon, atRes}

omit [FloatOps F] in
set_option maxHeartbeats 2000000 in
theorem unscoped_held (d : Dev nD) (W : Valuation τ sig (Elt F)) :
    (unscopedBufs d (fun b => W (Proc.devRef .tc b)) : sProp 𝕄) = held (SparseCore.T d) arrays W := by
  unfold unscopedBufs held arrays
  rw [show (Finset.univ.filter fun b : Ref sig .tc => ¬ b.isScoped)
      = {main_arg0, main_arg1, main_arg2, main_v0, main_cst, main_v1, main_v2, main_v3, main_cst_0, main_v4, main_v5, main_v6, main_v7,
          main_v8, main_c, main_call0_v0, main_v9, main_v10, main_v11, main_v12} by decide]
  iterate 19 rw [SparseCore.bigSep_insert' (by decide)]
  rw [bigSep_singleton]
  iterate 19 rw [SparseCore.bigSep_insert' (by decide)]
  rw [bigSep_singleton]

/-- The contents after the search, before the SparseCore call, after it, and at the end. -/
abbrev VW (d : Dev nD) : Valuation τ sig (Elt F) := after (VS m) d
abbrev V1 (d : Dev nD) : Valuation τ sig (Elt F) :=
  (opLine (F := F)).result ((opPad (F := F)).result ((opFill (F := F)).result ((opZero (F := F)).result ((opRows (F := F)).result (VW m d)))))
def V2 (d : Dev nD) : Valuation τ sig (Elt F) := Function.update (V1 m d) atOut (rowsOf (tableOf m d) (winsOf m d))
abbrev V3 (d : Dev nD) : Valuation τ sig (Elt F) := (opCut (F := F)).result (V2 m d)

theorem VW_won (d : Dev nD) : VW m d atWon = wonBy m d := Function.update_self _ _ _
theorem VW_other (d : Dev nD) (b : DevRef τ sig) (h : b ≠ atWon) : VW m d b = VS m d b := Function.update_of_ne h _ _

theorem VS_arg0 (d : Dev nD) : VS m d at0 = m (aLoc d) := by
  unfold VS at0
  after_results_simp
  rfl
theorem VS_arg1 (d : Dev nD) : VS m d at1 = m (bLoc d) := by
  unfold VS at1
  after_results_simp
  rfl
theorem VS_arg2 (d : Dev nD) : VS m d at2 = m (gLoc d) := by
  unfold VS at2
  after_results_simp
  rfl

theorem V1_table (d : Dev nD) : V1 m d atTable = tableOf m d := by
  unfold V1 atTable
  after_results_simp
  unfold tableOf
  rw [← VS_arg2 m d, ← VW_other m d at2 (by decide)]
theorem V1_wins (d : Dev nD) : V1 m d atWins = winsOf m d := by
  unfold V1 atWins
  after_results_simp
  unfold winsOf
  rw [← VW_won m d]
  rfl
theorem V1_arg0 (d : Dev nD) : V1 m d at0 = m (aLoc d) := by
  unfold V1 at0
  after_results_simp
  exact (VW_other m d at0 (by decide)).trans (VS_arg0 m d)
theorem V1_arg1 (d : Dev nD) : V1 m d at1 = m (bLoc d) := by
  unfold V1 at1
  after_results_simp
  exact (VW_other m d at1 (by decide)).trans (VS_arg1 m d)
theorem V1_arg2 (d : Dev nD) : V1 m d at2 = m (gLoc d) := by
  unfold V1 at2
  after_results_simp
  exact (VW_other m d at2 (by decide)).trans (VS_arg2 m d)
theorem V1_won (d : Dev nD) : V1 m d atWon = wonBy m d := by
  unfold V1 atWon
  after_results_simp
  exact VW_won m d

theorem V3_of_V1 (d : Dev nD) (b : DevRef τ sig) (h : b ∉ ({atRes} : Finset (DevRef τ sig))) (h' : b ≠ atOut) : V3 m d b = V1 m d b := by
  unfold V3
  rw [(opCut (F := F)).result_of_not_mem _ h]
  exact Function.update_of_ne h' _ _
theorem V3_res (d : Dev nD) : V3 m d atRes = resultOf m d := by
  refine (StableHlo.unary_result _ _ _ _ _ (V2 m d)).trans ?_
  unfold resultOf
  rw [show V2 m d atOut = rowsOf (tableOf m d) (winsOf m d) from Function.update_self _ _ _]

/-! ## The call's arrays, dealt and gathered in -/

theorem held_called (d : Dev nD) (W : Valuation τ sig (Elt F)) :
    (held (SparseCore.T d) called W : sProp 𝕄)
      = iprop((tLoc d ↦{fullShare} W atTable) ∗ (wLoc d ↦{fullShare} W atWins) ∗ rLoc d ↦{fullShare} W atOut) := by
  unfold held called
  rw [SparseCore.bigSep_insert' (by decide), SparseCore.bigSep_insert' (by decide), bigSep_singleton]
theorem held_kept (d : Dev nD) (W : Valuation τ sig (Elt F)) :
    (held (SparseCore.T d) kept W : sProp 𝕄)
      = iprop((aLoc d ↦{fullShare} W at0) ∗ (bLoc d ↦{fullShare} W at1) ∗ (gLoc d ↦{fullShare} W at2) ∗ (xLoc d ↦{fullShare} W atWon)
          ∗ zLoc d ↦{fullShare} W atRes) := by
  unfold held kept
  rw [SparseCore.bigSep_insert' (by decide), SparseCore.bigSep_insert' (by decide), SparseCore.bigSep_insert' (by decide),
    SparseCore.bigSep_insert' (by decide), bigSep_singleton]

theorem rowAny_intro (d : Dev nD) (L : grid1.Coords) (b : Fin 4) (f : S16384x128.Idx → Elt F .f32) :
    (rLoc d ↦[(rowBlk L b).view.set]{fullShare} f : sProp 𝕄) ⊢ rowAny d L b := by
  iintro H
  iexists f; iexact H

theorem deal (d : Dev nD) :
    (held (SparseCore.T d) called (V1 m d) : sProp 𝕄) ⊢ bigSep Finset.univ fun c : Fin ((K (F := F)).nCore 0) => (P m).st 0 d c := by
  show _ ⊢ bigSep Finset.univ fun c : Fin 2 => bigSep Finset.univ fun s : Fin 16 => given m d c s
  simp only [given, bigSep_sep']
  rw [held_called, V1_table, V1_wins, table_dealt, wins_dealt, rows_dealt]
  iintro ⟨Ht, Hw, Hr⟩
  isplitl [Ht]; · iexact Ht
  isplitl [Hw]; · iexact Hw
  iapply (show (bigSep Finset.univ fun c : Fin 2 => bigSep Finset.univ fun s : Fin 16 => bigSep Finset.univ fun b : Fin 4 =>
      (rLoc d ↦[(rowBlk (taskAt c s) b).view.set]{fullShare} V1 m d atOut : sProp 𝕄))
      ⊢ bigSep Finset.univ fun c : Fin 2 => bigSep Finset.univ fun s : Fin 16 => bigSep Finset.univ fun b : Fin 4 => rowAny d (taskAt c s) b from
    bigSep_mono fun c _ => bigSep_mono fun s _ => bigSep_mono fun b _ => rowAny_intro d (taskAt c s) b _) $$ Hr

theorem collect (d : Dev nD) :
    (bigSep Finset.univ fun c : Fin ((K (F := F)).nCore 0) => (P m).dn 0 d c) ⊢ (held (SparseCore.T d) called (V2 m d) : sProp 𝕄) := by
  show (bigSep Finset.univ fun c : Fin 2 => bigSep Finset.univ fun s : Fin 16 => yields m d c s) ⊢ _
  simp only [yields, bigSep_sep']
  rw [held_called, show V2 m d atTable = tableOf m d from (Function.update_of_ne (show atTable ≠ atOut by decide) _ _).trans (V1_table m d),
    show V2 m d atWins = winsOf m d from (Function.update_of_ne (show atWins ≠ atOut by decide) _ _).trans (V1_wins m d),
    show V2 m d atOut = rowsOf (tableOf m d) (winsOf m d) from Function.update_self _ _ _, table_dealt, wins_dealt, rows_dealt]

/-! ## @main -/

/-- What is left of the arrays for the claims. -/
abbrev FIN (d : Dev nD) : sProp 𝕄 :=
  iprop((aLoc d ↦{fullShare} m (aLoc d)) ∗ (bLoc d ↦{fullShare} m (bLoc d)) ∗ (gLoc d ↦{fullShare} m (gLoc d))
    ∗ (xLoc d ↦{fullShare} wonBy m d) ∗ zLoc d ↦{fullShare} resultOf m d)

/-- The search's call, as the program names it, is the call the search's rule speaks of, carried over. -/
theorem search_call (d : Dev nD) :
    (SparseCore.liftProg (Q := 1) (Prog.op (.customCall (Pipeline.entry 0) ()) fun _ => .ret ⟨⟩ :
      Prog (TpuEff nD τ sig (Elt F) (ΛP (F := F)) (SparseCore.T (τ := τ) d).2) PUnit))
      = Prog.lift (.customCall (SparseCore.inner (Pipeline.entry 0)) ()) := rfl

set_option backward.isDefEq.respectTransparency.types false in
/-- The search's rule, under the program's own table of bodies. -/
theorem search_rule [∀ e, Nonempty (Elt F e)] (V : Dev nD → Valuation τ sig (Elt F)) (d : Dev nD) (Q : PUnit → sProp (MT nD τ sig (HIx 1) (Elt F) ℕ UU ℕ)) :
    iprop((iprop(boundary (SparseCore.T d) ∗ (search V).post d) -∗ Q ⟨⟩)
        ∗ boundary (SparseCore.T d) ∗ (search V).pre d ∗ levAts (K (F := F)).L (K (F := F)).lev ∗ Gs d)
      ⊢ wp frame (wpE (D (F := F)) 𝒱 (SparseCore.T d) none) Set.univ (.op (.customCall (Pipeline.entry 0) ()) fun _ => .ret ⟨⟩) Q := by
  have H := Pipeline.RegionSeg.wp (pcfgs (F := F)) adm (pdats V) none (pinned_inj (F := F)) (EP (F := F)) defs₀ 𝒱₀ (K (F := F)).L (K (F := F)).lev
    (search V) d none (fun _ h => nomatch h) (fun _ => .ret ⟨⟩) Q
  refine BIBase.Entails.trans ?_ H
  iintro ⟨Hk, Hb, Hp, Hl, Hg, Ht⟩
  isplitl [Hk]
  · iintro H
    iapply (le_wp_ret frame (wpE (D (F := F)) 𝒱 (SparseCore.T d) none) Set.univ)
    iapply Hk $$ H
  isplitl [Hb]; · iexact Hb
  isplitl [Hp]; · iexact Hp
  isplitl [Hl]; · iexact Hl
  isplitl [Hg]; · iexact Hg
  iexact Ht

theorem search_pre [∀ e, Nonempty (Elt F e)] (V : Dev nD → Valuation τ sig (Elt F)) (d : Dev nD) : (search V).pre d
    = iprop(held (SparseCore.T d) searched (V d) ∗ ∃ W, ⌜(K (F := F)).WBelow (SparseCore.T d) W 0⌝ ∗ owes (SparseCore.T d) ((K (F := F)).Otc d 0) W) := rfl
theorem search_post [∀ e, Nonempty (Elt F e)] (V : Dev nD → Valuation τ sig (Elt F)) (d : Dev nD) : (search V).post d
    = iprop(held (SparseCore.T d) searched (after V d) ∗ ∃ W, ⌜(K (F := F)).WBelow (SparseCore.T d) W 0⌝ ∗ owes (SparseCore.T d) ((K (F := F)).Otc d 0) W) := rfl

/-- The search's call, as a step. -/
theorem wp_search [∀ e, Nonempty (Elt F e)] (κ : GSem nD τ sig → ℕ) (d : Dev nD) (Q : PUnit → sProp (MT nD τ sig (HIx 1) (Elt F) ℕ UU ℕ)) :
    iprop((K (F := F)).ctx EH (P m) κ ∗ (K (F := F)).tcSt EH d 0 ∗ boundary (SparseCore.T d) ∗ held (SparseCore.T d) searched (VS m d) ∗ Gs d
        ∗ (iprop((K (F := F)).tcSt EH d 0 ∗ boundary (SparseCore.T d) ∗ held (SparseCore.T d) searched (VW m d)) -∗ Q ⟨⟩))
      ⊢ wp frame (wpE ((K (F := F)).defs (D (F := F))) 𝒱 (SparseCore.T d) none) Set.univ
          (Prog.lift (.customCall (SparseCore.inner (Pipeline.entry 0)) ())) Q := by
  rw [← search_call d]
  refine BIBase.Entails.trans ?_ ((K (F := F)).wp_liftProg (D (F := F)) 𝒱 (SparseCore.T d) Set.univ none _ Q)
  refine BIBase.Entails.trans ?_ (search_rule (VS m) d Q)
  rw [search_pre, search_post]
  unfold SparseCore.Cfg.tcSt SparseCore.Cfg.ctx
  iintro ⟨⟨#Hlv, -⟩, ⟨HO, Hst⟩, Hb, Hh, HG, Hk⟩
  isplitl [Hk Hst]
  · iintro ⟨Hb, Hh, HO⟩
    iapply Hk
    isplitl [HO Hst]
    · isplitl [HO]; · iexact HO
      iexact Hst
    isplitl [Hb]; · iexact Hb
    iexact Hh
  isplitl [Hb]; · iexact Hb
  isplitl [Hh HO]
  · isplitl [Hh]; · iexact Hh
    iexact HO
  isplitr; · iexact Hlv
  iexact HG

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gs d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) arrays (V0 m d) from unscoped_held d (V0 m d)]
  simp only [main, fn_pad.body, wp_bind, wp_pure]
  iintro ⟨#Hctx, Hst, ⟨Hb, Hheld, Hts, -⟩, HG⟩
  iapply (wp_hlo_within 𝒱 (SparseCore.T d) none Set.univ (op := opSq) (S := arrays)
    (show ({at0, atSq} : Finset (DevRef τ sig)) ⊆ arrays by decide) (V := V0 m d)) $$ [Hb Hheld]
  · isplitl [Hb] <;> iassumption
  iintro ⟨Hb, Hheld⟩
  rw [wp_ret]; imodintro
  iapply (wp_hlo_within 𝒱 (SparseCore.T d) none Set.univ (op := opNil) (S := arrays)
    (show ({atNil} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opSum) (S := arrays)
    (show ({atSq, atNil, atSum} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opCol) (S := arrays)
    (show ({atSum, atCol} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opSqW) (S := arrays)
    (show ({at1, atSqW} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opNilW) (S := arrays)
    (show ({atNilW} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opSumW) (S := arrays)
    (show ({atSqW, atNilW, atSumW} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opColW) (S := arrays)
    (show ({atSumW, atColW} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opCode) (S := arrays)
    (show ({at1, atCode} : Finset (DevRef τ sig)) ⊆ arrays by decide)) $$ [Hb Hheld]
  · isplitl [Hb] <;> iassumption
  iintro ⟨Hb, Hheld⟩
  rw [wp_ret]; imodintro
  ihave Hh := (Entails.of_eq (show (held (SparseCore.T d) arrays (VS m d) : sProp 𝕄)
      = iprop(held (SparseCore.T d) searched (VS m d) ∗ held (SparseCore.T d) (arrays \ searched) (VS m d)) from
    held_sub_split (SparseCore.T d) (show searched ⊆ arrays by decide) (VS m d))) $$ Hheld
  icases Hh with ⟨Hc, Hrest⟩
  iapply (wp_search m κ d)
  isplitr; · iexact Hctx
  isplitl [Hst]; · iexact Hst
  isplitl [Hb]; · iexact Hb
  isplitl [Hc]; · iexact Hc
  isplitl [HG]; · iexact HG
  iintro ⟨Hst, Hb, Hc⟩
  ihave Hrest' := (Entails.of_eq (show (held (SparseCore.T d) (arrays \ searched) (VS m d) : sProp 𝕄) = held (SparseCore.T d) (arrays \ searched) (VW m d) from
    held_congr (SparseCore.T d) fun b hb => (VW_other m d b (fun e : b = atWon => (Finset.mem_sdiff.mp hb).2 (e ▸ (show atWon ∈ searched by decide)))).symm)) $$ Hrest
  ihave Hheld := (Entails.of_eq (held_sub_split (SparseCore.T d) (show searched ⊆ arrays by decide) (VW m d)).symm) $$ [Hc Hrest']
  · isplitl [Hc]; · iexact Hc
    iexact Hrest'
  iapply (wp_hlo_within 𝒱 (SparseCore.T d) none Set.univ (op := opRows) (S := arrays)
    (show ({at2, atRows} : Finset (DevRef τ sig)) ⊆ arrays by decide) (V := VW m d)) $$ [Hb Hheld]
  · isplitl [Hb] <;> iassumption
  iintro ⟨Hb, Hheld⟩
  rw [wp_ret]; imodintro
  iapply (wp_hlo_within 𝒱 (SparseCore.T d) none Set.univ (op := opZero) (S := arrays)
    (show ({atZ} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opFill) (S := arrays)
    (show ({atZ, atFill} : Finset (DevRef τ sig)) ⊆ arrays by decide)) $$ [Hb Hheld]
  · isplitl [Hb] <;> iassumption
  iintro ⟨Hb, Hheld⟩
  rw [wp_ret]; imodintro
  iapply (wp_hlo_within 𝒱 (SparseCore.T d) none Set.univ (op := opPad) (S := arrays)
    (show ({atRows, atFill, atTable} : Finset (DevRef τ sig)) ⊆ arrays by decide)) $$ [Hb Hheld]
  · isplitl [Hb] <;> iassumption
  iintro ⟨Hb, Hheld⟩
  rw [wp_ret]; imodintro; imodintro
  iapply (wp_hlo_within 𝒱 (SparseCore.T d) none Set.univ (op := opLine) (S := arrays)
    (show ({atWon, atWins} : Finset (DevRef τ sig)) ⊆ arrays by decide)) $$ [Hb Hheld]
  · isplitl [Hb] <;> iassumption
  iintro ⟨Hb, Hheld⟩
  rw [wp_ret]; imodintro
  ihave Hh := (Entails.of_eq (show (held (SparseCore.T d) arrays (V1 m d) : sProp 𝕄)
      = iprop(held (SparseCore.T d) called (V1 m d) ∗ held (SparseCore.T d) (arrays \ called) (V1 m d)) from
    held_sub_split (SparseCore.T d) (show called ⊆ arrays by decide) (V1 m d))) $$ Hheld
  icases Hh with ⟨Hc, Hrest⟩
  iapply ((K (F := F)).wp_run (D (F := F)) 𝒱 (EH := EH) (P := P m) κ d 0) $$ [Hst Hc Hrest Hb Hts]
  isplitr; · iexact Hctx
  isplitl [Hst]; · iexact Hst
  isplitl [Hc]; · iapply (deal m d) $$ Hc
  iintro ⟨Hst, Hdn⟩
  ihave Hc := (collect m d) $$ Hdn
  ihave Hrest' := (Entails.of_eq (show (held (SparseCore.T d) (arrays \ called) (V1 m d) : sProp 𝕄) = held (SparseCore.T d) (arrays \ called) (V2 m d) from
    held_congr (SparseCore.T d) fun b hb => (Function.update_of_ne (fun e : b = atOut => (Finset.mem_sdiff.mp hb).2 (e ▸ (show atOut ∈ called by decide))) _ _).symm)) $$ Hrest
  iapply (wp_hlo_within 𝒱 (SparseCore.T d) none Set.univ (op := opCut) (S := arrays)
    (show ({atOut, atRes} : Finset (DevRef τ sig)) ⊆ arrays by decide) (V := V2 m d)) $$ [Hb Hc Hrest']
  · isplitl [Hb]; · iexact Hb
    iapply (Entails.of_eq (held_sub_split (SparseCore.T d) (show called ⊆ arrays by decide) (V2 m d)).symm)
    isplitl [Hc]; · iexact Hc
    iexact Hrest'
  iintro ⟨Hb, Hheld⟩
  ihave Hh := (Entails.of_eq (show (held (SparseCore.T d) arrays (V3 m d) : sProp 𝕄)
      = iprop(FIN m d ∗ held (SparseCore.T d) (arrays \ kept) (V3 m d)) by
    rw [held_sub_split (SparseCore.T d) (show kept ⊆ arrays by decide) (V3 m d), held_kept, V3_res,
      V3_of_V1 m d at0 (by decide) (by decide), V3_of_V1 m d at1 (by decide) (by decide), V3_of_V1 m d at2 (by decide) (by decide),
      V3_of_V1 m d atWon (by decide) (by decide), V1_arg0, V1_arg1, V1_arg2, V1_won])) $$ Hheld
  icases Hh with ⟨HF, -⟩
  rw [wp_ret]; imodintro; imodintro
  isplitl [Hst]; · iexact Hst
  isplitl [HF]; · iexact HF
  isplitl [Hb] <;> iassumption

/-- What the claims read of a final state. -/
def fq (d : Dev nD) (s' : Phys nD τ sig (Elt F)) : Prop :=
  s'.mem.mem (zLoc d) = resultOf m d ∧ s'.mem.mem (xLoc d) = wonBy m d ∧ s'.mem.mem (aLoc d) = m (aLoc d) ∧ s'.mem.mem (bLoc d) = m (bLoc d)
    ∧ s'.mem.mem (gLoc d) = m (gLoc d)

theorem hfin (d : Dev nD) (s' : Phys nD τ sig (Elt F)) : iprop(FIN m d ∗ SI s') ⊢ (⌜fq m d s'⌝ : sProp 𝕄) := by
  iintro ⟨⟨Ha, Hb, Hg, Hx, Hz⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%hb, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%hg, HSI, -⟩
  ihave H := (persistent_entails_right (SI_pointsTo_agree (st := s') (ℓ := xLoc d) (I := Finset.univ) (q := fullShare) (f := wonBy m d))) $$ [HSI Hx]
  · isplitl [HSI] <;> iassumption
  icases H with ⟨%hx, HSI, -⟩
  ihave H := (SI_pointsTo_agree (st := s') (ℓ := zLoc d) (I := Finset.univ) (q := fullShare) (f := resultOf m d)) $$ [HSI Hz]
  · isplitl [HSI] <;> iassumption
  icases H with %hz
  ipureintro
  exact ⟨funext fun i => hz i (Finset.mem_univ i), funext fun i => hx i (Finset.mem_univ i), funext fun i => ha i (Finset.mem_univ i),
    funext fun i => hb i (Finset.mem_univ i), funext fun i => hg i (Finset.mem_univ i)⟩

/-- What every run ends with. -/
def Ends : PUnit × MemSt nD τ sig (Elt F) → Prop := fun r =>
  (∀ d : Dev nD, r.2.mem (zLoc d) = resultOf m d ∧ r.2.mem (xLoc d) = wonBy m d ∧ r.2.mem (aLoc d) = m (aLoc d) ∧ r.2.mem (bLoc d) = m (bLoc d)
    ∧ r.2.mem (gLoc d) = m (gLoc d)) ∧ r.2.sem = fun _ => 0

theorem run_main [∀ e, Nonempty (Elt F e)] (hX : AllInRange m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX)
    (fun q _ => match q with | 0 => SparseCore.Cfg.VecSplit.of_plain (vecSplit m))
    m ρ main (fun d => Gs d) (FIN m) (u₀ (F := F)) (sep_elim_left.trans (hu₀ m)) (hmain m ρ) (fq m) (hfin m) (Ends m) (fun _ h hz => ⟨h, hz⟩)

end Cert.Proof.Whole

end
-- ==== Proof.Whole.Least.lean ====
/-
  The nearest neuron: the first place where a row of 8192 extended reals is least. What a fold by a choosing operation
  ends at; hence what the least value of a half row is, the first place that equals it, and the first place of the whole
  row, whether the two halves are compared or (value, place) pairs are folded in order.
-/
module

public import proofs.«01_k».proof.Proof.Chosen
public import Idealize.ShloMosaic.PureOps.Reduce
public import Idealize.ShloMosaic.PureOps.Ideal.Laws

@[expose] public section

noncomputable section

namespace Cert.Proof

open Idealize.ShloMosaic Idealize.ShloMosaic.ValueIdx

/-! ## Folds by an operation that picks one of its operands -/

/-- `op` gives one of its operands, and that one is before both in the order `R`. -/
structure Picks {α : Type} (op : α → α → α) (R : α → α → Prop) : Prop where
  refl : ∀ a, R a a
  trans : ∀ {a b c}, R a b → R b c → R a c
  pick : ∀ a b, op a b = a ∨ op a b = b
  left : ∀ a b, R (op a b) a
  right : ∀ a b, R (op a b) b

section Folds
variable {α ι : Type} {op : α → α → α} {R : α → α → Prop}

/-- A fold over a list ends at the start or at a member, and is before all of them. -/
theorem foldl_picks (h : Picks op R) : ∀ (l : List α) (init : α),
    (l.foldl op init = init ∨ l.foldl op init ∈ l) ∧ R (l.foldl op init) init ∧ ∀ p ∈ l, R (l.foldl op init) p
  | [], init => ⟨Or.inl rfl, h.refl _, fun _ hp => absurd hp List.not_mem_nil⟩
  | a :: l, init => by
    obtain ⟨hm, hi, ha⟩ := foldl_picks h l (op init a)
    rw [List.foldl_cons]
    refine ⟨?_, h.trans hi (h.left _ _), fun p hp => ?_⟩
    · rcases hm with hm | hm
      · rcases h.pick init a with e | e
        · exact Or.inl (hm.trans e)
        · exact Or.inr (List.mem_cons.2 (Or.inl (hm.trans e)))
      · exact Or.inr (List.mem_cons.2 (Or.inr hm))
    · rcases List.mem_cons.1 hp with rfl | hp
      · exact h.trans hi (h.right _ _)
      · exact ha p hp

/-- A fold over a finite set likewise. -/
theorem fold_picks (h : Picks op R) [Std.Commutative op] [Std.Associative op] (f : ι → α) (init : α) (S : Finset ι) :
    (S.fold op init f = init ∨ ∃ i ∈ S, S.fold op init f = f i) ∧ R (S.fold op init f) init ∧ ∀ i ∈ S, R (S.fold op init f) (f i) := by
  induction S using Finset.cons_induction with
  | empty => exact ⟨Or.inl rfl, h.refl _, fun i hi => absurd hi (Finset.notMem_empty i)⟩
  | cons a S ha ih =>
    obtain ⟨hm, hi, hall⟩ := ih
    rw [Finset.fold_cons]
    refine ⟨?_, h.trans (h.right _ _) hi, fun i hS => ?_⟩
    · rcases h.pick (f a) (S.fold op init f) with e | e
      · exact Or.inr ⟨a, Finset.mem_cons_self _ _, e⟩
      · rw [e]
        rcases hm with hm | ⟨i, hi, hm⟩
        · exact Or.inl hm
        · exact Or.inr ⟨i, Finset.mem_cons.2 (Or.inr hi), hm⟩
    · rcases Finset.mem_cons.1 hS with rfl | hS
      · exact h.left _ _
      · exact h.trans (h.right _ _) (hall i hS)

end Folds

theorem picks_min : Picks (fun a b : EReal => min a b) (fun a b => a ≤ b) where
  refl := le_refl
  trans := le_trans
  pick a b := min_choice a b
  left := min_le_left
  right := min_le_right

theorem picks_minsi : Picks (IntOp.minsi (w := 32)) (fun a b => a.toInt ≤ b.toInt) where
  refl _ := le_refl _
  trans := le_trans
  pick a b := by unfold IntOp.minsi; split <;> simp
  left a b := by
    unfold IntOp.minsi
    simp only [BitVec.slt_eq_decide, decide_eq_true_eq]
    split <;> omega
  right a b := by
    unfold IntOp.minsi
    simp only [BitVec.slt_eq_decide, decide_eq_true_eq]
    split <;> omega

theorem toInt_ofNat_small {n : Nat} (h : n < 2 ^ 31) : (BitVec.ofNat 32 n).toInt = (n : Int) := by
  rw [BitVec.toInt_eq_toNat_cond, BitVec.toNat_ofNat, Nat.mod_eq_of_lt (by omega)]
  split <;> omega

/-! ## The first least place -/

/-- The word `v` is the first place where `f` is least. -/
def Nearest {N : Nat} (f : Fin N → EReal) (v : BitVec 32) : Prop :=
  ∃ n : Fin N, v = BitVec.ofNat 32 n.val ∧ (∀ k, f n ≤ f k) ∧ ∀ k, f k = f n → n.val ≤ k.val

theorem Nearest.unique {N : Nat} {f : Fin N → EReal} {v v' : BitVec 32} (h : Nearest f v) (h' : Nearest f v') : v = v' := by
  obtain ⟨n, rfl, hle, hfirst⟩ := h
  obtain ⟨n', rfl, hle', hfirst'⟩ := h'
  have e : f n = f n' := le_antisymm (hle n') (hle' n)
  exact congrArg (BitVec.ofNat 32) (le_antisymm (hfirst n' e.symm) (hfirst' n e))

theorem Nearest.lt {f : Fin 8192 → EReal} {v : BitVec 32} (h : Nearest f v) : v.toNat < 8192 := by
  obtain ⟨n, rfl, -, -⟩ := h
  have := n.isLt
  rw [BitVec.toNat_ofNat, Nat.mod_eq_of_lt (by omega)]
  exact this

/-- A half row: its least value, from ⊤, and the first place equal to it, from the largest word with 8192 for the others. -/
theorem half_nearest (g : Fin 4096 → EReal) (m : EReal) (hm : m = (Finset.univ : Finset (Fin 4096)).fold (fun a b : EReal => min a b) ⊤ g)
    (p : BitVec 32) (hp : p = (Finset.univ : Finset (Fin 4096)).fold IntOp.minsi 2147483647#32 (fun k => if g k = m then BitVec.ofNat 32 k.val else 8192#32)) :
    Nearest g p ∧ ∀ n : Fin 4096, p = BitVec.ofNat 32 n.val → g n = m := by
  obtain ⟨hmem, -, hle⟩ := fold_picks picks_min g ⊤ Finset.univ
  rw [← hm] at hmem hle
  have hle : ∀ k, m ≤ g k := fun k => hle k (Finset.mem_univ k)
  obtain ⟨k₀, hk₀⟩ : ∃ k, g k = m := by
    rcases hmem with e | ⟨k, -, e⟩
    · exact ⟨0, le_antisymm (e ▸ le_top) (hle 0)⟩
    · exact ⟨k, e.symm⟩
  obtain ⟨pmem, -, ple⟩ := fold_picks picks_minsi (fun k : Fin 4096 => if g k = m then BitVec.ofNat 32 k.val else 8192#32) 2147483647#32 Finset.univ
  rw [← hp] at pmem ple
  have hfirst : ∀ k, g k = m → p.toInt ≤ (k.val : Int) := fun k hk => by
    have h := ple k (Finset.mem_univ k)
    rw [if_pos hk, toInt_ofNat_small (by have := k.isLt; omega)] at h
    exact h
  have hsmall : p.toInt < 4096 := lt_of_le_of_lt (hfirst k₀ hk₀) (by have := k₀.isLt; omega)
  obtain ⟨n, hn, hpn⟩ : ∃ n : Fin 4096, g n = m ∧ p = BitVec.ofNat 32 n.val := by
    rcases pmem with e | ⟨n, -, e⟩
    · rw [e] at hsmall; exact absurd hsmall (by decide)
    · by_cases h : g n = m
      · exact ⟨n, h, by rw [e, if_pos h]⟩
      · rw [if_neg h] at e; rw [e] at hsmall; exact absurd hsmall (by decide)
  have hpv : p.toInt = (n.val : Int) := by rw [hpn]; exact toInt_ofNat_small (by have := n.isLt; omega)
  refine ⟨⟨n, hpn, fun k => hn ▸ hle k, fun k hk => ?_⟩, fun n' hn' => ?_⟩
  · have h := hfirst k (hk.trans hn)
    omega
  · have : p.toInt = (n'.val : Int) := by rw [hn']; exact toInt_ofNat_small (by have := n'.isLt; omega)
    have e : n' = n := Fin.ext (by omega)
    rw [e]; exact hn

/-- The two halves compared: the second's place, moved by 4096, only where its least value is strictly less. -/
theorem halves_nearest (f : Fin 8192 → EReal) (gl gr : Fin 4096 → EReal) (hl : ∀ k, gl k = f ⟨k.val, by have := k.isLt; omega⟩)
    (hr : ∀ k, gr k = f ⟨4096 + k.val, by have := k.isLt; omega⟩) (ml mr : EReal) (pl pr : BitVec 32)
    (hpl : Nearest gl pl) (hml : ∀ n : Fin 4096, pl = BitVec.ofNat 32 n.val → gl n = ml)
    (hpr : Nearest gr pr) (hmr : ∀ n : Fin 4096, pr = BitVec.ofNat 32 n.val → gr n = mr) :
    Nearest f (if mr < ml then pr + 4096#32 else pl) := by
  obtain ⟨a, rfl, hal, haf⟩ := hpl
  obtain ⟨b, rfl, hbl, hbf⟩ := hpr
  have ea : gl a = ml := hml a rfl
  have eb : gr b = mr := hmr b rfl
  have split : ∀ k : Fin 8192, (∃ j : Fin 4096, k.val = j.val ∧ f k = gl j) ∨ ∃ j : Fin 4096, k.val = 4096 + j.val ∧ f k = gr j := fun k => by
    have hk := k.isLt
    by_cases h : k.val < 4096
    · exact Or.inl ⟨⟨k.val, h⟩, rfl, (hl ⟨k.val, h⟩).symm⟩
    · refine Or.inr ⟨⟨k.val - 4096, by omega⟩, by show k.val = 4096 + (k.val - 4096); omega, ?_⟩
      rw [hr]
      exact congrArg f (Fin.ext (by show k.val = 4096 + (k.val - 4096); omega))
  by_cases h : mr < ml
  · rw [if_pos h]
    have e : f ⟨4096 + b.val, by have := b.isLt; omega⟩ = mr := (hr b).symm.trans eb
    refine ⟨⟨4096 + b.val, by have := b.isLt; omega⟩, ?_, fun k => ?_, fun k hk => ?_⟩
    · show BitVec.ofNat 32 b.val + BitVec.ofNat 32 4096 = BitVec.ofNat 32 (4096 + b.val)
      rw [← BitVec.ofNat_add, Nat.add_comm]
    · rw [e]
      rcases split k with ⟨j, -, ej⟩ | ⟨j, -, ej⟩
      · rw [ej]; exact le_of_lt (lt_of_lt_of_le h (ea ▸ hal j))
      · rw [ej, ← eb]; exact hbl j
    · rw [e] at hk
      rcases split k with ⟨j, -, ej⟩ | ⟨j, jv, ej⟩
      · rw [ej] at hk
        exact absurd (lt_of_lt_of_le h (ea ▸ hal j)) (by rw [hk]; exact lt_irrefl _)
      · have := hbf j (by rw [← ej, hk, eb])
        show 4096 + b.val ≤ k.val
        omega
  · rw [if_neg h]
    have h := not_lt.1 h
    have e : f ⟨a.val, by have := a.isLt; omega⟩ = ml := (hl a).symm.trans ea
    refine ⟨⟨a.val, by have := a.isLt; omega⟩, rfl, fun k => ?_, fun k hk => ?_⟩
    · rw [e]
      rcases split k with ⟨j, -, ej⟩ | ⟨j, -, ej⟩
      · rw [ej, ← ea]; exact hal j
      · rw [ej]; exact le_trans h (eb ▸ hbl j)
    · rw [e] at hk
      rcases split k with ⟨j, jv, ej⟩ | ⟨j, jv, ej⟩
      · have := haf j (by rw [← ej, hk, ea])
        show a.val ≤ k.val
        omega
      · have := a.isLt
        show a.val ≤ k.val
        omega

/-! ## Pairs folded in order -/

/-- A value and a place before another: less, or equal and not later. -/
def Before (a b : EReal × BitVec 32) : Prop := a.1 < b.1 ∨ (a.1 = b.1 ∧ a.2.toInt ≤ b.2.toInt)

/-- What folding (value, place) pairs of a row from (⊤, 0) by an operation that picks the one before ends at. -/
theorem pairs_nearest {op : EReal × BitVec 32 → EReal × BitVec 32 → EReal × BitVec 32} (h : Picks op Before) (f : Fin 8192 → EReal)
    (l : List (EReal × BitVec 32)) (hl : ∀ p, p ∈ l ↔ ∃ k : Fin 8192, p = (f k, BitVec.ofNat 32 k.val)) :
    Nearest f (l.foldl op (⊤, 0#32)).2 := by
  obtain ⟨hm, -, hall⟩ := foldl_picks h l (⊤, 0#32)
  generalize l.foldl op (⊤, 0#32) = r at hm hall
  have hall : ∀ k : Fin 8192, r.1 < f k ∨ (r.1 = f k ∧ r.2.toInt ≤ (k.val : Int)) := fun k => by
    have := hall _ ((hl _).2 ⟨k, rfl⟩)
    rw [Before, toInt_ofNat_small (by have := k.isLt; omega)] at this
    exact this
  obtain ⟨n, rfl⟩ : ∃ n : Fin 8192, r = (f n, BitVec.ofNat 32 n.val) := by
    rcases hm with rfl | hm
    · rcases hall 0 with h0 | ⟨h0, -⟩
      · exact absurd h0 not_top_lt
      · exact ⟨0, Prod.ext h0 rfl⟩
    · exact (hl r).1 hm
  refine ⟨n, rfl, fun k => ?_, fun k hk => ?_⟩
  · rcases hall k with h | ⟨h, -⟩
    · exact le_of_lt h
    · exact le_of_eq h
  · rcases hall k with h | ⟨-, h⟩
    · exact absurd h (by rw [hk]; exact lt_irrefl _)
    · rw [toInt_ofNat_small (by have := n.isLt; omega)] at h
      exact_mod_cast h

end Cert.Proof

end
-- ==== Proof.Whole.Distance.lean ====
/-
  The distance from a point to a neuron over the extended reals, as both programs compute it: the squared norms added,
  twice the product taken away, never below zero; then its square root, which the kernel takes as the value times the
  reciprocal of its root. At finite points the two are equal.
-/
module

public import Idealize.ShloMosaic.PureOps.Ideal.Laws
public import Idealize.ShloMosaic.Lib.ValueIdx

@[expose] public section

noncomputable section

namespace Cert.Proof

open Idealize.ShloMosaic Idealize.ShloMosaic.ValueIdx

/-- The factor the programs multiply the products by. -/
def two : EReal := Ideal.ofBits .f32 0x40000000#32

/-- The squared distance, from the squared norms and the product, never below zero. -/
def sqDist (a b s : EReal) : EReal := max (a + b - two * s) 0

/-- The distance as the kernel takes it from the squared distance. -/
def far (d : EReal) : EReal := if d = 0 then 0 else d * Ideal.rsqrt d

abbrev Points (n : Nat) : Type := (⟨2, ![n, 32]⟩ : Shape).Idx → EReal

/-- The squared norm of row `r`. -/
def norm2 {n : Nat} (X : Points n) (r : Fin n) : EReal := ∑ k : Fin 32, X (ix2 r k) * X (ix2 r k)

/-- The squared distance from row `r` of `X` to row `c` of `W`. -/
def apart2 {n p : Nat} (X : Points n) (W : Points p) (r : Fin n) (c : Fin p) : EReal :=
  sqDist (norm2 X r) (norm2 W c) (∑ k : Fin 32, X (ix2 r k) * W (ix2 c k))

/-- An extended real that is a real. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb
  exact ⟨r + s, (EReal.coe_add r s).symm⟩
theorem IsReal.sub {a b : EReal} (ha : IsReal a) (hb : IsReal b) : IsReal (a - b) := by
  obtain ⟨r, rfl⟩ := ha; obtain ⟨s, rfl⟩ := hb
  exact ⟨r - s, (EReal.coe_sub r s).symm⟩
theorem IsReal.mul {a b : EReal} (ha : IsReal a) (hb : IsReal b) : IsReal (a * b) := by
  obtain ⟨r, rfl⟩ := ha; obtain ⟨s, rfl⟩ := hb
  exact ⟨r * s, (EReal.coe_mul r s).symm⟩
theorem IsReal.zero : IsReal 0 := ⟨0, EReal.coe_zero.symm⟩
theorem IsReal.max {a b : EReal} (ha : IsReal a) (hb : IsReal b) : IsReal (max a b) := by
  rcases max_choice a b with h | h <;> rw [h]
  · exact ha
  · exact hb
theorem IsReal.sum {ι : Type} (S : Finset ι) (f : ι → EReal) (h : ∀ i, IsReal (f i)) : IsReal (∑ i ∈ S, f i) := by
  induction S using Finset.cons_induction with
  | empty => exact ⟨0, by simp⟩
  | cons a S ha ih => rw [Finset.sum_cons]; exact (h a).add ih

theorem two_real : IsReal two := by
  refine ⟨2, ?_⟩
  simp [two, Ideal.ofBits, Ideal.ieee, -EReal.coe_mul]
  norm_num

/-- An extended real whose absolute value is less than the largest is a real. -/
theorem isReal_of_abs_lt {a : EReal} (h : max a (-a) < ⊤) : IsReal a := by
  induction a using EReal.rec with
  | bot => simp at h
  | coe r => exact ⟨r, rfl⟩
  | top => simp at h

theorem apart2_real {n p : Nat} (X : Points n) (W : Points p) (hX : ∀ i, IsReal (X i)) (hW : ∀ i, IsReal (W i)) (r : Fin n) (c : Fin p) :
    IsReal (apart2 X W r c) := by
  unfold apart2 sqDist norm2
  exact (((IsReal.sum _ _ fun k => (hX _).mul (hX _)).add (IsReal.sum _ _ fun k => (hW _).mul (hW _))).sub
    (two_real.mul (IsReal.sum _ _ fun k => (hX _).mul (hW _)))).max IsReal.zero

/-- At a real that is not negative the kernel's distance is the square root. -/
theorem far_eq_sqrt {d : EReal} (h : IsReal d) (h0 : 0 ≤ d) : far d = Ideal.sqrt d := by
  obtain ⟨r, rfl⟩ := h
  have hr : 0 ≤ r := EReal.coe_nonneg.1 h0
  unfold far
  rw [Ideal.sqrt_coe, if_neg (not_lt.2 hr)]
  by_cases h : r = 0
  · subst h; simp
  · have hne : (r : EReal) ≠ 0 := fun e => h (EReal.coe_eq_zero.1 e)
    rw [if_neg hne, Ideal.rsqrt_coe, if_neg (not_lt.2 hr), if_neg h, ← EReal.coe_mul]
    congr 1
    have hs : Real.sqrt r ≠ 0 := fun e => h ((Real.sqrt_eq_zero hr).1 e)
    field_simp
    exact (Real.sq_sqrt hr).symm

theorem far_apart2 {n p : Nat} (X : Points n) (W : Points p) (hX : ∀ i, IsReal (X i)) (hW : ∀ i, IsReal (W i)) (r : Fin n) (c : Fin p) :
    far (apart2 X W r c) = Ideal.sqrt (apart2 X W r c) :=
  far_eq_sqrt (apart2_real X W hX hW r c) (by unfold apart2 sqDist; exact le_max_right _ _)

end Cert.Proof

end
-- ==== Proof.Whole.Found.lean ====
/-
  What the search's body finds, at extended reals: for each of its 256 rows the first column at the least distance.
-/
module

public import proofs.«01_k».proof.Proof.Whole.Search
public import proofs.«01_k».proof.Proof.Whole.Least
public import proofs.«01_k».proof.Proof.Whole.Distance
public import Idealize.ShloMosaic.Lib.MatmulPlain
public import Idealize.ShloMosaic.Lib.Routing.Ops

@[expose] public section

set_option maxRecDepth 16384

noncomputable section

namespace Cert.Proof.Whole

open Cert.KernelIdeal Cert.KernelIdeal.Gen
open Idealize.ShloMosaic hiding ix1 ix2 ix3
open Idealize.ShloMosaic.ValueIdx

variable (x : Vec Ideal S256x32 .f32) (w : Vec Ideal S32x8192 .f32) (x2 : Vec Ideal S256x1 .f32) (w2 : Vec Ideal S1x8192 .f32)

/-- Row `r`'s distance to column `c`. -/
def rowDist (r : Fin 256) (c : Fin 8192) : EReal :=
  far (sqDist (x2 (ix2 r 0)) (w2 (ix2 0 c)) (∑ k : Fin 32, x (ix2 r k) * w (ix2 k c)))

theorem product_at (r : Fin 256) (c : Fin 8192) :
    matmul (φ₁ := .bf16) (φ₂ := .bf16) dot_S256x32_S32x8192_S256x8192_1_0_0_1_n_n none (x : FVec Ideal S256x32 .bf16) (w : FVec Ideal S32x8192 .bf16) (constant (F := Ideal) S256x8192 .f32 0x00000000#32) (ix2 r c)
      = ∑ k : Fin 32, x (ix2 r k) * w (ix2 k c) := by
  have e : dot_S256x32_S32x8192_S256x8192_1_0_0_1_n_n = DotDims.plain 256 32 8192 := rfl
  rw [e]
  refine (Ideal.matmul_plain_apply none x w _ r c).trans ?_
  show Ideal.ofBits .f32 0x00000000#32 + _ = _
  rw [Ideal.ofBits_zero_f32, zero_add]

theorem pay2_at (r : Fin 256) (c : Fin 8192) : k0_pay2 (F := Ideal) x w x2 w2 (ix2 r c) = rowDist x w x2 w2 r c := by
  have hc : (broadcastTo S256x8192 x2 broadcasts_S256x1_S256x8192) (ix2 r c) = x2 (ix2 r 0) := by
    refine congrArg x2 (funext fun a => Fin.ext ?_)
    match a with
    | ⟨0, _⟩ => rfl
    | ⟨1, _⟩ => rfl
  have hr : (broadcastTo S256x8192 w2 broadcasts_S1x8192_S256x8192) (ix2 r c) = w2 (ix2 0 c) := by
    refine congrArg w2 (funext fun a => Fin.ext ?_)
    match a with
    | ⟨0, _⟩ => rfl
    | ⟨1, _⟩ => rfl
  unfold k0_pay2
  simp only [shapeCast_self]
  unfold rowDist far sqDist two
  rw [← product_at, ← hc, ← hr]
  generalize hM : (matmul dot_S256x32_S32x8192_S256x8192_1_0_0_1_n_n none _ _ _ : FVec Ideal S256x8192 .f32) = M
  show (if Ideal.cmp .oeq (max (_ + _ - _ * M (ix2 r c)) (Ideal.ofBits .f32 0x00000000#32)) (Ideal.ofBits .f32 0x00000000#32) = 1#1
    then Ideal.ofBits .f32 0x00000000#32 else (max (_ + _ - _ * M (ix2 r c)) (Ideal.ofBits .f32 0x00000000#32)) * Ideal.rsqrt (max (_ + _ - _ * M (ix2 r c)) (Ideal.ofBits .f32 0x00000000#32))) = _
  rw [Ideal.ofBits_zero_f32]
  have hb (a b : EReal) : (Ideal.cmp .oeq a b = 1#1) = (a = b) := by
    show (BitVec.ofBool (decide (a = b)) = 1#1) = _
    by_cases h : a = b <;> simp [h]
  simp only [hb]
  rw [← hM]
  rfl

/-! ## One half of the columns -/

section Half
variable (D : FVec Ideal S256x4096 .f32) (f : Fin 256 → Fin 4096 → EReal) (hD : ∀ r c, D (ix2 r c) = f r c)

/-- The least entry of each row, as a column. -/
def leastCol : FVec Ideal S256x1 .f32 :=
  shapeCast S256x1 (multiReduction .minimumf [1] S256 D 0x7F800000#32 reduces_S256x4096_S256 (.inl rfl) rfl) shapeCasts_S256_S256x1

/-- Where an entry is its row's least, its place; elsewhere 8192. -/
def places (v : FVec Ideal S256x1 .f32) : IVec S256x4096 32 :=
  select (cmpf .oeq D (broadcastTo S256x4096 v broadcasts_S256x1_S256x4096)) (iota .tc S256x4096 32 [1] iota_S256x4096_d1_w32) (broadcast S256x4096 8192#32)

/-- The least place of each row. -/
def leastPlace (P : IVec S256x4096 32) : IVec S256 32 := multiReductionI .minsi [1] S256 P 2147483647#32 reduces_S256x4096_S256 rfl

theorem lift_at (r : Fin 256) (k : Fin 4096) : (reduces_S256x4096_S256 : S256x4096.Reduces [1] S256).lift (ix1 r) k = (ix2 r k : S256x4096.Idx) := by
  funext a
  match a with
  | ⟨0, _⟩ => exact Fin.ext rfl
  | ⟨1, _⟩ => exact Fin.ext rfl

theorem inf_bits : Ideal.ofBits .f32 0x7F800000#32 = ⊤ := by simp [Ideal.ofBits, Ideal.ieee]

include hD in
theorem leastCol_at (r : Fin 256) : leastCol D (ix2 r 0) = (Finset.univ : Finset (Fin 4096)).fold (fun a b : EReal => min a b) ⊤ (f r) := by
  unfold leastCol
  refine (Routing.cast12 _ shapeCasts_S256_S256x1 r 0 r (by simp)).trans ?_
  refine (multiReduction_minimumf_eq_fold D _ _ _ _ _).trans ?_
  refine ((reduces_S256x4096_S256 : S256x4096.Reduces [1] S256).fold_filter_drop_single _ _ D (ix1 r)).trans ?_
  have e : D ∘ (reduces_S256x4096_S256 : S256x4096.Reduces [1] S256).lift (ix1 r) = f r := funext fun k => by
    exact (congrArg D (lift_at r k)).trans (hD r k)
  rw [e, show (FloatOps.ofBits .f32 0x7F800000#32 : Ideal .f32) = (⊤ : EReal) from inf_bits]
  rfl

include hD in
theorem places_at (v : FVec Ideal S256x1 .f32) (r : Fin 256) (k : Fin 4096) :
    places D v (ix2 r k) = if f r k = v (ix2 r 0) then BitVec.ofNat 32 k.val else 8192#32 := by
  have hv : (broadcastTo S256x4096 v broadcasts_S256x1_S256x4096) (ix2 r k) = v (ix2 r 0) := by
    refine congrArg v (funext fun a => Fin.ext ?_)
    match a with
    | ⟨0, _⟩ => rfl
    | ⟨1, _⟩ => rfl
  show (if Ideal.cmp .oeq (D (ix2 r k)) ((broadcastTo S256x4096 v broadcasts_S256x1_S256x4096) (ix2 r k)) = 1#1
    then iota .tc S256x4096 32 [1] iota_S256x4096_d1_w32 (ix2 r k) else 8192#32) = _
  rw [hv, hD]
  have hi : iota .tc S256x4096 32 [1] iota_S256x4096_d1_w32 (ix2 r k) = BitVec.ofNat 32 k.val := by
    show BitVec.ofNat 32 (0 * 4096 + k.val) = _
    rw [Nat.zero_mul, Nat.zero_add]
  rw [hi]
  have hb : (Ideal.cmp .oeq (f r k) (v (ix2 r 0)) = 1#1) = (f r k = v (ix2 r 0)) := by
    show (BitVec.ofBool (decide _) = 1#1) = _
    by_cases h : f r k = v (ix2 r 0) <;> simp [h]
  simp only [hb]

theorem leastPlace_at (P : IVec S256x4096 32) (r : Fin 256) :
    leastPlace P (ix1 r) = (Finset.univ : Finset (Fin 4096)).fold (IKind.op .minsi) 2147483647#32 (fun k => P (ix2 r k)) := by
  unfold leastPlace
  refine (multiReductionI_eq_fold .minsi P _ _ _ _).trans ?_
  refine ((reduces_S256x4096_S256 : S256x4096.Reduces [1] S256).fold_filter_drop_single _ _ P (ix1 r)).trans ?_
  refine congrArg (Finset.fold _ _ · _) (funext fun k => ?_)
  exact congrArg P (lift_at r k)

/-- The row's least place is the first column at the half's least distance. -/
theorem half_at (r : Fin 256) (hD : ∀ r c, D (ix2 r c) = f r c) :
    Nearest (f r) (leastPlace (places D (leastCol D)) (ix1 r))
      ∧ ∀ n : Fin 4096, leastPlace (places D (leastCol D)) (ix1 r) = BitVec.ofNat 32 n.val → f r n = leastCol D (ix2 r 0) := by
  refine half_nearest (f r) _ (leastCol_at D f hD r) _ ?_
  refine (leastPlace_at _ r).trans ?_
  refine congrArg (Finset.fold _ _ · _) (funext fun k => ?_)
  exact places_at D f hD _ r k

end Half

/-! ## The body -/

theorem pay3_at (r : Fin 256) (k : Fin 4096) :
    k0_pay3 (F := Ideal) x w x2 w2 (ix2 r k) = rowDist x w x2 w2 r ⟨k.val, by have := k.isLt; omega⟩ := by
  unfold k0_pay3
  rw [← pay2_at]
  refine extractStridedSlice_apply _ _ _ _ _ fun a => ?_
  match a with
  | ⟨0, _⟩ => exact (Nat.zero_add _).symm
  | ⟨1, _⟩ => exact (Nat.zero_add _).symm

theorem pay4_at (r : Fin 256) (k : Fin 4096) :
    k0_pay4 (F := Ideal) x w x2 w2 (ix2 r k) = rowDist x w x2 w2 r ⟨4096 + k.val, by have := k.isLt; omega⟩ := by
  unfold k0_pay4
  rw [← pay2_at]
  refine extractStridedSlice_apply _ _ _ _ _ fun a => ?_
  match a with
  | ⟨0, _⟩ => exact (Nat.zero_add _).symm
  | ⟨1, _⟩ => rfl

/-- What the body stores for row `r`: the first column at the least distance. -/
theorem found_nearest (r : Fin 256) : Nearest (rowDist x w x2 w2 r) (found (F := Ideal) x w x2 w2 (ix1 r)) := by
  have hl := half_at (k0_pay3 (F := Ideal) x w x2 w2) (fun r k => rowDist x w x2 w2 r ⟨k.val, by have := k.isLt; omega⟩) r (pay3_at x w x2 w2)
  have hr := half_at (k0_pay4 (F := Ideal) x w x2 w2) (fun r k => rowDist x w x2 w2 r ⟨4096 + k.val, by have := k.isLt; omega⟩) r (pay4_at x w x2 w2)
  have h := halves_nearest (rowDist x w x2 w2 r) _ _ (fun _ => rfl) (fun _ => rfl) _ _ _ _ hl.1 hl.2 hr.1 hr.2
  have e : found (F := Ideal) x w x2 w2 (ix1 r)
      = if leastCol (k0_pay4 (F := Ideal) x w x2 w2) (ix2 r 0) < leastCol (k0_pay3 (F := Ideal) x w x2 w2) (ix2 r 0)
        then leastPlace (places (k0_pay4 (F := Ideal) x w x2 w2) (leastCol (k0_pay4 (F := Ideal) x w x2 w2))) (ix1 r) + 4096#32
        else leastPlace (places (k0_pay3 (F := Ideal) x w x2 w2) (leastCol (k0_pay3 (F := Ideal) x w x2 w2))) (ix1 r) := by
    have c (v : FVec Ideal S256x1 .f32) : shapeCast S256 v shapeCasts_S256x1_S256 (ix1 r) = v (ix2 r 0) :=
      Routing.cast21 v shapeCasts_S256x1_S256 r 0 r (by simp)
    have hb (a b : EReal) : (Ideal.cmp .olt a b = 1#1) = (a < b) := by
      show (BitVec.ofBool (decide (a < b)) = 1#1) = _
      by_cases h : a < b <;> simp [h]
    have e0 (v27 v29 : FVec Ideal S256x1 .f32) (v35 : IVec S256 32) (v39 : IVec S256x4096 32) :
        k0_pay1 (F := Ideal) v27 v29 v35 v39 (ix1 r)
          = if Ideal.cmp .olt (shapeCast S256 v29 shapeCasts_S256x1_S256 (ix1 r)) (shapeCast S256 v27 shapeCasts_S256x1_S256 (ix1 r)) = 1#1
            then leastPlace v39 (ix1 r) + 4096#32 else v35 (ix1 r) := rfl
    have e5 : k0_pay5 (F := Ideal) x w x2 w2 = leastCol (k0_pay3 (F := Ideal) x w x2 w2) := rfl
    have e6 : k0_pay6 (F := Ideal) x w x2 w2 = leastCol (k0_pay4 (F := Ideal) x w x2 w2) := rfl
    have e7 : k0_pay7 (F := Ideal) x w x2 w2 = leastPlace (places (k0_pay3 (F := Ideal) x w x2 w2) (leastCol (k0_pay3 (F := Ideal) x w x2 w2))) := rfl
    have e8 : k0_pay8 (F := Ideal) x w x2 w2 = places (k0_pay4 (F := Ideal) x w x2 w2) (leastCol (k0_pay4 (F := Ideal) x w x2 w2)) := rfl
    unfold found
    rw [e0, e5, e6, e7, e8, c, c]
    simp only [hb]
  rw [e]
  exact h

end Cert.Proof.Whole

end
-- ==== Proof.Whole.Values.lean ====
/-
  What the whole program computes at extended reals: row r's winner is the first neuron at the least distance from point
  r, so every winner names a neuron; and the result is the winners' weights.
-/
module

public import proofs.«01_k».proof.Proof.Whole.Launch
public import proofs.«01_k».proof.Proof.Whole.Found
public import Idealize.ShloMosaic.Lib.KernelVsHost
public import Idealize.ShloMosaic.Lib.IdealHost

@[expose] public section

set_option maxRecDepth 16384

noncomputable section

namespace Cert.Proof.Whole

open Cert.KernelIdeal Cert.KernelIdeal.Gen
open Idealize.ShloMosaic hiding ix1 ix2 ix3 eq_ix2
open Idealize.ShloMosaic.ValueIdx
open Idealize.SL.Sem

/-! ## The result, from the winners -/

section Result
variable {F : FTy → Type} [FloatOps F] (m : (ℓ : Loc nD τ sig) → Buf (Elt F) ℓ)

/-- The row of winners holds the winners in order. -/
theorem winsOf_at (d : Dev nD) (j : Fin 16384) : winsOf m d (ix2 (0 : Fin 1) j) = wonBy m d (ix1 j) :=
  Routing.cast12 (wonBy m d) shapeCasts_S16384_S1x16384 0 j j (by simp)

/-- Winners that name neurons, laid out in one row, are in range. -/
theorem allInRange (h : ∀ d : Dev nD, Named (wonBy m d)) : AllInRange m := by
  intro d j
  obtain ⟨a, b, rfl⟩ : ∃ (a : Fin 1) (b : Fin 16384), j = ix2 a b := ⟨j 0, j 1, eq_ix2 j⟩
  obtain rfl : a = 0 := Subsingleton.elim _ _
  rw [winsOf_at]
  exact h d b

/-- The table holds the weights, a neuron's ten in its row's first ten places. -/
theorem tableOf_at (d : Dev nD) (n : Fin 8192) (k : Fin 10) :
    tableOf m d (ix2 n ⟨k.val, by omega⟩ : S8192x128.Idx) = m (gLoc d) (ix2 k n) := by
  unfold tableOf
  refine (pad_apply_of_inside _ _ _ _ _ pads_S8192x10_S8192x128_000_01180 h_S_ _ (ix2 n k : S8192x10.Idx) fun a => ?_).trans ?_
  · match a with
    | ⟨0, _⟩ => show n.val = 0 + n.val * (0 + 1); omega
    | ⟨1, _⟩ => show k.val = 0 + k.val * (0 + 1); omega
  · show transpose _ _ _ _ _ = m (gLoc d) _
    refine congrArg (m (gLoc d)) (funext fun a => ?_)
    match a with
    | ⟨0, _⟩ => rfl
    | ⟨1, _⟩ => rfl

/-- The result is the winners' weights. -/
theorem resultOf_eq (d : Dev nD) : resultOf m d = chosen (wonBy m d) (m (gLoc d)) := by
  funext i
  obtain ⟨j, k, rfl⟩ : ∃ (j : Fin 16384) (k : Fin 10), i = ix2 j k := ⟨i 0, i 1, eq_ix2 i⟩
  have e : resultOf m d (ix2 j k) = rowsOf (tableOf m d) (winsOf m d) (ix2 j (⟨k.val, by omega⟩ : Fin 128)) := by
    unfold resultOf
    refine extractStridedSlice_apply _ _ _ _ _ fun a => ?_
    match a with
    | ⟨0, _⟩ => exact (Nat.zero_add _).symm
    | ⟨1, _⟩ => exact (Nat.zero_add _).symm
  rw [e]
  show tableOf m d (ix2 ⟨(winsOf m d (ix2 (0 : Fin 1) j)).toNat % 8192, _⟩ ⟨k.val, _⟩) = m (gLoc d) (ix2 k ⟨(wonBy m d (ix1 j)).toNat % 8192, _⟩)
  rw [tableOf_at]
  refine congrArg (m (gLoc d)) (congrArg (ix2 k) (Fin.ext ?_))
  show (winsOf m d (ix2 (0 : Fin 1) j)).toNat % 8192 = _
  rw [winsOf_at]

end Result

/-! ## What the search is given -/

variable (m : (ℓ : Loc nD τ sig) → Buf (Elt Ideal) ℓ)

/-- The points and the codebook. -/
abbrev pts (d : Dev nD) : Points 16384 := m (aLoc d)
abbrev book (d : Dev nD) : Points 8192 := m (bLoc d)

theorem lift_pts (r : Fin 16384) (k : Fin 32) (h : S16384x32.Reduces [1] S16384) : h.lift (ix1 r) k = (ix2 r k : S16384x32.Idx) := by
  funext a
  match a with
  | ⟨0, _⟩ => exact Fin.ext rfl
  | ⟨1, _⟩ => exact Fin.ext rfl
theorem lift_book (r : Fin 8192) (k : Fin 32) (h : S8192x32.Reduces [1] S8192) : h.lift (ix1 r) k = (ix2 r k : S8192x32.Idx) := by
  funext a
  match a with
  | ⟨0, _⟩ => exact Fin.ext rfl
  | ⟨1, _⟩ => exact Fin.ext rfl

/-- The host's sum of a row's squares. -/
theorem sums_pts (X : FVec Ideal S16384x32 .f32) (h : S16384x32.ReducesTo [1] S16384) (hu : 0 < S_.numel) (r : Fin 16384) :
    Host.reduceAdd (mulf X X) (constant (F := Ideal) S_ .f32 0x00000000#32) h hu (ix1 r) = norm2 (X : Points 16384) r := by
  rw [hostReduceAdd_apply, Ideal.hostReduceAdd_single h (by decide)]
  show Ideal.ofBits .f32 0x00000000#32 + _ = _
  rw [Ideal.ofBits_zero_f32, zero_add]
  refine Finset.sum_congr rfl fun k _ => ?_
  exact congrArg (mulf X X) (lift_pts r k _)
theorem sums_book (X : FVec Ideal S8192x32 .f32) (h : S8192x32.ReducesTo [1] S8192) (hu : 0 < S_.numel) (r : Fin 8192) :
    Host.reduceAdd (mulf X X) (constant (F := Ideal) S_ .f32 0x00000000#32) h hu (ix1 r) = norm2 (X : Points 8192) r := by
  rw [hostReduceAdd_apply, Ideal.hostReduceAdd_single h (by decide)]
  show Ideal.ofBits .f32 0x00000000#32 + _ = _
  rw [Ideal.ofBits_zero_f32, zero_add]
  refine Finset.sum_congr rfl fun k _ => ?_
  exact congrArg (mulf X X) (lift_book r k _)

theorem VS_col (d : Dev nD) (r : Fin 16384) : VS m d atCol (ix2 r (0 : Fin 1)) = norm2 (pts m d) r := by
  have e : VS m d atCol = broadcastInDim S16384x1 ![0] bcast_S16384_S16384x1_0
      (Host.reduceAdd (mulf (m (aLoc d)) (m (aLoc d))) (constant (F := Ideal) S_ .f32 0x00000000#32) reducesTo_S16384x32_S16384_d1 h_S_) := by
    unfold VS atCol
    after_results_simp
    rfl
  rw [e]
  exact (Routing.bcCol bcast_S16384_S16384x1_0 _ r).trans (sums_pts _ _ _ r)

theorem VS_colW (d : Dev nD) (c : Fin 8192) : VS m d atColW (ix2 (0 : Fin 1) c) = norm2 (book m d) c := by
  have e : VS m d atColW = broadcastInDim S1x8192 ![1] bcast_S8192_S1x8192_1
      (Host.reduceAdd (mulf (m (bLoc d)) (m (bLoc d))) (constant (F := Ideal) S_ .f32 0x00000000#32) reducesTo_S8192x32_S8192_d1 h_S_) := by
    unfold VS atColW
    after_results_simp
    rfl
  rw [e]
  refine (broadcastInDim_apply _ bcast_S8192_S1x8192_1 _ _ (ix1 c) fun a => ?_).trans (sums_book _ _ _ c)
  match a with
  | ⟨0, _⟩ => rfl

theorem VS_code (d : Dev nD) (k : Fin 32) (c : Fin 8192) : VS m d atCode (ix2 k c) = book m d (ix2 c k) := by
  have e : VS m d atCode = transpose S32x8192 [1, 0] (m (bLoc d)) transposes_S8192x32_S32x8192_1_0 := by
    unfold VS atCode
    after_results_simp
    rfl
  rw [e]
  refine congrArg (m (bLoc d)) (funext fun a => ?_)
  match a with
  | ⟨0, _⟩ => rfl
  | ⟨1, _⟩ => rfl

/-! ## What a point of the grid is given -/

theorem index0_0 : ∀ t : Fin grid0.N, win0_0.index t 0 = t.val := by decide +kernel
theorem index0_0' : ∀ t : Fin grid0.N, win0_0.index t 1 = 0 := by decide +kernel
theorem index0_1 : ∀ t : Fin grid0.N, win0_1.index t 0 = 0 := by decide +kernel
theorem index0_1' : ∀ t : Fin grid0.N, win0_1.index t 1 = 0 := by decide +kernel
theorem index0_2 : ∀ t : Fin grid0.N, win0_2.index t 0 = t.val := by decide +kernel
theorem index0_2' : ∀ t : Fin grid0.N, win0_2.index t 1 = 0 := by decide +kernel
theorem index0_3 : ∀ t : Fin grid0.N, win0_3.index t 0 = 0 := by decide +kernel
theorem index0_3' : ∀ t : Fin grid0.N, win0_3.index t 1 = 0 := by decide +kernel

theorem row_lt (t : Fin grid0.N) (r : Fin 256) : t.val * 256 + r.val < 16384 := by
  have ht : t.val < 64 := lt_of_lt_of_eq t.isLt N_0
  have := r.isLt
  omega

theorem part0_at (d : Dev nD) (t : Fin grid0.N) (r : Fin 256) (k : Fin 32) :
    part (VS m) d 0 t (ix2 r k) = pts m d (ix2 ⟨t.val * 256 + r.val, row_lt t r⟩ k) := by
  show VS m d at0 ((win0_0.rect t).emb (ix2 r k)) = _
  rw [VS_arg0]
  refine congrArg (m (aLoc d)) (funext fun a => Fin.ext ?_)
  match a with
  | ⟨0, _⟩ => exact (win0_0.rect_emb_val t (ix2 r k) 0 rfl).trans (by rw [index0_0]; rfl)
  | ⟨1, _⟩ => exact (win0_0.rect_emb_val t (ix2 r k) 1 rfl).trans (by rw [index0_0']; exact (Nat.zero_mul _).symm ▸ Nat.zero_add _)

theorem part1_at (d : Dev nD) (t : Fin grid0.N) (k : Fin 32) (c : Fin 8192) :
    part (VS m) d 1 t (ix2 k c) = book m d (ix2 c k) := by
  rw [← VS_code]
  show VS m d atCode ((win0_1.rect t).emb (ix2 k c)) = _
  refine congrArg (VS m d atCode) (funext fun a => Fin.ext ?_)
  match a with
  | ⟨0, _⟩ => exact (win0_1.rect_emb_val t (ix2 k c) 0 rfl).trans (by rw [index0_1]; exact (Nat.zero_mul _).symm ▸ Nat.zero_add _)
  | ⟨1, _⟩ => exact (win0_1.rect_emb_val t (ix2 k c) 1 rfl).trans (by rw [index0_1']; exact (Nat.zero_mul _).symm ▸ Nat.zero_add _)

theorem part2_at (d : Dev nD) (t : Fin grid0.N) (r : Fin 256) :
    part (VS m) d 2 t (ix2 r (0 : Fin 1)) = norm2 (pts m d) ⟨t.val * 256 + r.val, row_lt t r⟩ := by
  rw [← VS_col]
  show VS m d atCol ((win0_2.rect t).emb (ix2 r (0 : Fin 1))) = _
  refine congrArg (VS m d atCol) (funext fun a => Fin.ext ?_)
  match a with
  | ⟨0, _⟩ => exact (win0_2.rect_emb_val t (ix2 r (0 : Fin 1)) 0 rfl).trans (by rw [index0_2]; rfl)
  | ⟨1, _⟩ => exact (win0_2.rect_emb_val t (ix2 r (0 : Fin 1)) 1 rfl).trans (by rw [index0_2']; exact (Nat.zero_mul _).symm ▸ Nat.zero_add _)

theorem part3_at (d : Dev nD) (t : Fin grid0.N) (c : Fin 8192) :
    part (VS m) d 3 t (ix2 (0 : Fin 1) c) = norm2 (book m d) c := by
  rw [← VS_colW]
  show VS m d atColW ((win0_3.rect t).emb (ix2 (0 : Fin 1) c)) = _
  refine congrArg (VS m d atColW) (funext fun a => Fin.ext ?_)
  match a with
  | ⟨0, _⟩ => exact (win0_3.rect_emb_val t (ix2 (0 : Fin 1) c) 0 rfl).trans (by rw [index0_3]; exact (Nat.zero_mul _).symm ▸ Nat.zero_add _)
  | ⟨1, _⟩ => exact (win0_3.rect_emb_val t (ix2 (0 : Fin 1) c) 1 rfl).trans (by rw [index0_3']; exact (Nat.zero_mul _).symm ▸ Nat.zero_add _)

/-! ## The winners -/

/-- Row `r`'s winner is the first neuron at the least distance from point `r`. -/
theorem won_nearest (d : Dev nD) (r : Fin 16384) :
    Nearest (fun c : Fin 8192 => far (apart2 (pts m d) (book m d) r c)) (wonBy m d (ix1 r)) := by
  have hr := r.isLt
  obtain ⟨t, ht⟩ : ∃ t : Fin cfg0.N, t.val = r.val / 256 := ⟨⟨r.val / 256, by rw [show cfg0.N = 64 from N_0]; omega⟩, rfl⟩
  have h := found_nearest (part (VS m) d 0 t) (part (VS m) d 1 t) (part (VS m) d 2 t) (part (VS m) d 3 t) ⟨r.val % 256, Nat.mod_lt _ (by decide)⟩
  have e : wonBy m d (ix1 r) = found (F := Ideal) (part (VS m) d 0 t) (part (VS m) d 1 t) (part (VS m) d 2 t) (part (VS m) d 3 t)
      (ix1 ⟨r.val % 256, Nat.mod_lt _ (by decide)⟩) := by
    have et : t = ⟨r.val / 256, by rw [show cfg0.N = 64 from N_0]; omega⟩ := Fin.ext ht
    rw [et]
    rfl
  rw [e]
  refine (congrArg (Nearest · _) (funext fun c => ?_)).mp h
  have erow : (⟨t.val * 256 + r.val % 256, row_lt t ⟨r.val % 256, Nat.mod_lt _ (by decide)⟩⟩ : Fin 16384) = r := Fin.ext (by show t.val * 256 + r.val % 256 = r.val; omega)
  unfold rowDist apart2
  rw [part2_at, part3_at]
  refine congrArg far ?_
  refine congr (congrArg (fun a => sqDist a _) (congrArg (norm2 (pts m d)) erow)) (Finset.sum_congr rfl fun k _ => ?_)
  rw [part0_at, part1_at]
  exact congrArg (fun q => pts m d (ix2 q k) * book m d (ix2 c k)) erow

/-- Every winner names a neuron. -/
theorem won_named (d : Dev nD) : Named (wonBy m d) := fun j => (won_nearest m d j).lt

end Cert.Proof.Whole

end
-- ==== Proof.Whole.Reference.lean ====
/-
  The whole reference at the ideal values: every distance, each row's first least one, and the product of the weights with
  the one-hot rows. Row r's winner is the first neuron at the least distance from point r; the result is the winners' weights.
-/
module

public import proofs.«01_k».proof.Proof.RefOneHot
public import proofs.«01_k».proof.Proof.Gen.ReferenceIdeal
public import proofs.«01_k».proof.Proof.Gen.Pre_points_finite
public import proofs.«01_k».proof.Proof.Whole.Least
public import proofs.«01_k».proof.Proof.Whole.Distance
public import Idealize.ShloMosaic.Lib.IdealHost

@[expose] public section

set_option maxRecDepth 16384

noncomputable section

namespace Cert.Proof.Whole.Reference

open Cert.ReferenceIdeal Cert.ReferenceIdeal.Gen
open Idealize.ShloMosaic Idealize.ShloMosaic.ValueIdx Idealize.SL.Sem

/-! ## The reference's arrays -/

/-- The squared norms of the points, and of the neurons, one per row and one per column. -/
def sums (X : FVec Ideal S16384x32 .f32) : FVec Ideal S16384 .f32 :=
  Host.reduceAdd (mulf X X) (constant (F := Ideal) S_ .f32 0x00000000#32) reducesTo_S16384x32_S16384_d1 h_S_
def sumsW (W : FVec Ideal S8192x32 .f32) : FVec Ideal S8192 .f32 :=
  Host.reduceAdd (mulf W W) (constant (F := Ideal) S_ .f32 0x00000000#32) reducesTo_S8192x32_S8192_d1 h_S_

/-- The products of points and neurons. -/
def products (X : FVec Ideal S16384x32 .f32) (W : FVec Ideal S8192x32 .f32) : FVec Ideal S16384x8192 .f32 :=
  Host.dotGeneral (φ₁ := .f32) (φ₂ := .f32) dot_S16384x32_S32x8192_S16384x8192_1_0_0_1_n_n none X (transpose S32x8192 [1, 0] W transposes_S8192x32_S32x8192_1_0)

/-- The distances. -/
def dists (X : FVec Ideal S16384x32 .f32) (W : FVec Ideal S8192x32 .f32) : FVec Ideal S16384x8192 .f32 :=
  Host.sqrt (maximumf
    (broadcastInDim S16384x8192 ![] bcast_S_S16384x8192 (constant (F := Ideal) S_ .f32 0x00000000#32))
    (subf (addf (broadcastInDim S16384x8192 ![0, 1] bcast_S16384x1_S16384x8192_0_1 (broadcastInDim S16384x1 ![0] bcast_S16384_S16384x1_0 (sums X)))
        (broadcastInDim S16384x8192 ![0, 1] bcast_S1x8192_S16384x8192_0_1 (broadcastInDim S1x8192 ![1] bcast_S8192_S1x8192_1 (sumsW W))))
      (mulf (broadcastInDim S16384x8192 ![] bcast_S_S16384x8192 (constant (F := Ideal) S_ .f32 0x40000000#32)) (products X W))))

/-- The second parts of an array of pairs. -/
def seconds {ι α β : Type} (f : ι → α × β) : ι → β := fun j => (f j).2

/-- Each row's first least place. -/
def firsts (D : FVec Ideal S16384x8192 .f32) : IVec S16384 32 :=
  seconds (Host.argReduce reducer_argmin_f32_i32 D (iotaInDim S16384x8192 32 1) (constant (F := Ideal) S_ .f32 0x7F800000#32) (constantI S_ 32 0#32)
    reducesTo_S16384x8192_S16384_d1 h_S_)

abbrev winners (X : FVec Ideal S16384x32 .f32) (W : FVec Ideal S8192x32 .f32) : IVec S16384 32 := firsts (dists X W)

/-! ## The run -/

theorem run_main (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v35)
        = RefOneHot.term (winners (m ((c.tc : Thread nD τ).loc main_arg0)) (m ((c.tc : Thread nD τ).loc main_arg1))) (m ((c.tc : Thread nD τ).loc main_arg2))
      ∧ r.2.mem ((c.tc : Thread nD τ).loc main_v16) = winners (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  hlo_run
  · simp only [StableHlo.TRef.toBuf, StableHlo.TRef.ofBuf, cast_eq]
    rfl
  · simp only [StableHlo.TRef.toBuf, StableHlo.TRef.ofBuf, cast_eq]
    rfl

/-! ## The distances -/

theorem sums_at (X : FVec Ideal S16384x32 .f32) (r : Fin 16384) : sums X (ix1 r) = norm2 (X : Points 16384) r := by
  unfold sums
  rw [hostReduceAdd_apply, Ideal.hostReduceAdd_single _ (by decide)]
  show Ideal.ofBits .f32 0x00000000#32 + _ = _
  rw [Ideal.ofBits_zero_f32, zero_add]
  refine Finset.sum_congr rfl fun k _ => ?_
  refine congrArg (mulf X X) (funext fun a => ?_)
  match a with
  | ⟨0, _⟩ => exact Fin.ext rfl
  | ⟨1, _⟩ => exact Fin.ext rfl
theorem sumsW_at (W : FVec Ideal S8192x32 .f32) (c : Fin 8192) : sumsW W (ix1 c) = norm2 (W : Points 8192) c := by
  unfold sumsW
  rw [hostReduceAdd_apply, Ideal.hostReduceAdd_single _ (by decide)]
  show Ideal.ofBits .f32 0x00000000#32 + _ = _
  rw [Ideal.ofBits_zero_f32, zero_add]
  refine Finset.sum_congr rfl fun k _ => ?_
  refine congrArg (mulf W W) (funext fun a => ?_)
  match a with
  | ⟨0, _⟩ => exact Fin.ext rfl
  | ⟨1, _⟩ => exact Fin.ext rfl

theorem products_at (X : FVec Ideal S16384x32 .f32) (W : FVec Ideal S8192x32 .f32) (r : Fin 16384) (c : Fin 8192) :
    products X W (ix2 r c) = ∑ k : Fin 32, X (ix2 r k) * W (ix2 c k) := by
  refine (StackMember.dotGeneral_plain_apply (m := 16384) (k := 32) (n := 8192) none X _ r c).trans ?_
  refine Finset.sum_congr rfl fun k _ => ?_
  refine congrArg (X (ix2 r k) * ·) ?_
  show transpose _ _ _ _ _ = W _
  refine congrArg W (funext fun a => ?_)
  match a with
  | ⟨0, _⟩ => rfl
  | ⟨1, _⟩ => rfl

theorem dists_at (X : FVec Ideal S16384x32 .f32) (W : FVec Ideal S8192x32 .f32) (r : Fin 16384) (c : Fin 8192) :
    dists X W (ix2 r c) = Ideal.sqrt (apart2 (X : Points 16384) (W : Points 8192) r c) := by
  have e1 := (Routing.bcRows bcast_S16384_S16384x1_0 bcast_S16384x1_S16384x8192_0_1 (sums X) r c).trans (sums_at X r)
  have e2 := (Routing.bcCols bcast_S8192_S1x8192_1 bcast_S1x8192_S16384x8192_0_1 (sumsW W) r c).trans (sumsW_at W c)
  have e3 (b : BitVec 32) : broadcastInDim S16384x8192 ![] bcast_S_S16384x8192 (constant (F := Ideal) S_ .f32 b) (ix2 r c) = Ideal.ofBits .f32 b :=
    Routing.bc0 bcast_S_S16384x8192 _ _
  have e4 (A B C D E : FVec Ideal S16384x8192 .f32) : Host.sqrt (maximumf A (subf (addf B C) (mulf D E))) (ix2 r c)
      = Ideal.sqrt (max (A (ix2 r c)) (B (ix2 r c) + C (ix2 r c) - D (ix2 r c) * E (ix2 r c))) := rfl
  unfold dists
  rw [e4, e1, e2, e3, e3, products_at, Ideal.ofBits_zero_f32, max_comm]
  rfl

/-! ## The first least place -/

theorem une_self (a : EReal) : FloatOps.cmpf (F := Ideal) (φ := .f32) .une a a = 0#1 := by
  show BitVec.ofBool (decide (a ≠ a)) = 0#1
  simp

theorem olt_iff (a b : EReal) : FloatOps.cmpf (F := Ideal) (φ := .f32) .olt a b = 1#1 ↔ a < b := by
  show (BitVec.ofBool (decide (a < b)) = 1#1) ↔ _
  by_cases h : a < b <;> simp [h]

theorem oeq_iff (a b : EReal) : FloatOps.cmpf (F := Ideal) (φ := .f32) .oeq a b = 1#1 ↔ a = b := by
  show (BitVec.ofBool (decide (a = b)) = 1#1) ↔ _
  by_cases h : a = b <;> simp [h]

theorem picks_argmin : Picks (reducer_argmin_f32_i32 (F := Ideal)) Before := by
  have key : ∀ a b : EReal × BitVec 32, (reducer_argmin_f32_i32 (F := Ideal) a b = a ∧ Before a b) ∨ (reducer_argmin_f32_i32 (F := Ideal) a b = b ∧ Before b a) := fun a b => by
    have e : reducer_argmin_f32_i32 (F := Ideal) a b
        = (Scalar.select (IntOp.ori (FloatOps.cmpf (F := Ideal) (φ := .f32) .olt a.1 b.1) (FloatOps.cmpf (F := Ideal) (φ := .f32) .une a.1 a.1)) a.1 b.1,
          Scalar.select (IntOp.ori (IntOp.ori (FloatOps.cmpf (F := Ideal) (φ := .f32) .olt a.1 b.1) (FloatOps.cmpf (F := Ideal) (φ := .f32) .une a.1 a.1))
            (IntOp.andi (FloatOps.cmpf (F := Ideal) (φ := .f32) .oeq a.1 b.1) (IntOp.cmpi .slt a.2 b.2))) a.2 b.2) := rfl
    rw [une_self] at e
    have bit : ∀ v : BitVec 1, v ≠ 1#1 → v = 0#1 := by decide
    rcases lt_trichotomy a.1 b.1 with h | h | h
    · refine Or.inl ⟨?_, Or.inl h⟩
      rw [e, (olt_iff _ _).2 h]
      generalize IntOp.andi _ _ = w
      revert w
      intro w
      have : IntOp.ori (IntOp.ori 1#1 0#1) w = 1#1 := by revert w; decide
      rw [this]; rfl
    · have h0 := bit _ fun e => absurd ((olt_iff a.1 b.1).1 e) (by rw [h]; exact lt_irrefl _)
      have h1 := (oeq_iff a.1 b.1).2 h
      rw [h0, h1] at e
      have hc : IntOp.cmpi .slt a.2 b.2 = BitVec.ofBool (decide (a.2.toInt < b.2.toInt)) := by
        rw [← BitVec.slt_eq_decide]; rfl
      by_cases hs : a.2.toInt < b.2.toInt
      · refine Or.inl ⟨?_, Or.inr ⟨h, le_of_lt hs⟩⟩
        rw [e, hc, decide_eq_true hs]
        exact Prod.ext h.symm rfl
      · refine Or.inr ⟨?_, Or.inr ⟨h.symm, not_lt.1 hs⟩⟩
        rw [e, hc, decide_eq_false hs]
        rfl
    · have h0 := bit _ fun e => absurd ((olt_iff a.1 b.1).1 e) (not_lt.2 (le_of_lt h))
      have h1 := bit _ fun e => absurd ((oeq_iff a.1 b.1).1 e) (ne_of_gt h)
      refine Or.inr ⟨?_, Or.inl h⟩
      rw [e, h0, h1]
      generalize IntOp.cmpi .slt a.2 b.2 = w
      have : IntOp.ori (IntOp.ori 0#1 0#1) (IntOp.andi 0#1 w) = 0#1 := by revert w; decide
      rw [this]; rfl
  have refl : ∀ a : EReal × BitVec 32, Before a a := fun a => Or.inr ⟨rfl, le_refl _⟩
  refine ⟨refl, ?_, fun a b => ?_, fun a b => ?_, fun a b => ?_⟩
  · rintro a b c (h | ⟨h, h'⟩) (g | ⟨g, g'⟩)
    · exact Or.inl (h.trans g)
    · exact Or.inl (g ▸ h)
    · exact Or.inl (h ▸ g)
    · exact Or.inr ⟨h.trans g, h'.trans g'⟩
  · rcases key a b with ⟨e, -⟩ | ⟨e, -⟩
    · exact Or.inl e
    · exact Or.inr e
  · rcases key a b with ⟨e, g⟩ | ⟨e, g⟩
    · rw [e]; exact refl a
    · rw [e]; exact g
  · rcases key a b with ⟨e, g⟩ | ⟨e, g⟩
    · rw [e]; exact g
    · rw [e]; exact refl b

section Rows
variable {R C : Nat} {α β : Type}

/-- The pairs folded for row `r` are the row's. -/
theorem mem_fiber (x : (⟨2, ![R, C]⟩ : Shape).Idx → α) (y : (⟨2, ![R, C]⟩ : Shape).Idx → β)
    (h : (⟨2, ![R, C]⟩ : Shape).ReducesTo [1] ⟨1, ![R]⟩) (r : Fin R) (p : α × β) :
    p ∈ Host.argReduceFiber x y h (ix1 r) ↔ ∃ k : Fin C, p = (x (ix2 r k), y (ix2 r k)) := by
  have hd (i : (⟨2, ![R, C]⟩ : Shape).Idx) : h.drop i = ix1 (i 0) := by
    funext a
    obtain rfl : a = 0 := Subsingleton.elim _ _
    exact Fin.ext rfl
  unfold Host.argReduceFiber
  simp only [List.mem_map, List.mem_filter, List.mem_finRange, true_and, decide_eq_true_eq]
  constructor
  · rintro ⟨n, hn, rfl⟩
    generalize (⟨2, ![R, C]⟩ : Shape).rowMajor.symm n = i at hn
    rw [hd] at hn
    have h0 : i 0 = r := congrFun hn 0
    obtain ⟨a, b, rfl⟩ : ∃ a b, i = ix2 a b := ⟨i 0, i 1, eq_ix2 i⟩
    obtain rfl : a = r := h0
    exact ⟨b, rfl⟩
  · rintro ⟨k, rfl⟩
    refine ⟨(⟨2, ![R, C]⟩ : Shape).rowMajor (ix2 r k), ?_, ?_⟩
    · rw [Equiv.symm_apply_apply, hd]; rfl
    · rw [Equiv.symm_apply_apply]

end Rows

section First
variable {R : Nat}

/-- Folding a row's (value, column) pairs from (⊤, 0) ends at the row's first least column. -/
theorem first_at (D : FVec Ideal ⟨2, ![R, 8192]⟩ .f32) (ids : IVec ⟨2, ![R, 8192]⟩ 32) (top : FVec Ideal S_ .f32) (zero : IVec S_ 32)
    (hids : ∀ (r : Fin R) (c : Fin 8192), ids (ix2 r c) = BitVec.ofNat 32 c.val) (ht : ∀ i, top i = (⊤ : EReal)) (hz : ∀ i, zero i = 0#32)
    (h : (⟨2, ![R, 8192]⟩ : Shape).ReducesTo [1] ⟨1, ![R]⟩) (hu : 0 < S_.numel) (r : Fin R) :
    Nearest (fun c : Fin 8192 => D (ix2 r c)) (seconds (Host.argReduce reducer_argmin_f32_i32 D ids top zero h hu) (ix1 r)) := by
  have e : Host.argReduce reducer_argmin_f32_i32 D ids top zero h hu (ix1 r)
      = (Host.argReduceFiber D ids h (ix1 r)).foldl reducer_argmin_f32_i32 ((⊤ : EReal), 0#32) := by
    rw [Ideal.argReduce_eq_reduce2, Host.reduce2_eq_foldl_fiber, ht, hz]
  unfold seconds
  rw [e]
  refine pairs_nearest picks_argmin (fun c : Fin 8192 => D (ix2 r c)) _ fun p => ?_
  refine (mem_fiber D ids h r p).trans (exists_congr fun k => ?_)
  rw [hids]

end First

theorem inf_at (i : S_.Idx) : constant (F := Ideal) S_ .f32 0x7F800000#32 i = (⊤ : EReal) :=
  show Ideal.ofBits .f32 0x7F800000#32 = ⊤ by simp [Ideal.ofBits, Ideal.ieee]

/-- Row `r`'s first least place. -/
theorem firsts_at (D : FVec Ideal S16384x8192 .f32) (r : Fin 16384) : Nearest (fun c : Fin 8192 => D (ix2 r c)) (firsts D (ix1 r)) := by
  unfold firsts
  exact first_at D _ _ _ (fun _ _ => rfl) inf_at (fun _ => rfl) reducesTo_S16384x8192_S16384_d1 h_S_ r

/-- Row `r`'s winner is the first neuron nearest to point `r`. -/
theorem winners_at (X : FVec Ideal S16384x32 .f32) (W : FVec Ideal S8192x32 .f32) (r : Fin 16384) :
    Nearest (fun c : Fin 8192 => Ideal.sqrt (apart2 (X : Points 16384) (W : Points 8192) r c)) (winners X W (ix1 r)) := by
  have h := firsts_at (dists X W) r
  have e : (fun c : Fin 8192 => dists X W (ix2 r c)) = fun c => Ideal.sqrt (apart2 (X : Points 16384) (W : Points 8192) r c) :=
    funext fun c => dists_at X W r c
  rwa [e] at h

/-! ## What the precondition says -/

section Finite
variable {s : Shape} {axes : List (Fin s.rank)}

/-- The conjunction of all of an array's bits is one only if each is. -/
theorem all_ones (x : IVec s 1) (v : IVec S_ 1) (h : s.ReducesTo axes S_) (hu : 0 < S_.numel) (j : S_.Idx)
    (e : Host.reduce IntOp.andi x v h hu j = 1#1) (i : s.Idx) : x i = 1#1 := by
  have hp : Picks (IntOp.andi (w := 1)) (fun a b => a = 1#1 → b = 1#1) := by
    refine ⟨fun _ e => e, fun f g e => g (f e), ?_, ?_, ?_⟩ <;> decide
  rw [Host.reduce_eq_foldl] at e
  rw [← List.foldl_map] at e
  refine (foldl_picks hp _ _).2.2 (x i) ?_ e
  refine List.mem_map.2 ⟨i, List.mem_filter.2 ⟨List.mem_map.2 ⟨s.rowMajor i, List.mem_finRange _, Equiv.symm_apply_apply _ _⟩, ?_⟩, rfl⟩
  exact decide_eq_true (funext fun a => a.elim0)

/-- An array whose absolute values are all below infinity holds real numbers. -/
theorem real_of_below (X : FVec Ideal s .f32) (b : S_.BroadcastsInDim s (![] : Fin 0 → Fin s.rank)) (v : IVec S_ 1) (h : s.ReducesTo axes S_)
    (hu : 0 < S_.numel) (j : S_.Idx)
    (e : Host.reduce IntOp.andi (cmpf .olt (Host.absf X) (broadcastInDim s ![] b (constant (F := Ideal) S_ .f32 0x7F800000#32))) v h hu j = 1#1)
    (i : s.Idx) : IsReal (X i) := by
  have h1 := all_ones _ v h hu j e i
  refine isReal_of_abs_lt ?_
  rw [← inf_at (Shape.Idx.first hu)]
  exact (olt_iff _ _).1 h1

end Finite

/-- Under the precondition the points and the neurons hold real numbers. -/
theorem real_of_finite (X : FVec Ideal S16384x32 .f32) (W : FVec Ideal S8192x32 .f32) (G : FVec Ideal S10x8192 .f32)
    (h : Cert.Pre_points_finite.fn (F := Ideal) X W G = fun _ => 1#1) : (∀ i, IsReal (X i)) ∧ ∀ i, IsReal (W i) := by
  have h0 := congrFun h (Shape.Idx.first h_S_)
  have both : ∀ a b : BitVec 1, IntOp.andi a b = 1#1 → a = 1#1 ∧ b = 1#1 := by decide
  obtain ⟨h1, h2⟩ := both _ _ h0
  exact ⟨real_of_below X _ _ _ _ _ h1, real_of_below W _ _ _ _ _ h2⟩

end Cert.Proof.Whole.Reference

end
-- ==== Proof.lean ====
module

public import proofs.«01_k».proof.Defs
public import proofs.«01_k».proof.Proof.Gen.Decode
public import proofs.«01_k».proof.Proof.Gen.Decode.Skeleton
public import proofs.«01_k».proof.Proof.Gen.DecodeIdeal
public import proofs.«01_k».proof.Proof.Gen.DecodeIdeal.Skeleton
public import proofs.«01_k».proof.Proof.Gen.OneHotIdeal
public import proofs.«01_k».proof.Proof.Gen.Rows
public import proofs.«01_k».proof.Proof.Gen.Pre_winners_in_range
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_points_finite
public import proofs.«01_k».proof.Proof.Value
public import proofs.«01_k».proof.Proof.RefRows
public import proofs.«01_k».proof.Proof.RefOneHot
public import proofs.«01_k».proof.Proof.Whole.Values
public import proofs.«01_k».proof.Proof.Whole.Reference
public import Idealize.ShloMosaic.Adequacy
public import Idealize.ShloMosaic.Init

@[expose] public section

noncomputable section

namespace Cert.Proof

open Idealize.ShloMosaic Idealize.SL.Sem

/-- The printed program's run, from the idealized program's: the two modules are one text. -/
theorem decode_run (m : (ℓ : Loc Cert.Decode.nD Cert.Decode.τ Cert.Decode.sig) → Buf (Elt Bits) ℓ) (ρ : Dev Cert.Decode.nD → PrngReg)
    (h : Gather.AllInRange (F := Bits) m) :
    θ_run (Cert.Decode.defs (F := Bits)) (Cert.Decode.threads (F := Bits)) ⟨m, fun _ => 0, ρ⟩ (Gather.Ends (F := Bits) m) :=
  Gather.run_main (F := Bits) m ρ h

theorem frame_p : Cert.quiescent_Decode := fun m ρ hp =>
  (θ_run Cert.Decode.defs _ _).mono (fun _ h => ⟨fun c => (h.1 c).2, h.2⟩)
    (decode_run m ρ (Gather.allInRange (F := Bits) m fun d => Gather.named_of_pre _ _ (hp d)))

theorem frame_pi : Cert.quiescent_DecodeIdeal := fun m ρ hp =>
  (θ_run Cert.DecodeIdeal.defs _ _).mono (fun _ h => ⟨fun c => (h.1 c).2, h.2⟩)
    (Gather.run_main (F := Ideal) m ρ (Gather.allInRange (F := Ideal) m fun d => Gather.named_of_pre _ _ (hp d)))

theorem frame_ri : Cert.quiescent_OneHotIdeal := fun m ρ _ =>
  (θ_run Cert.OneHotIdeal.defs _ _).mono (fun r h => ⟨fun c => (h c).2, sem_eq_zero_of_no_sems (by decide) r.2⟩)
    (RefOneHot.run_main m ρ)

theorem frame_ri_pre : Cert.quiescent_OneHotIdeal_pre_winners_in_range := fun m ρ _ => frame_ri m ρ trivial

theorem frame_g : Cert.quiescent_Rows := fun m ρ _ =>
  (θ_run Cert.Rows.defs _ _).mono (fun r h => ⟨fun c => (h c).2, sem_eq_zero_of_no_sems (by decide) r.2⟩)
    (RefRows.run_main (F := Bits) m ρ)

/-- Idealized, the gather and the product with the one-hot matrix both yield the chosen weights. -/
theorem algebraic : Cert.algebraic_DecodeIdeal_OneHotIdeal := by
  intro m ρ m' ρ' hp hagree
  have named (d : Dev Cert.DecodeIdeal.nD) : Named (m (Gather.aLoc d)) := Gather.named_of_pre _ _ (hp d)
  refine ⟨fun d => chosen (m (Gather.aLoc d)) (m (Gather.bLoc d)), ?_, ?_⟩
  · exact (θ_run Cert.DecodeIdeal.defs _ _).mono
      (fun _ h c => ⟨(h.1 c).1.trans (Gather.resultOf_eq (F := Ideal) m c), (h.1 c).2⟩)
      (Gather.run_main (F := Ideal) m ρ (Gather.allInRange (F := Ideal) m named))
  · refine (θ_run Cert.OneHotIdeal.defs _ _).mono (fun _ h c => ⟨(h c).1.trans ?_, (h c).2⟩) (RefOneHot.run_main m' ρ')
    rw [(hagree c).1, (hagree c).2]
    exact RefOneHot.term_eq _ _ (named c)

/-- As printed, the gather and the rows read at the winners are the chosen weights, bit for bit. -/
theorem bitexact : Cert.bitexact_Decode_Rows := by
  intro m ρ m' ρ' hp hagree
  have named (d : Dev Cert.DecodeIdeal.nD) : Named (m (Gather.aLoc d)) := Gather.named_of_pre _ _ (hp d)
  refine ⟨fun d => chosen (m (Gather.aLoc d)) (m (Gather.bLoc d)), ?_, ?_⟩
  · exact (θ_run Cert.Decode.defs _ _).mono
      (fun _ h c => ⟨(h.1 c).1.trans (Gather.resultOf_eq (F := Bits) m c), (h.1 c).2⟩)
      (decode_run m ρ (Gather.allInRange (F := Bits) m named))
  · refine (θ_run Cert.Rows.defs _ _).mono (fun _ h c => ⟨(h c).1.trans ?_, (h c).2⟩) (RefRows.run_main (F := Bits) m' ρ')
    rw [(hagree c).1, (hagree c).2]
    exact RefRows.term_eq _ _ (named c)

/-- The whole kernel's run: every winner names a neuron, so no precondition is needed. -/
theorem whole_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (Whole.Ends (F := Ideal) m) :=
  Whole.run_main (F := Ideal) m ρ (Whole.allInRange m fun d => Whole.won_named m d)

theorem frame_k : Cert.quiescent_KernelIdeal := fun m ρ _ =>
  (θ_run Cert.KernelIdeal.defs _ _).mono (fun _ h => ⟨fun c => (h.1 c).2.2, h.2⟩) (whole_run m ρ)

theorem frame_k_pre : Cert.quiescent_KernelIdeal_pre_points_finite := fun m ρ _ => frame_k m ρ trivial

theorem frame_r : Cert.quiescent_ReferenceIdeal := fun m ρ _ =>
  (θ_run Cert.ReferenceIdeal.defs _ _).mono (fun r h => ⟨fun c => (h c).2.2, sem_eq_zero_of_no_sems (by decide) r.2⟩)
    (Whole.Reference.run_main m ρ)

theorem frame_r_pre : Cert.quiescent_ReferenceIdeal_pre_points_finite := fun m ρ _ => frame_r m ρ trivial

/-- On finite points and neurons the reference's winners are the kernel's: the first nearest neuron is one. -/
theorem same_winners (m : (ℓ : Loc Cert.KernelIdeal.nD Cert.KernelIdeal.τ Cert.KernelIdeal.sig) → Buf (Elt Ideal) ℓ) (hp : Cert.Pre_KernelIdeal_points_finite m)
    (d : Dev Cert.KernelIdeal.nD) : Whole.Reference.winners (m (Whole.aLoc d)) (m (Whole.bLoc d)) = Whole.wonBy m d := by
  obtain ⟨hX, hW⟩ := Whole.Reference.real_of_finite _ _ _ (hp d)
  funext j
  obtain ⟨r, rfl⟩ : ∃ r : Fin 16384, j = ValueIdx.ix1 r := ⟨j 0, ValueIdx.eq_ix1 j⟩
  have h := Whole.won_nearest m d r
  have e : (fun c : Fin 8192 => far (apart2 (Whole.pts m d) (Whole.book m d) r c)) = fun c => Ideal.sqrt (apart2 (Whole.pts m d) (Whole.book m d) r c) :=
    funext fun c => far_apart2 _ _ hX hW r c
  rw [e] at h
  exact (Whole.Reference.winners_at _ _ r).unique h

/-- Idealized, the whole kernel and the whole reference yield the same winners and the same weights. -/
theorem whole : Cert.algebraic_KernelIdeal_ReferenceIdeal_pre_points_finite := by
  intro m ρ m' ρ' hp hagree
  refine ⟨fun d => chosen (Whole.wonBy m d) (m (Whole.gLoc d)), fun d => Whole.wonBy m d, ?_, ?_⟩
  · exact (θ_run Cert.KernelIdeal.defs _ _).mono
      (fun _ h c => ⟨(h.1 c).1.trans (Whole.resultOf_eq m c), (h.1 c).2⟩) (whole_run m ρ)
  · refine (θ_run Cert.ReferenceIdeal.defs _ _).mono (fun _ h c => ⟨(h c).1.trans ?_, (h c).2.1.trans ?_, (h c).2.2⟩) (Whole.Reference.run_main m' ρ')
    · rw [(hagree c).1, (hagree c).2.1, (hagree c).2.2]
      refine (congrArg (fun w => RefOneHot.term w _) (same_winners m hp c)).trans ?_
      exact RefOneHot.term_eq _ _ (Whole.won_named m c)
    · rw [(hagree c).1, (hagree c).2.1]
      exact same_winners m hp c

theorem claim : Cert.Claim := ⟨Cert.KernelIdeal.Gen.facts, Cert.ReferenceIdeal.Gen.facts, Cert.Decode.Gen.facts, Cert.DecodeIdeal.Gen.facts, Cert.OneHotIdeal.Gen.facts,
  Cert.Rows.Gen.facts, Cert.Pre_points_finite.Gen.facts, Cert.Pre_winners_in_range.Gen.facts,
  frame_k, frame_k_pre, frame_r, frame_r_pre, frame_p, frame_pi, frame_ri, frame_ri_pre, frame_g, whole, trivial, algebraic, bitexact⟩

end Cert.Proof

end
